-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v102_0)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v102_2)) (v3 : (c : Dev Cert.KernelIdeal.nD) → Buf (Elt Ideal) ((c.tc : Thread Cert.KernelIdeal.nD Cert.KernelIdeal.τ).loc Cert.KernelIdeal.main_v102_3)) (v4 : (c : Dev Cert.KernelIdeal.nD) → Buf (Elt Ideal) ((c.tc : Thread Cert.KernelIdeal.nD Cert.KernelIdeal.τ).loc Cert.KernelIdeal.main_v102_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v102_2) = v2 c
          ∧ r.2.mem ((c.tc : Thread Cert.KernelIdeal.nD Cert.KernelIdeal.τ).loc Cert.KernelIdeal.main_v102_3) = v3 c
          ∧ r.2.mem ((c.tc : Thread Cert.KernelIdeal.nD Cert.KernelIdeal.τ).loc Cert.KernelIdeal.main_v102_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x1024 : Shape := ⟨2, ![8192, 1024]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x1024 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x8 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Kernel.lean ====
abbrev S8192x1024 : Shape := ⟨2, ![8192, 1024]⟩
abbrev S8192x8 : Shape := ⟨2, ![8192, 8]⟩
abbrev S8192x8x128 : Shape := ⟨3, ![8192, 8, 128]⟩
abbrev S_ : Shape := ⟨0, ![]⟩
abbrev S8192x8x1 : Shape := ⟨3, ![8192, 8, 1]⟩
abbrev S8192x8x256 : Shape := ⟨3, ![8192, 8, 256]⟩
abbrev S8192x2048 : Shape := ⟨2, ![8192, 2048]⟩
abbrev S8x8192x128 : Shape := ⟨3, ![8, 8192, 128]⟩
abbrev S8x8192 : Shape := ⟨2, ![8, 8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x128 : Shape := ⟨2, ![8192, 128]⟩
abbrev S8x8x1x1024 : Shape := ⟨4, ![8, 8, 1, 1024]⟩
abbrev S1024x256 : Shape := ⟨2, ![1024, 256]⟩
abbrev S1024x128 : Shape := ⟨2, ![1024, 128]⟩
abbrev S1x1024x1 : Shape := ⟨3, ![1, 1024, 1]⟩
abbrev S8192x256 : Shape := ⟨2, ![8192, 256]⟩
abbrev S1x8x1x1024 : Shape := ⟨4, ![1, 8, 1, 1024]⟩
abbrev S1024x1 : Shape := ⟨2, ![1024, 1]⟩
abbrev S1024 : Shape := ⟨1, ![1024]⟩
abbrev S1024x1024 : Shape := ⟨2, ![1024, 1024]⟩
abbrev S1x1x1x1024 : Shape := ⟨4, ![1, 1, 1, 1024]⟩
abbrev S1x1024 : Shape := ⟨2, ![1, 1024]⟩
abbrev S1024x512 : Shape := ⟨2, ![1024, 512]⟩
abbrev S512x256 : Shape := ⟨2, ![512, 256]⟩
abbrev S512x128 : Shape := ⟨2, ![512, 128]⟩
abbrev S1x1x1x512 : Shape := ⟨4, ![1, 1, 1, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩

abbrev nBuf : Space → Nat
  | .hbm => 154
  | .vmem => 23
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x8, .f32⟩
  | 4 => ⟨S8192x1024, .f32⟩
  | 5 => ⟨S8192x8x128, .i32⟩
  | 6 => ⟨S_, .f32⟩
  | 7 => ⟨S_, .f32⟩
  | 8 => ⟨S_, .f32⟩
  | 9 => ⟨S_, .f32⟩
  | 10 => ⟨S8192x8, .f32⟩
  | 11 => ⟨S8192x8, .f32⟩
  | 12 => ⟨S8192x8x1, .f32⟩
  | 13 => ⟨S8192x8x1, .bf16⟩
  | 14 => ⟨S8192x8x1, .f32⟩
  | 15 => ⟨S8192x8x1, .f32⟩
  | 16 => ⟨S8192x8x1, .bf16⟩
  | 17 => ⟨S8192x8x1, .f32⟩
  | 18 => ⟨S8192x8x1, .f32⟩
  | 19 => ⟨S8192x8x1, .f32⟩
  | 20 => ⟨S_, .i32⟩
  | 21 => ⟨S8192x8x128, .i32⟩
  | 22 => ⟨S8192x8x128, .i1⟩
  | 23 => ⟨S_, .i32⟩
  | 24 => ⟨S8192x8x128, .i32⟩
  | 25 => ⟨S8192x8x128, .i1⟩
  | 26 => ⟨S_, .i32⟩
  | 27 => ⟨S8192x8x128, .i32⟩
  | 28 => ⟨S8192x8x128, .i1⟩
  | 29 => ⟨S_, .i32⟩
  | 30 => ⟨S8192x8x128, .i32⟩
  | 31 => ⟨S8192x8x128, .i1⟩
  | 32 => ⟨S_, .f32⟩
  | 33 => ⟨S_, .f32⟩
  | 34 => ⟨S8192x8x128, .f32⟩
  | 35 => ⟨S8192x8x128, .f32⟩
  | 36 => ⟨S8192x8x128, .f32⟩
  | 37 => ⟨S8192x8x128, .f32⟩
  | 38 => ⟨S8192x8x128, .f32⟩
  | 39 => ⟨S8192x8x128, .f32⟩
  | 40 => ⟨S8192x8x128, .f32⟩
  | 41 => ⟨S8192x8x128, .f32⟩
  | 42 => ⟨S8192x8x128, .f32⟩
  | 43 => ⟨S8192x8x128, .f32⟩
  | 44 => ⟨S_, .i32⟩
  | 45 => ⟨S8192x8x128, .i32⟩
  | 46 => ⟨S8192x8x128, .i1⟩
  | 47 => ⟨S_, .i32⟩
  | 48 => ⟨S8192x8x128, .i32⟩
  | 49 => ⟨S8192x8x128, .i1⟩
  | 50 => ⟨S8192x8x1, .f32⟩
  | 51 => ⟨S_, .i32⟩
  | 52 => ⟨S8192x8x128, .i32⟩
  | 53 => ⟨S8192x8x128, .i1⟩
  | 54 => ⟨S8192x8x1, .f32⟩
  | 55 => ⟨S_, .i32⟩
  | 56 => ⟨S8192x8x128, .i32⟩
  | 57 => ⟨S8192x8x128, .i1⟩
  | 58 => ⟨S8192x8x1, .f32⟩
  | 59 => ⟨S_, .f32⟩
  | 60 => ⟨S_, .f32⟩
  | 61 => ⟨S8192x8x128, .f32⟩
  | 62 => ⟨S8192x8x128, .f32⟩
  | 63 => ⟨S8192x8x128, .f32⟩
  | 64 => ⟨S8192x8x128, .f32⟩
  | 65 => ⟨S8192x8x128, .f32⟩
  | 66 => ⟨S8192x8x128, .f32⟩
  | 67 => ⟨S8192x8x128, .f32⟩
  | 68 => ⟨S_, .f32⟩
  | 69 => ⟨S_, .f32⟩
  | 70 => ⟨S8192x8x128, .f32⟩
  | 71 => ⟨S8192x8x128, .f32⟩
  | 72 => ⟨S8192x8x128, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8192x8x128, .f32⟩
  | 80 => ⟨S8192x8x128, .f32⟩
  | 81 => ⟨S8192x8x128, .bf16⟩
  | 82 => ⟨S8192x8x128, .bf16⟩
  | 83 => ⟨S8192x8x256, .bf16⟩
  | 84 => ⟨S8192x8x128, .f32⟩
  | 85 => ⟨S8192x8x128, .bf16⟩
  | 86 => ⟨S8192x8x128, .bf16⟩
  | 87 => ⟨S8192x8x256, .bf16⟩
  | 88 => ⟨S8192x2048, .bf16⟩
  | 89 => ⟨S8192x2048, .bf16⟩
  | 90 => ⟨S8192x8x128, .f32⟩
  | 91 => ⟨S8x8192x128, .f32⟩
  | 92 => ⟨S8192x8x128, .f32⟩
  | 93 => ⟨S8x8192x128, .f32⟩
  | 94 => ⟨S8192x8x128, .f32⟩
  | 95 => ⟨S8x8192x128, .f32⟩
  | 96 => ⟨S8x8192, .f32⟩
  | 97 => ⟨S8x8192x8192, .f32⟩
  | 98 => ⟨S_, .f32⟩
  | 99 => ⟨S8x8192x8192, .f32⟩
  | 100 => ⟨S8x8192x8192, .f32⟩
  | 101 => ⟨S8x8192x1, .f32⟩
  | 102 => ⟨S8x1x8192, .f32⟩
  | 103 => ⟨S8x8192x8192, .f32⟩
  | 104 => ⟨S8x8192x8192, .f32⟩
  | 105 => ⟨S8x8192x8192, .f32⟩
  | 106 => ⟨S8x8192x8192, .f32⟩
  | 107 => ⟨S8192, .i32⟩
  | 108 => ⟨S1x8192, .i32⟩
  | 109 => ⟨S8192x1, .i32⟩
  | 110 => ⟨S8192x8192, .i32⟩
  | 111 => ⟨S8192x8192, .i32⟩
  | 112 => ⟨S8192x8192, .i1⟩
  | 113 => ⟨S_, .f32⟩
  | 114 => ⟨S_, .f32⟩
  | 115 => ⟨S8x8192x8192, .i1⟩
  | 116 => ⟨S8x8192x8192, .f32⟩
  | 117 => ⟨S8x8192x8192, .f32⟩
  | 118 => ⟨S_, .f32⟩
  | 119 => ⟨S8x8192, .f32⟩
  | 120 => ⟨S8x8192x1, .f32⟩
  | 121 => ⟨S8x8192x8192, .f32⟩
  | 122 => ⟨S8x8192x8192, .f32⟩
  | 123 => ⟨S8x8192x8192, .f32⟩
  | 124 => ⟨S_, .f32⟩
  | 125 => ⟨S8x8192, .f32⟩
  | 126 => ⟨S8x8192x1, .f32⟩
  | 127 => ⟨S8x8192x8192, .f32⟩
  | _ => ⟨S8192x1024, .f32⟩

abbrev hbmTy0_1 (i : Nat) : BufTy := match i % 128 with
  | 0 => ⟨S8x8192x8192, .f32⟩
  | 1 => ⟨S8x8192x128, .f32⟩
  | 2 => ⟨S8192x8x128, .f32⟩
  | 3 => ⟨S8x8192x128, .f32⟩
  | 4 => ⟨S8x8192x128, .f32⟩
  | 5 => ⟨S_, .f32⟩
  | 6 => ⟨S8x8192, .f32⟩
  | 7 => ⟨S8192x8, .f32⟩
  | 8 => ⟨S8x8192x1, .f32⟩
  | 9 => ⟨S8x8192x1, .f32⟩
  | 10 => ⟨S_, .f32⟩
  | 11 => ⟨S_, .f32⟩
  | 12 => ⟨S_, .f32⟩
  | 13 => ⟨S_, .f32⟩
  | 14 => ⟨S8x8192x1, .f32⟩
  | 15 => ⟨S8x8192x1, .f32⟩
  | 16 => ⟨S_, .i32⟩
  | 17 => ⟨S_, .f32⟩
  | 18 => ⟨S8192x128, .f32⟩
  | 19 => ⟨S8192x1024, .bf16⟩
  | 20 => ⟨S8192x1024, .bf16⟩
  | 21 => ⟨S8192x1024, .f32⟩
  | 22 => ⟨S8192x1024, .f32⟩
  | 23 => ⟨S8192x1024, .bf16⟩
  | 24 => ⟨S8x8x1x1024, .f32⟩
  | 25 => ⟨S8x8192x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1x1024x1, .f32⟩
  | .local _ .vmem, ⟨5, _⟩ => ⟨S1x1024x1, .f32⟩
  | .local _ .vmem, ⟨6, _⟩ => ⟨S1024x128, .f32⟩
  | .local _ .vmem, ⟨7, _⟩ => ⟨S1024x128, .f32⟩
  | .local _ .vmem, ⟨8, _⟩ => ⟨S8192x256, .bf16⟩
  | .local _ .vmem, ⟨9, _⟩ => ⟨S8192x256, .bf16⟩
  | .local _ .vmem, ⟨10, _⟩ => ⟨S8192x128, .bf16⟩
  | .local _ .vmem, ⟨11, _⟩ => ⟨S8192x128, .bf16⟩
  | .local _ .vmem, ⟨12, _⟩ => ⟨S1024x128, .f32⟩
  | .local _ .vmem, ⟨13, _⟩ => ⟨S1024x128, .f32⟩
  | .local _ .vmem, ⟨14, _⟩ => ⟨S8192x128, .f32⟩
  | .local _ .vmem, ⟨15, _⟩ => ⟨S8192x128, .f32⟩
  | .local _ .vmem, ⟨16, _⟩ => ⟨S8192x128, .bf16⟩
  | .local _ .vmem, ⟨17, _⟩ => ⟨S8192x128, .bf16⟩
  | .local _ .vmem, ⟨18, _⟩ => ⟨S1x8x1x1024, .f32⟩
  | .local _ .vmem, ⟨19, _⟩ => ⟨S1x8x1x1024, .f32⟩
  | .local _ .vmem, ⟨20, _⟩ => ⟨S1x1024x1, .f32⟩
  | .local _ .vmem, ⟨21, _⟩ => ⟨S1x1024x1, .f32⟩
  | .local _ .vmem, ⟨22, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_call2_v0 : Ref sig .tc := ⟨.hbm, 40, rfl⟩
abbrev main_v23 : Ref sig .tc := ⟨.hbm, 41, rfl⟩
abbrev main_call3_v0 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v36 : Ref sig .tc := ⟨.hbm, 63, rfl⟩
abbrev main_call5_v0 : Ref sig .tc := ⟨.hbm, 64, rfl⟩
abbrev main_v37 : Ref sig .tc := ⟨.hbm, 65, rfl⟩
abbrev main_call6_v0 : Ref sig .tc := ⟨.hbm, 66, rfl⟩
abbrev main_v38 : Ref sig .tc := ⟨.hbm, 67, rfl⟩
abbrev main_cst_11 : Ref sig .tc := ⟨.hbm, 68, rfl⟩
abbrev main_call7_v0 : Ref sig .tc := ⟨.hbm, 69, rfl⟩
abbrev main_call7_v1 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_cst_13 : Ref sig .tc := ⟨.hbm, 75, rfl⟩
abbrev main_v42 : Ref sig .tc := ⟨.hbm, 76, rfl⟩
abbrev main_cst_14 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_call8_v0 : Ref sig .tc := ⟨.hbm, 114, rfl⟩
abbrev main_call8_v1 : Ref sig .tc := ⟨.hbm, 115, rfl⟩
abbrev main_call8_v2 : Ref sig .tc := ⟨.hbm, 116, rfl⟩
abbrev main_v77 : Ref sig .tc := ⟨.hbm, 117, rfl⟩
abbrev main_cst_17 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_22 : Ref sig .tc := ⟨.hbm, 144, rfl⟩
abbrev main_call9_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102_0 : Ref sig .tc := ⟨.hbm, 149, rfl⟩
abbrev main_v102_1 : Ref sig .tc := ⟨.hbm, 150, rfl⟩
abbrev main_v102_2 : Ref sig .tc := ⟨.hbm, 151, rfl⟩
abbrev main_v102_3 : Ref sig .tc := ⟨.hbm, 152, rfl⟩
abbrev main_v102_4 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_9 : BitVec 32 := 1#32
  ⟨c0_i32_8, v20, c1_i32_9⟩
def k0_mult1 (i : grid0.Coords) (k0_t1 : Fin (k0_t1_loop i).trips) : BitVec 32 :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  v167
def k0_off1 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v173 : Index := Scalar.indexCast v168
  let c0_78 : Index := 0#32
  ![v173.toNat, 0]
def k0_off2 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v180 : Index := Scalar.indexCast v168
  let c0_80 : Index := 0#32
  ![v180.toNat, 0]
def k0_off3 (i : grid0.Coords) (k0_t1 : Fin (k0_t1_loop i).trips) : Fin 4 → Nat :=
  let c0_90 : Index := 0#32
  let c0_i32_8 : BitVec 32 := 0#32
  let c1_i32_9 : BitVec 32 := 1#32
  let arg14 : BitVec 32 := Scf.iv c0_i32_8 c1_i32_9 k0_t1
  let v206 : Index := Scalar.indexCast arg14
  let c0_91 : Index := 0#32
  let c0_92 : Index := 0#32
  ![0, v206.toNat, 0, 0]
def k0_off4 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v218 : Index := Scalar.indexCast v168
  let c0_98 : Index := 0#32
  ![v218.toNat, 0]
@[reducible] def k0_t2_loop (i : grid0.Coords) : Scf.Loop 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let v17 : BitVec 32 := Scalar.addi c0_i32_8 v16
  let c1_i32_10 : BitVec 32 := 1#32
  ⟨v20, v17, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  v167
def k0_off5 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v173 : Index := Scalar.indexCast v168
  let c0_78 : Index := 0#32
  ![v173.toNat, 0]
def k0_off6 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v180 : Index := Scalar.indexCast v168
  let c0_80 : Index := 0#32
  ![v180.toNat, 0]
def k0_off7 (i : grid0.Coords) (k0_t2 : Fin (k0_t2_loop i).trips) : Fin 4 → Nat :=
  let c0_90 : Index := 0#32
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let v206 : Index := Scalar.indexCast arg14
  let c0_91 : Index := 0#32
  let c0_92 : Index := 0#32
  ![0, v206.toNat, 0, 0]
def k0_off8 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v218 : Index := Scalar.indexCast v168
  let c0_98 : Index := 0#32
  ![v218.toNat, 0]
def k0_mult3 (i : grid0.Coords) : BitVec 32 :=
  let arg1 : BitVec 32 := BitVec.ofNat 32 (i 1).val
  let c1024_i32 : BitVec 32 := 1024#32
  let v23 : BitVec 32 := Scalar.muli arg1 c1024_i32
  v23
def k0_off9 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v32 : Index := Scalar.indexCast v24
  let c0_15 : Index := 0#32
  ![v32.toNat, 0]
def k0_off10 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v41 : Index := Scalar.indexCast v24
  let c0_18 : Index := 0#32
  ![v41.toNat, 0]
def k0_off11 (i : grid0.Coords) : Fin 4 → Nat :=
  let c0_28 : Index := 0#32
  let arg1 : BitVec 32 := BitVec.ofNat 32 (i 1).val
  let v67 : Index := Scalar.indexCast arg1
  let c0_29 : Index := 0#32
  let c0_30 : Index := 0#32
  ![0, v67.toNat, 0, 0]
def k0_off12 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v79 : Index := Scalar.indexCast v24
  let c0_36 : Index := 0#32
  ![v79.toNat, 0]
def k0_mult4 (i : grid0.Coords) : BitVec 32 :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  v88
def k0_off13 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v99 : Index := Scalar.indexCast v89
  let c0_43 : Index := 0#32
  ![v99.toNat, 0]
def k0_off14 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v109 : Index := Scalar.indexCast v89
  let c0_46 : Index := 0#32
  ![v109.toNat, 0]
def k0_off15 (i : grid0.Coords) : Fin 4 → Nat :=
  let c0_56 : Index := 0#32
  let arg1 : BitVec 32 := BitVec.ofNat 32 (i 1).val
  let v136 : Index := Scalar.indexCast arg1
  let c0_57 : Index := 0#32
  let c512_58 : Index := 512#32
  ![0, v136.toNat, 0, 512]
def k0_off16 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v148 : Index := Scalar.indexCast v89
  let c0_64 : Index := 0#32
  ![v148.toNat, 0]
def k0_cond2 (i : grid0.Coords) : BitVec 1 :=
  let arg1 : BitVec 32 := BitVec.ofNat 32 (i 1).val
  let c7_i32 : BitVec 32 := 7#32
  let v164 : BitVec 1 := Scalar.cmpi .eq arg1 c7_i32
  let v165 : BitVec 32 := Scalar.extui v164
  let c0_i32_72 : BitVec 32 := 0#32
  let v166 : BitVec 1 := Scalar.cmpi .ne v165 c0_i32_72
  v166

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x1024 : Shape := ⟨2, ![8192, 1024]⟩
abbrev S8192x8 : Shape := ⟨2, ![8192, 8]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8x1x1024 : Shape := ⟨4, ![8, 8, 1, 1024]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x8, .f32⟩
  | 4 => ⟨S8192x1024, .f32⟩
  | 5 => ⟨S8192x8x128, .f32⟩
  | 6 => ⟨S8x8192x128, .f32⟩
  | 7 => ⟨S8192x8x128, .f32⟩
  | 8 => ⟨S8x8192x128, .f32⟩
  | 9 => ⟨S8192x8x128, .f32⟩
  | 10 => ⟨S8x8192x128, .f32⟩
  | 11 => ⟨S8x8192x8192, .f32⟩
  | 12 => ⟨S_, .f32⟩
  | 13 => ⟨S8x8192x8192, .f32⟩
  | 14 => ⟨S8x8192x8192, .f32⟩
  | 15 => ⟨S8x8192, .f32⟩
  | 16 => ⟨S8x8192x1, .f32⟩
  | 17 => ⟨S8x8192, .f32⟩
  | 18 => ⟨S8x1x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S_, .f32⟩
  | 30 => ⟨S_, .f32⟩
  | 31 => ⟨S8x8192x8192, .i1⟩
  | 32 => ⟨S8x8192x8192, .f32⟩
  | 33 => ⟨S8x8192x8192, .f32⟩
  | 34 => ⟨S_, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .i1⟩
  | 41 => ⟨S8x8192x8192, .f32⟩
  | 42 => ⟨S_, .f32⟩
  | 43 => ⟨S8x8192, .f32⟩
  | 44 => ⟨S_, .f32⟩
  | 45 => ⟨S8x8192, .f32⟩
  | 46 => ⟨S8x8192, .f32⟩
  | 47 => ⟨S_, .f32⟩
  | 48 => ⟨S8x8192, .f32⟩
  | 49 => ⟨S8x8192, .i1⟩
  | 50 => ⟨S_, .f32⟩
  | 51 => ⟨S8x8192, .f32⟩
  | 52 => ⟨S8x8192, .i1⟩
  | 53 => ⟨S_, .f32⟩
  | 54 => ⟨S8x8192, .f32⟩
  | 55 => ⟨S_, .f32⟩
  | 56 => ⟨S8x8192, .f32⟩
  | 57 => ⟨S_, .f32⟩
  | 58 => ⟨S8x8192, .f32⟩
  | 59 => ⟨S8x8192, .f32⟩
  | 60 => ⟨S8x8192, .f32⟩
  | 61 => ⟨S8x8192x1, .f32⟩
  | 62 => ⟨S8x8192x8192, .f32⟩
  | 63 => ⟨S8x8192x8192, .f32⟩
  | 64 => ⟨S8x8192x8192, .f32⟩
  | 65 => ⟨S_, .f32⟩
  | 66 => ⟨S8x8192, .f32⟩
  | 67 => ⟨S8x8192x1, .f32⟩
  | 68 => ⟨S8x8192x8192, .f32⟩
  | 69 => ⟨S8x8192x8192, .f32⟩
  | 70 => ⟨S8x8192x1, .f32⟩
  | 71 => ⟨S_, .f32⟩
  | 72 => ⟨S8x8192x1, .f32⟩
  | 73 => ⟨S8x8192x1, .f32⟩
  | 74 => ⟨S8x8192x128, .f32⟩
  | 75 => ⟨S8192x8x128, .f32⟩
  | 76 => ⟨S8192x1024, .f32⟩
  | 77 => ⟨S8192x8x128, .f32⟩
  | 78 => ⟨S8x8192x128, .f32⟩
  | 79 => ⟨S8x128x8192, .f32⟩
  | 80 => ⟨S8x8192x128, .f32⟩
  | 81 => ⟨S8x8192x8192, .f32⟩
  | 82 => ⟨S8x8192x8192, .f32⟩
  | 83 => ⟨S8x8192x8192, .f32⟩
  | 84 => ⟨S8x8192x8192, .f32⟩
  | 85 => ⟨S_, .f32⟩
  | 86 => ⟨S8x8192, .f32⟩
  | 87 => ⟨S8x8192x1, .f32⟩
  | 88 => ⟨S8x8192x1, .f32⟩
  | 89 => ⟨S8x8192x8192, .f32⟩
  | 90 => ⟨S8x8192x8192, .f32⟩
  | 91 => ⟨S_, .f32⟩
  | 92 => ⟨S8x8192, .f32⟩
  | 93 => ⟨S8x8192x8192, .f32⟩
  | 94 => ⟨S8x8192x8192, .f32⟩
  | 95 => ⟨S8x8192x8192, .f32⟩
  | 96 => ⟨S_, .f32⟩
  | 97 => ⟨S8x8192x8192, .f32⟩
  | 98 => ⟨S8x8192x8192, .f32⟩
  | 99 => ⟨S_, .f32⟩
  | 100 => ⟨S8x8192, .f32⟩
  | 101 => ⟨S8x8192x1, .f32⟩
  | 102 => ⟨S8x8192x8192, .f32⟩
  | 103 => ⟨S_, .f32⟩
  | 104 => ⟨S8x8192, .f32⟩
  | 105 => ⟨S8x1x8192, .f32⟩
  | 106 => ⟨S_, .f32⟩
  | 107 => ⟨S8x8192, .f32⟩
  | 108 => ⟨S8192x8, .f32⟩
  | 109 => ⟨S_, .f32⟩
  | 110 => ⟨S8x8192, .f32⟩
  | 111 => ⟨S8192x8, .f32⟩
  | 112 => ⟨S_, .f32⟩
  | 113 => ⟨S8x8192x8192, .f32⟩
  | 114 => ⟨S8x8192x8192, .f32⟩
  | 115 => ⟨S8x8192x128, .f32⟩
  | 116 => ⟨S8x8192x128, .f32⟩
  | 117 => ⟨S8192x8x128, .f32⟩
  | 118 => ⟨S8192x1024, .f32⟩
  | 119 => ⟨S8192x8x128, .f32⟩
  | 120 => ⟨S8192x1024, .f32⟩
  | 121 => ⟨S8192x8x128, .f32⟩
  | 122 => ⟨S8192x1024, .f32⟩
  | 123 => ⟨S_, .f32⟩
  | 124 => ⟨S8192x1024, .f32⟩
  | 125 => ⟨S8192x1024, .f32⟩
  | 126 => ⟨S_, .f32⟩
  | 127 => ⟨S_, .f32⟩
  | _ => ⟨S8192x1024, .f32⟩

abbrev hbmTy0_1 (i : Nat) : BufTy := match i % 128 with
  | 0 => ⟨S_, .f32⟩
  | 1 => ⟨S_, .f32⟩
  | 2 => ⟨S8192x1024, .f32⟩
  | 3 => ⟨S8192x1024, .f32⟩
  | 4 => ⟨S8192x1024, .bf16⟩
  | 5 => ⟨S8x8192, .f32⟩
  | 6 => ⟨S8x8x1x1024, .f32⟩
  | 7 => ⟨S8x8192, .f32⟩
  | 8 => ⟨S8x8192x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_cst_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== Kernel2.lean ====
abbrev S8192x2048 : Shape := ⟨2, ![8192, 2048]⟩
abbrev S2048x8216 : Shape := ⟨2, ![2048, 8216]⟩
abbrev S8192x1024 : Shape := ⟨2, ![8192, 1024]⟩
abbrev S8192x8 : Shape := ⟨2, ![8192, 8]⟩
abbrev S8192x3072 : Shape := ⟨2, ![8192, 3072]⟩
abbrev S8192x16 : Shape := ⟨2, ![8192, 16]⟩
abbrev S_ : Shape := ⟨0, ![]⟩
abbrev S8192x104 : Shape := ⟨2, ![8192, 104]⟩
abbrev S8192x128 : Shape := ⟨2, ![8192, 128]⟩
abbrev S8216x2048 : Shape := ⟨2, ![8216, 2048]⟩
abbrev S4096x2048 : Shape := ⟨2, ![4096, 2048]⟩
abbrev S8x2048 : Shape := ⟨2, ![8, 2048]⟩
abbrev S16x2048 : Shape := ⟨2, ![16, 2048]⟩
abbrev S104x2048 : Shape := ⟨2, ![104, 2048]⟩
abbrev S128x2048 : Shape := ⟨2, ![128, 2048]⟩
abbrev S1024x1024 : Shape := ⟨2, ![1024, 1024]⟩
abbrev S1024x128 : Shape := ⟨2, ![1024, 128]⟩
abbrev S1024x2048 : Shape := ⟨2, ![1024, 2048]⟩

abbrev nBuf : Space → Nat
  | .hbm => 31
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S2048x8216, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8, .f32⟩
  | .hbm, ⟨7, _⟩ => ⟨S8192x3072, .f32⟩
  | .hbm, ⟨8, _⟩ => ⟨S8192x1024, .f32⟩
  | .hbm, ⟨9, _⟩ => ⟨S8192x16, .f32⟩
  | .hbm, ⟨10, _⟩ => ⟨S_, .f32⟩
  | .hbm, ⟨11, _⟩ => ⟨S8192x104, .f32⟩
  | .hbm, ⟨12, _⟩ => ⟨S8192x128, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x3072, .bf16⟩
  | .hbm, ⟨18, _⟩ => ⟨S8192x1024, .bf16⟩
  | .hbm, ⟨19, _⟩ => ⟨S8192x128, .bf16⟩
  | .hbm, ⟨20, _⟩ => ⟨S8216x2048, .f32⟩
  | .hbm, ⟨21, _⟩ => ⟨S8216x2048, .bf16⟩
  | .hbm, ⟨22, _⟩ => ⟨S4096x2048, .bf16⟩
  | .hbm, ⟨23, _⟩ => ⟨S4096x2048, .bf16⟩
  | .hbm, ⟨24, _⟩ => ⟨S8192x2048, .bf16⟩
  | .hbm, ⟨25, _⟩ => ⟨S8x2048, .bf16⟩
  | .hbm, ⟨26, _⟩ => ⟨S16x2048, .bf16⟩
  | .hbm, ⟨27, _⟩ => ⟨S_, .bf16⟩
  | .hbm, ⟨28, _⟩ => ⟨S104x2048, .bf16⟩
  | .hbm, ⟨29, _⟩ => ⟨S128x2048, .bf16⟩
  | .hbm, ⟨30, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1024x2048, .bf16⟩
  | .local _ .vmem, ⟨15, _⟩ => ⟨S1024x2048, .bf16⟩
  | .local _ .vmem, ⟨16, _⟩ => ⟨S128x2048, .bf16⟩
  | .local _ .vmem, ⟨17, _⟩ => ⟨S1024x2048, .f32⟩
  | .local _ .vmem, ⟨18, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c4_i32_9 : BitVec 32 := 4#32
  let v23 : BitVec 1 := Scalar.cmpi .sge arg1 c4_i32_9
  let c7_i32 : BitVec 32 := 7#32
  let v24 : BitVec 1 := Scalar.cmpi .slt arg1 c7_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg1 : BitVec 32 := BitVec.ofNat 32 (i 1).val
  let c7_i32_11 : BitVec 32 := 7#32
  let v28 : BitVec 1 := Scalar.cmpi .sge arg1 c7_i32_11
  let c8_i32 : BitVec 32 := 8#32
  let v29 : BitVec 1 := Scalar.cmpi .slt arg1 c8_i32
  let v30 : BitVec 1 := Scalar.andi v28 v29
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S2048x8216 : Shape := ⟨2, ![2048, 8216]⟩
abbrev S8192x1024 : Shape := ⟨2, ![8192, 1024]⟩
abbrev S8192x8 : Shape := ⟨2, ![8192, 8]⟩
abbrev S8192x3072 : Shape := ⟨2, ![8192, 3072]⟩
abbrev S8192x16 : Shape := ⟨2, ![8192, 16]⟩
abbrev S8192x8216 : Shape := ⟨2, ![8192, 8216]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8216, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8, .f32⟩
  | .hbm, ⟨7, _⟩ => ⟨S8192x3072, .f32⟩
  | .hbm, ⟨8, _⟩ => ⟨S8192x1024, .f32⟩
  | .hbm, ⟨9, _⟩ => ⟨S8192x16, .f32⟩
  | .hbm, ⟨10, _⟩ => ⟨S8192x8216, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x8, .f32⟩
  | .hbm, ⟨16, _⟩ => ⟨S8192x3072, .f32⟩
  | .hbm, ⟨17, _⟩ => ⟨S8192x1024, .f32⟩
  | .hbm, ⟨18, _⟩ => ⟨S8192x16, .f32⟩
  | .hbm, ⟨19, _⟩ => ⟨S8192x8216, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel3.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .bf16⟩
  | .hbm, ⟨4, _⟩ => ⟨S8192x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2048x3072 : Shape := ⟨2, ![2048, 3072]⟩
abbrev S8192x3072 : Shape := ⟨2, ![8192, 3072]⟩
abbrev S3072x2048 : Shape := ⟨2, ![3072, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S8192x3072, .bf16⟩
  | .hbm, ⟨4, _⟩ => ⟨S8192x2048, .bf16⟩
  | .hbm, ⟨5, _⟩ => ⟨S3072x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x3072 : Shape := ⟨2, ![2048, 3072]⟩
abbrev S8192x3072 : Shape := ⟨2, ![8192, 3072]⟩
abbrev S3072x2048 : Shape := ⟨2, ![3072, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S8192x3072, .f32⟩
  | .hbm, ⟨4, _⟩ => ⟨S3072x2048, .f32⟩
  | .hbm, ⟨5, _⟩ => ⟨S2048x3072, .f32⟩
  | .hbm, ⟨6, _⟩ => ⟨S3072x2048, .f32⟩
  | .hbm, ⟨7, _⟩ => ⟨S3072x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Geom.lean ====
/- Where the backward kernel's loads and stores sit: the closed forms of the offsets it computes, the trip counts of
   its two counted loops, a load of a unit rectangle read at an index, and a read at an index of a buffer after one
   more store. -/
module

public import proofs.«01_k».proof.Proof.Gen.KernelIdeal.Loops
public import Idealize.ShloMosaic.PureOps.Ideal
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.KernelIdeal.Fox

open Cert.KernelIdeal Cert.KernelIdeal.Gen

/-! ### Trip counts and offsets -/

theorem trips1 : ∀ i : grid0.Coords, (k0_t1_loop i).trips = (i 1).val := by decide +kernel
theorem trips2 : ∀ i : grid0.Coords, (k0_t2_loop i).trips = 0 := by decide +kernel

theorem trip_lt (i : grid0.Coords) (k : Fin (k0_t1_loop i).trips) : k.val < 8 :=
  lt_of_lt_of_le k.isLt (by rw [trips1]; exact (i 1).isLt.le)

theorem row_word : ∀ n : Fin 8,
    (Scalar.indexCast (Scalar.muli (Scf.iv 0#32 1#32 n.val) 1024#32) : BitVec 32).toNat = 1024 * n.val := by
  decide +kernel

theorem blk_word : ∀ n : Fin 8, (Scalar.indexCast (Scf.iv 0#32 1#32 n.val) : BitVec 32).toNat = n.val := by
  decide +kernel

theorem off1_eq (i : grid0.Coords) (k : Fin (k0_t1_loop i).trips) : k0_off1 i k = ![1024 * k.val, 0] := by
  have := row_word ⟨k.val, trip_lt i k⟩
  unfold k0_off1
  dsimp only at this ⊢
  rw [this]

theorem off2_eq (i : grid0.Coords) (k : Fin (k0_t1_loop i).trips) : k0_off2 i k = ![1024 * k.val, 0] := off1_eq i k

theorem off4_eq (i : grid0.Coords) (k : Fin (k0_t1_loop i).trips) : k0_off4 i k = ![1024 * k.val, 0] := off1_eq i k

theorem off3_eq (i : grid0.Coords) (k : Fin (k0_t1_loop i).trips) : k0_off3 i k = ![0, k.val, 0, 0] := by
  have := blk_word ⟨k.val, trip_lt i k⟩
  unfold k0_off3
  dsimp only at this ⊢
  rw [this]

theorem off9_eq : ∀ i : grid0.Coords, k0_off9 i = ![1024 * (i 1).val, 0] := by decide +kernel
theorem off10_eq : ∀ i : grid0.Coords, k0_off10 i = ![1024 * (i 1).val, 0] := by decide +kernel
theorem off11_eq : ∀ i : grid0.Coords, k0_off11 i = ![0, (i 1).val, 0, 0] := by decide +kernel
theorem off12_eq : ∀ i : grid0.Coords, k0_off12 i = ![1024 * (i 1).val, 0] := by decide +kernel
theorem off13_eq : ∀ i : grid0.Coords, k0_off13 i = ![1024 * (i 1).val + 512, 0] := by decide +kernel
theorem off14_eq : ∀ i : grid0.Coords, k0_off14 i = ![1024 * (i 1).val + 512, 0] := by decide +kernel
theorem off15_eq : ∀ i : grid0.Coords, k0_off15 i = ![0, (i 1).val, 0, 512] := by decide +kernel
theorem off16_eq : ∀ i : grid0.Coords, k0_off16 i = ![1024 * (i 1).val + 512, 0] := by decide +kernel

/-! ### Loads at an index -/

section
variable {sg : RefSig} {κ : Idealize.ShloMosaic.Kind} {sp : Space} {e : EltTy} {Val : EltTy → Type}

/-- A load of a unit rectangle of a matrix, at a row and a column. -/
theorem load2 {N M n m : ℕ} (v : View sg κ sp ⟨2, ![N, M]⟩ e) (f : v.ty.Contents Val) {off : Fin 2 → ℕ} (o : ℕ)
    (hoff : off = ![o, 0])
    (inb : ∀ a, off a + (![n, m] : Fin 2 → ℕ) a ≤ (⟨2, ![N, M]⟩ : Shape).size a) (r : Fin n) (c : Fin m) (r' : Fin N) (c' : Fin M)
    (hr : r'.val = o + r.val) (hc : c'.val = c.val) :
    v.readAt Val (Rect.unit (s := ⟨2, ![N, M]⟩) off ![n, m] inb).toLoadRect f (ix2 r c) = v.read Val f (ix2 r' c') := by
  subst hoff
  rw [View.readAt_apply]
  congr 1
  funext a
  apply Fin.ext
  fin_cases a
  · show o + 1 * r.val = r'.val
    omega
  · show 0 + 1 * c.val = c'.val
    omega

/-- A load of part of one row block of the key accumulator of the gates, at a lane. -/
theorem load4 {n : ℕ} (v : View sg κ sp S1x8x1x1024 e) (f : v.ty.Contents Val) {off : Fin 4 → ℕ} (b c : ℕ)
    (hoff : off = ![0, b, 0, c])
    (inb : ∀ a, off a + (![1, 1, 1, n] : Fin 4 → ℕ) a ≤ S1x8x1x1024.size a) (l : Fin n) (b' : Fin 8) (l' : Fin 1024)
    (hb : b'.val = b) (hl : l'.val = c + l.val) :
    v.readAt Val (Rect.unit (s := S1x8x1x1024) off ![1, 1, 1, n] inb).toLoadRect f (ix4 0 0 0 l)
      = v.read Val f (ix4 0 b' 0 l') := by
  subst hoff
  rw [View.readAt_apply]
  congr 1
  funext a
  apply Fin.ext
  fin_cases a
  · rfl
  · show b + 1 * 0 = b'.val
    omega
  · rfl
  · show c + 1 * l.val = l'.val
    omega

end

/-! ### A read after one more accumulating store -/

section
variable {sg : RefSig} {κ : Idealize.ShloMosaic.Kind} {sp : Space}

/-- A store of whole rows of a matrix that adds `t` to what the rows held. -/
theorem add_rows {N M n : ℕ} (v : View sg κ sp ⟨2, ![N, M]⟩ .f32) (f : v.ty.Contents (Elt Ideal))
    (L : List (View.Piece (Elt Ideal) ⟨2, ![N, M]⟩ .f32)) {off : Fin 2 → ℕ} (o : ℕ) (hoff : off = ![o, 0])
    (inb : ∀ a, off a + (![n, M] : Fin 2 → ℕ) a ≤ (⟨2, ![N, M]⟩ : Shape).size a)
    (w : (Rect.unit (s := ⟨2, ![N, M]⟩) off ![n, M] inb).shape.Idx → Elt Ideal .f32) (t : Fin N → Fin M → EReal)
    (hw : ∀ (l : Fin n) (c : Fin M) (j : Fin N), j.val = o + l.val →
      w (ix2 l c) = ((v.read (Elt Ideal) (v.writes (Elt Ideal) f L) (ix2 j c) : EReal) + t j c : EReal))
    (j : Fin N) (c : Fin M) :
    v.read (Elt Ideal) (v.writes (Elt Ideal) f (⟨Rect.unit (s := ⟨2, ![N, M]⟩) off ![n, M] inb, w⟩ :: L)) (ix2 j c)
      = ((v.read (Elt Ideal) (v.writes (Elt Ideal) f L) (ix2 j c) : EReal)
          + (if o ≤ j.val ∧ j.val < o + n then t j c else 0) : EReal) := by
  by_cases h : o ≤ j.val ∧ j.val < o + n
  · have hl : j.val - o < n := by omega
    rw [if_pos h, ← hw ⟨j.val - o, hl⟩ c j (by show j.val = o + (j.val - o); omega)]
    exact View.read_writes_cons_rows_of_mem v f inb w L (ix2 j c) (ix2 (⟨j.val - o, hl⟩ : Fin n) c) hoff
      (by show j.val = o + (j.val - o); omega) rfl
  · rw [if_neg h, add_zero]
    exact View.read_writes_cons_rows_of_not_mem v f inb w L (ix2 j c) hoff (W := n) rfl
      (by show j.val < o ∨ o + n ≤ j.val; omega)

/-- A store of part of one row block of the key accumulator of the gates that adds `t` to what it held. -/
theorem add_lanes {n : ℕ} (v : View sg κ sp S1x8x1x1024 .f32) (f : v.ty.Contents (Elt Ideal))
    (L : List (View.Piece (Elt Ideal) S1x8x1x1024 .f32)) {off : Fin 4 → ℕ} (b c : ℕ) (hoff : off = ![0, b, 0, c])
    (inb : ∀ a, off a + (![1, 1, 1, n] : Fin 4 → ℕ) a ≤ S1x8x1x1024.size a)
    (w : (Rect.unit (s := S1x8x1x1024) off ![1, 1, 1, n] inb).shape.Idx → Elt Ideal .f32) (t : Fin 8 → Fin 1024 → EReal)
    (hw : ∀ (l : Fin n) (b' : Fin 8) (l' : Fin 1024), b'.val = b → l'.val = c + l.val →
      w (ix4 0 0 0 l) = ((v.read (Elt Ideal) (v.writes (Elt Ideal) f L) (ix4 0 b' 0 l') : EReal) + t b' l' : EReal))
    (b' : Fin 8) (l' : Fin 1024) :
    v.read (Elt Ideal) (v.writes (Elt Ideal) f (⟨Rect.unit (s := S1x8x1x1024) off ![1, 1, 1, n] inb, w⟩ :: L)) (ix4 0 b' 0 l')
      = ((v.read (Elt Ideal) (v.writes (Elt Ideal) f L) (ix4 0 b' 0 l') : EReal)
          + (if b'.val = b ∧ c ≤ l'.val ∧ l'.val < c + n then t b' l' else 0) : EReal) := by
  by_cases h : b'.val = b ∧ c ≤ l'.val ∧ l'.val < c + n
  · have hl : l'.val - c < n := by omega
    rw [if_pos h, ← hw ⟨l'.val - c, hl⟩ b' l' h.1 (by show l'.val = c + (l'.val - c); omega)]
    refine View.read_writes_cons_unit_of_mem v f inb w L (ix4 0 b' 0 l') (ix4 0 0 0 (⟨l'.val - c, hl⟩ : Fin n)) hoff ?_
    intro a
    fin_cases a
    · rfl
    · show b'.val = b + 0
      omega
    · rfl
    · show l'.val = c + (l'.val - c)
      omega
  · rw [if_neg h, add_zero]
    by_cases hb : b'.val = b
    · refine View.read_writes_cons_unit_of_not_mem v f inb w L (ix4 0 b' 0 l') hoff (3 : Fin 4) ?_
      show l'.val < c ∨ c + n ≤ l'.val
      omega
    · refine View.read_writes_cons_unit_of_not_mem v f inb w L (ix4 0 b' 0 l') hoff (1 : Fin 4) ?_
      show b'.val < b ∨ b + 1 ≤ b'.val
      omega

end

end Cert.KernelIdeal.Fox
-- ==== Proof.Pay.lean ====
/- What each of the backward kernel's payloads is at an index, over the extended reals: the weights of a block of
   query rows against a block of keys, their products with the output's gradient, and the sums that the kernel adds
   to its three accumulators and to its two results per query row. -/
module

public import proofs.«01_k».proof.Proof.Gen.KernelIdeal.Skeleton
public import Idealize.ShloMosaic.PureOps.Ideal
public import Idealize.ShloMosaic.Lib.Pointwise
public import Idealize.ShloMosaic.Lib.WordCmp

@[expose] public section

set_option maxRecDepth 16384

noncomputable section

open Idealize.ShloMosaic

namespace Cert.KernelIdeal.Fox

open Cert.KernelIdeal Cert.KernelIdeal.Gen

/-- The column of row log-sums. -/
theorem pay19_apply (a : Vec Ideal S1x1024x1 .f32) (r : Fin 1024) : k0_pay19 a (ix2 r 0) = a (ix3 0 r 0) := by
  unfold k0_pay19
  pointwise

/-- The column of row corrections: the lane of the head, picked by a sum over lanes of which all others are zero. -/
theorem pay20_apply (i : grid0.Coords) (a : Vec Ideal S1024x128 .f32) (r : Fin 1024) (h : Fin 128)
    (hh : h.val = (i 0).val) : k0_pay20 i a (ix2 r 0) = (a (ix2 r h) : EReal) := by
  unfold k0_pay20
  pointwise
  rw [Finset.sum_eq_single h]
  · simp [Scalar.select, IntOp.cmpi, hh]
  · intro b _ hb
    have hb' : ¬ (BitVec.ofNat 32 b.val = BitVec.ofNat 32 (i 0).val) := by
      intro e
      apply hb
      apply Fin.ext
      have := congrArg BitVec.toNat e
      have hi : (i 0).val < 8 := (i 0).isLt
      have := b.isLt
      simp only [BitVec.toNat_ofNat] at *
      omega
    unfold Scalar.select IntOp.cmpi
    have hf : (BitVec.ofNat 32 b.val == BitVec.ofNat 32 (i 0).val) = false := by simpa using hb'
    rw [hf]
    rfl
  · simp

theorem pay5_apply (v4 : FVec Ideal S1024x1 .f32) (q k : Vec Ideal S1024x256 .bf16) (r l : Fin 1024) :
    k0_pay5 v4 q k (ix2 r l)
      = Ideal.exp2 ((∑ d : Fin 256, (q (ix2 r d) : EReal) * k (ix2 l d)) - v4 (ix2 r 0)) := by
  unfold k0_pay5
  pointwise
  rfl

theorem pay6_apply (v4 v13 : FVec Ideal S1024x1 .f32) (q : Vec Ideal S1024x256 .bf16) (g : Vec Ideal S1024x128 .bf16)
    (k : Vec Ideal S1024x256 .bf16) (v : Vec Ideal S1024x128 .bf16) (r l : Fin 1024) :
    k0_pay6 v4 v13 q g k v (ix2 r l)
      = (k0_pay5 v4 q k (ix2 r l) : EReal) * ((∑ d : Fin 128, (g (ix2 r d) : EReal) * v (ix2 l d)) - v13 (ix2 r 0)) := by
  unfold k0_pay6 k0_pay4
  pointwise

theorem pay8_apply (v4 v13 : FVec Ideal S1024x1 .f32) (q : Vec Ideal S1024x256 .bf16) (g : Vec Ideal S1024x128 .bf16)
    (k : Vec Ideal S1024x256 .bf16) (v : Vec Ideal S1024x128 .bf16) (a : Vec Ideal S1024x128 .f32)
    (x : Vec Ideal S1024x128 .bf16) (l : Fin 1024) (e : Fin 128) :
    k0_pay8 v4 v13 q g k v a x (ix2 l e)
      = (a (ix2 l e) : EReal) + ∑ r : Fin 1024, (k0_pay6 v4 v13 q g k v (ix2 r l) : EReal) * x (ix2 r e) := by
  unfold k0_pay8 k0_pay7
  pointwise

theorem pay9_apply (v4 : FVec Ideal S1024x1 .f32) (q : Vec Ideal S1024x256 .bf16) (g : Vec Ideal S1024x128 .bf16)
    (k : Vec Ideal S1024x256 .bf16) (a : Vec Ideal S1024x128 .f32) (l : Fin 1024) (e : Fin 128) :
    k0_pay9 v4 q g k a (ix2 l e)
      = (a (ix2 l e) : EReal) + ∑ r : Fin 1024, (k0_pay5 v4 q k (ix2 r l) : EReal) * g (ix2 r e) := by
  unfold k0_pay9 k0_pay4
  pointwise

theorem pay23_apply (w : FVec Ideal S1024x1024 .f32) (a : Vec Ideal S1x1x1x1024 .f32) (l : Fin 1024) :
    k0_pay23 w a (ix4 0 0 0 l) = (a (ix4 0 0 0 l) : EReal) + (0 - ∑ r : Fin 1024, (w (ix2 r l) : EReal)) := by
  unfold k0_pay23
  pointwise

theorem pay24_apply (v4 v13 : FVec Ideal S1024x1 .f32) (q : Vec Ideal S1024x256 .bf16) (g : Vec Ideal S1024x128 .bf16)
    (k : Vec Ideal S1024x256 .bf16) (v : Vec Ideal S1024x128 .bf16) (a : FVec Ideal S1024x128 .f32)
    (k' : Vec Ideal S1024x128 .bf16) (r : Fin 1024) (e : Fin 128) :
    k0_pay24 a (k0_pay7 v4 v13 q g k v) k' (ix2 r e)
      = (a (ix2 r e) : EReal) + ∑ l : Fin 1024, (k0_pay6 v4 v13 q g k v (ix2 r l) : EReal) * k' (ix2 l e) := by
  unfold k0_pay24 k0_pay7
  pointwise

theorem pay25_apply (a : FVec Ideal S1024x1 .f32) (w : FVec Ideal S1024x1024 .f32) (r : Fin 1024) :
    k0_pay25 a w (ix2 r 0) = (a (ix2 r 0) : EReal) + ∑ l : Fin 1024, (w (ix2 r l) : EReal) := by
  unfold k0_pay25
  pointwise

/-! ### The diagonal block's first half of the keys -/

/-- The causal mask's choice at a row and a column. -/
theorem sge_apply (a b : ℕ) (ha : a < 1024) (hb : b < 1024) (x y : EReal) :
    Scalar.select (IntOp.cmpi CmpIPredicate.sge (BitVec.ofNat 32 a) (BitVec.ofNat 32 b)) x y = if b ≤ a then x else y := by
  have ha' : a < 2 ^ (32 - 1) := by norm_num; omega
  have hb' : b < 2 ^ (32 - 1) := by norm_num; omega
  unfold Scalar.select
  by_cases h : b ≤ a
  · rw [if_pos (show _ = (1 : BitVec 1) from (WordCmp.cmpi_sge_ofNat_eq_one_iff ha' hb').2 h), if_pos h]
  · rw [if_neg (show ¬ _ = (1 : BitVec 1) from fun e => h ((WordCmp.cmpi_sge_ofNat_eq_one_iff ha' hb').1 e)), if_neg h]

theorem pay33_apply (v4 : FVec Ideal S1024x1 .f32) (q : Vec Ideal S1024x256 .bf16) (k : Vec Ideal S512x256 .bf16)
    (r : Fin 1024) (l : Fin 512) :
    k0_pay33 v4 k0_pay29 (k0_pay30 q) (k0_pay32 k) (constant S1024x512 .f32 0x00000000#32) (ix2 r l)
      = if l.val ≤ r.val then Ideal.exp2 ((∑ d : Fin 256, (q (ix2 r d) : EReal) * k (ix2 l d)) - v4 (ix2 r 0)) else 0 := by
  unfold k0_pay33 k0_pay29 k0_pay30 k0_pay32
  pointwise
  rw [sge_apply r.val l.val r.isLt (by omega)]
  rfl

section
variable (v4 v13 : FVec Ideal S1024x1 .f32) (c : IVec S1024x512 1) (q : FVec Ideal S1024x256 .bf16)
  (g : Vec Ideal S1024x128 .bf16) (k : FVec Ideal S512x256 .bf16) (z : FVec Ideal S1024x512 .f32)
  (v : Vec Ideal S512x128 .bf16)

theorem pay34_apply (r : Fin 1024) (l : Fin 512) :
    k0_pay34 v4 v13 c q (k0_pay31 g) k z v (ix2 r l)
      = (k0_pay33 v4 c q k z (ix2 r l) : EReal) * ((∑ d : Fin 128, (g (ix2 r d) : EReal) * v (ix2 l d)) - v13 (ix2 r 0)) := by
  unfold k0_pay34 k0_pay31
  pointwise

variable (g : FVec Ideal S1024x128 .bf16)

theorem pay36_apply (a : Vec Ideal S512x128 .f32) (x : Vec Ideal S1024x128 .bf16) (l : Fin 512) (e : Fin 128) :
    k0_pay36 v4 v13 c q g k z v a x (ix2 l e)
      = (a (ix2 l e) : EReal) + ∑ r : Fin 1024, (k0_pay34 v4 v13 c q g k z v (ix2 r l) : EReal) * x (ix2 r e) := by
  unfold k0_pay36 k0_pay35
  pointwise

theorem pay37_apply (g : Vec Ideal S1024x128 .bf16) (a : Vec Ideal S512x128 .f32) (l : Fin 512) (e : Fin 128) :
    k0_pay37 v4 c q (k0_pay31 g) k z a (ix2 l e)
      = (a (ix2 l e) : EReal) + ∑ r : Fin 1024, (k0_pay33 v4 c q k z (ix2 r l) : EReal) * g (ix2 r e) := by
  unfold k0_pay37 k0_pay31
  pointwise

theorem pay39_apply (a : Vec Ideal S1x1x1x512 .f32) (l : Fin 512) :
    k0_pay39 (k0_pay38 v4 v13 c q g k z v a) (ix4 0 0 0 l)
      = (a (ix4 0 0 0 l) : EReal) + (0 - ∑ r : Fin 1024, (k0_pay34 v4 v13 c q g k z v (ix2 r l) : EReal)) := by
  unfold k0_pay39 k0_pay38
  pointwise

theorem pay40_apply (a : FVec Ideal S1024x128 .f32) (k' : Vec Ideal S512x128 .bf16) (r : Fin 1024) (e : Fin 128) :
    k0_pay40 a (k0_pay35 v4 v13 c q g k z v) k' (ix2 r e)
      = (a (ix2 r e) : EReal) + ∑ l : Fin 512, (k0_pay34 v4 v13 c q g k z v (ix2 r l) : EReal) * k' (ix2 l e) := by
  unfold k0_pay40 k0_pay35
  pointwise

end

theorem pay41_apply (a : FVec Ideal S1024x1 .f32) (w : FVec Ideal S1024x512 .f32) (r : Fin 1024) :
    k0_pay41 a w (ix2 r 0) = (a (ix2 r 0) : EReal) + ∑ l : Fin 512, (w (ix2 r l) : EReal) := by
  unfold k0_pay41
  pointwise

theorem pay42_apply (a : FVec Ideal S1024x128 .f32) (w : FVec Ideal S1024x512 .bf16) (k' : Vec Ideal S512x128 .bf16)
    (r : Fin 512) (e : Fin 128) :
    k0_pay42 a w k' (ix2 r e) = k0_pay40 a w k' (ix2 ⟨512 + r.val, by omega⟩ e) := by
  unfold k0_pay42
  pointwise

theorem pay43_apply (a : FVec Ideal S1024x1 .f32) (w : FVec Ideal S1024x512 .f32) (r : Fin 512) :
    k0_pay43 a w (ix2 r 0) = k0_pay41 a w (ix2 ⟨512 + r.val, by omega⟩ 0) := by
  unfold k0_pay43
  pointwise

/-! ### The diagonal block's second half of the keys -/

section
variable (v4 v13 : FVec Ideal S1024x1 .f32) (q : Vec Ideal S512x256 .bf16) (g : Vec Ideal S512x128 .bf16)
  (k : Vec Ideal S512x256 .bf16) (v : Vec Ideal S512x128 .bf16)

theorem pay45_apply (r l : Fin 512) :
    k0_pay45 v4 q k (ix2 r l)
      = if l.val ≤ r.val then
          Ideal.exp2 ((∑ d : Fin 256, (q (ix2 r d) : EReal) * k (ix2 l d)) - v4 (ix2 ⟨512 + r.val, by omega⟩ 0)) else 0 := by
  unfold k0_pay45
  pointwise
  rw [sge_apply r.val l.val (by omega) (by omega)]
  rfl

theorem pay46_apply (r l : Fin 512) :
    k0_pay46 v4 v13 q g k v (ix2 r l)
      = (k0_pay45 v4 q k (ix2 r l) : EReal)
        * ((∑ d : Fin 128, (g (ix2 r d) : EReal) * v (ix2 l d)) - v13 (ix2 ⟨512 + r.val, by omega⟩ 0)) := by
  unfold k0_pay46 k0_pay44
  pointwise

theorem pay48_apply (a : Vec Ideal S512x128 .f32) (x : Vec Ideal S512x128 .bf16) (l : Fin 512) (e : Fin 128) :
    k0_pay48 (k0_pay47 v4 v13 q g k v) a x (ix2 l e)
      = (a (ix2 l e) : EReal) + ∑ r : Fin 512, (k0_pay46 v4 v13 q g k v (ix2 r l) : EReal) * x (ix2 r e) := by
  unfold k0_pay48 k0_pay47
  pointwise

theorem pay49_apply (p : FVec Ideal S512x512 .f32) (a : Vec Ideal S512x128 .f32) (l : Fin 512) (e : Fin 128) :
    k0_pay49 (k0_pay44 g) p a (ix2 l e)
      = (a (ix2 l e) : EReal) + ∑ r : Fin 512, (p (ix2 r l) : EReal) * g (ix2 r e) := by
  unfold k0_pay49 k0_pay44
  pointwise

theorem pay50_apply (w : FVec Ideal S512x512 .f32) (a : Vec Ideal S1x1x1x512 .f32) (l : Fin 512) :
    k0_pay50 w a (ix4 0 0 0 l) = (a (ix4 0 0 0 l) : EReal) + (0 - ∑ r : Fin 512, (w (ix2 r l) : EReal)) := by
  unfold k0_pay50
  pointwise

theorem pay51_apply (a : FVec Ideal S512x128 .f32) (k' : Vec Ideal S512x128 .bf16) (r : Fin 512) (e : Fin 128) :
    k0_pay51 a (k0_pay47 v4 v13 q g k v) k' (ix2 r e)
      = (a (ix2 r e) : EReal) + ∑ l : Fin 512, (k0_pay46 v4 v13 q g k v (ix2 r l) : EReal) * k' (ix2 l e) := by
  unfold k0_pay51 k0_pay47
  pointwise

theorem pay52_apply (a : FVec Ideal S512x1 .f32) (w : FVec Ideal S512x512 .f32) (r : Fin 512) :
    k0_pay52 a w (ix2 r 0) = (a (ix2 r 0) : EReal) + ∑ l : Fin 512, (w (ix2 r l) : EReal) := by
  unfold k0_pay52
  pointwise

end

theorem pay53_apply (a : FVec Ideal S1024x128 .f32) (r : Fin 512) (e : Fin 128) :
    k0_pay53 a (ix2 r e) = a (ix2 ⟨r.val, by omega⟩ e) := by
  unfold k0_pay53
  pointwise

end Cert.KernelIdeal.Fox
-- ==== Proof.Trip.lean ====
/- One trip of the kernel's counted loop over the key blocks before the diagonal, and the loop: what it adds to the three
   accumulators and to the two carried sums, at an index, over the extended reals. -/
module

public import proofs.«01_k».proof.Proof.Geom
public import proofs.«01_k».proof.Proof.Pay

@[expose] public section

set_option maxRecDepth 16384

noncomputable section

open Idealize.ShloMosaic Idealize.ShloMosaic.TcCoe Idealize.SL.Sem

namespace Cert.KernelIdeal.Fox

open Cert.KernelIdeal Cert.KernelIdeal.Gen

/-! ### The weights of a block of query rows against every key row -/

section
variable (x0 : Vec Ideal S1024x256 .bf16) (x1 : Vec Ideal S1024x128 .bf16) (L D : FVec Ideal S1024x1 .f32)
  (x4 : Vec Ideal S8192x256 .bf16) (x5 : Vec Ideal S8192x128 .bf16)

/-- The softmax weight of query row `r` against key row `j`: two to the power of their score less the row's log-sum. -/
def wt (r : Fin 1024) (j : Fin 8192) : EReal :=
  Ideal.exp2 ((∑ d : Fin 256, (x0 (ix2 r d) : EReal) * x4 (ix2 j d)) - L (ix2 r 0))

/-- The gradient of the score of query row `r` against key row `j`, but for the weight. -/
def gap (r : Fin 1024) (j : Fin 8192) : EReal :=
  (∑ d : Fin 128, (x1 (ix2 r d) : EReal) * x5 (ix2 j d)) - D (ix2 r 0)

/-- The gradient of the score of query row `r` against key row `j`. -/
def dsw (r : Fin 1024) (j : Fin 8192) : EReal := wt x0 L x4 r j * gap x1 D x5 r j

end

/-- Column `e` of the first 128 of 256. -/
abbrev lo (e : Fin 128) : Fin 256 := ⟨e.val, by omega⟩

/-- Row `l` of key block `b`. -/
abbrev kr (b : Fin 8) (l : Fin 1024) : Fin 8192 := ⟨1024 * b.val + l.val, by omega⟩

/-- The kernel's weights of a block of keys whose row `l` is key row `j`. -/
theorem pay5_wt (L : FVec Ideal S1024x1 .f32) (x0 q : Vec Ideal S1024x256 .bf16) (x4 : Vec Ideal S8192x256 .bf16)
    (k : Vec Ideal S1024x256 .bf16) (r l : Fin 1024) (j : Fin 8192) (hq : ∀ d, q (ix2 r d) = x0 (ix2 r d))
    (hk : ∀ d, k (ix2 l d) = x4 (ix2 j d)) : k0_pay5 L q k (ix2 r l) = wt x0 L x4 r j := by
  rw [pay5_apply, wt]
  simp only [hq, hk]

theorem pay6_dsw (L D : FVec Ideal S1024x1 .f32) (x0 q : Vec Ideal S1024x256 .bf16) (x1 g : Vec Ideal S1024x128 .bf16)
    (x4 : Vec Ideal S8192x256 .bf16) (x5 : Vec Ideal S8192x128 .bf16) (k : Vec Ideal S1024x256 .bf16)
    (v : Vec Ideal S1024x128 .bf16) (r l : Fin 1024) (j : Fin 8192) (hq : ∀ d, q (ix2 r d) = x0 (ix2 r d))
    (hg : ∀ d, g (ix2 r d) = x1 (ix2 r d)) (hk : ∀ d, k (ix2 l d) = x4 (ix2 j d)) (hv : ∀ d, v (ix2 l d) = x5 (ix2 j d)) :
    k0_pay6 L D q g k v (ix2 r l) = dsw x0 x1 L D x4 x5 r j := by
  rw [pay6_apply, pay5_wt L x0 q x4 k r l j hq hk, dsw, gap]
  simp only [hg, hv]

/-- A load of the whole of a buffer held at known contents, or of its first columns. -/
theorem load_whole {N M n m : ℕ} {e : EltTy} (a : Memref sig .tc .vmem ⟨2, ![N, M]⟩ e) (h : a.IsWhole)
    (x : Vec Ideal ⟨2, ![N, M]⟩ e) {off : Fin 2 → ℕ} (o : ℕ) (hoff : off = ![o, 0])
    (inb : ∀ a, off a + (![n, m] : Fin 2 → ℕ) a ≤ (⟨2, ![N, M]⟩ : Shape).size a)
    (r : Fin n) (c : Fin m) (r' : Fin N) (c' : Fin M) (hr : r'.val = o + r.val) (hc : c'.val = c.val) :
    a.view.readAt (Elt Ideal) (Rect.unit (s := ⟨2, ![N, M]⟩) off ![n, m] inb).toLoadRect (h.unread x) (ix2 r c)
      = x (ix2 r' c') :=
  (load2 a.view (h.unread x) o hoff inb r c r' c' hr hc).trans (congrFun (h.read_unread x) _)

/-- A sum over `n` consecutive places is a sum over all places of the terms there. -/
theorem sum_window {N n : ℕ} (o : ℕ) (h : o + n ≤ N) (F : Fin N → EReal) :
    (∑ l : Fin n, F ⟨o + l.val, by omega⟩) = ∑ j : Fin N, if o ≤ j.val ∧ j.val < o + n then F j else 0 := by
  rw [← Finset.sum_filter]
  refine Finset.sum_bij (fun l _ => (⟨o + l.val, by omega⟩ : Fin N)) ?_ ?_ ?_ ?_
  · intro l _
    simp only [Finset.mem_filter, Finset.mem_univ, true_and]
    omega
  · intro a _ b _ hab
    have := congrArg Fin.val hab
    exact Fin.ext (by simpa using this)
  · intro j hj
    simp only [Finset.mem_filter, Finset.mem_univ, true_and] at hj
    exact ⟨⟨j.val - o, by omega⟩, Finset.mem_univ _, Fin.ext (by show o + (j.val - o) = j.val; omega)⟩
  · intro l _
    rfl

/-- The places before block `n` and the places of block `n` are the places before block `n + 1`. -/
theorem ite_step (j n : ℕ) (t : EReal) :
    ((if j < 1024 * n then t else 0) + (if 1024 * n ≤ j ∧ j < 1024 * n + 1024 then t else 0) : EReal)
      = if j < 1024 * (n + 1) then t else 0 := by
  by_cases h1 : j < 1024 * n
  · rw [if_pos h1, if_neg (by omega), if_pos (by omega), add_zero]
  · by_cases h2 : j < 1024 * n + 1024
    · rw [if_neg h1, if_pos (by omega), if_pos (by omega), zero_add]
    · rw [if_neg h1, if_neg (by omega), if_neg (by omega), add_zero]

section
variable (𝒱 : Variants) (c : Dev nD) (bd : Option 𝒱.V) (i : grid0.Coords) (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (v3 : Vec Ideal S1x1024x1 .f32) (v5 : Vec Ideal S1024x128 .f32)
  (x0 : Vec Ideal S1024x256 .bf16) (x1 : Vec Ideal S1024x128 .bf16) (x4 : Vec Ideal S8192x256 .bf16) (x5 : Vec Ideal S8192x128 .bf16)

section
variable (k : Fin (k0_t1_loop i).trips)
  (acc : FVec Ideal S1024x128 .f32 × FVec Ideal S1024x1 .f32) (f9 : BufTy.Contents (Elt Ideal) arg9.view.ty)
  (f11 : BufTy.Contents (Elt Ideal) arg11.view.ty) (f13 : BufTy.Contents (Elt Ideal) arg13.view.ty)

theorem trip_dk (j : Fin 8192) (e : Fin 128) :
    arg9.view.read (Elt Ideal) (arg9.view.writes (Elt Ideal) f9
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) k acc f9 f11 f13).1) (ix2 j e)
      = ((arg9.view.read (Elt Ideal) f9 (ix2 j e) : EReal)
          + (if 1024 * k.val ≤ j.val ∧ j.val < 1024 * k.val + 1024 then
              ∑ r : Fin 1024, dsw x0 x1 (k0_pay19 v3) (k0_pay20 i v5) x4 x5 r j * x0 (ix2 r (lo e)) else 0) : EReal) := by
  unfold tripL_k0_t1 trip_k0_t1
  dsimp only
  refine add_rows (n := 1024) arg9.view f9 [] (1024 * k.val) (off2_eq i k) (k0_off2_inb i k) _
    (fun j e => ∑ r : Fin 1024, dsw x0 x1 (k0_pay19 v3) (k0_pay20 i v5) x4 x5 r j * x0 (ix2 r (lo e))) ?_ j e
  intro l c' j' hj
  rw [pay8_apply]
  refine congrArg₂ (· + ·) (load2 arg9.view f9 (1024 * k.val) (off2_eq i k) _ l c' j' c' hj rfl) (Finset.sum_congr rfl fun r _ => ?_)
  refine congrArg₂ (· * ·) (pay6_dsw (k0_pay19 v3) (k0_pay20 i v5) x0 _ x1 _ x4 x5 _ _ r l j'
    (fun d => load_whole arg2 harg2 x0 0 rfl _ r d r d (by omega) rfl)
    (fun d => load_whole arg3 harg3 x1 0 rfl _ r d r d (by omega) rfl)
    (fun d => load_whole arg6 harg6 x4 (1024 * k.val) (off1_eq i k) _ l d j' d hj rfl)
    (fun d => load_whole arg7 harg7 x5 (1024 * k.val) (off2_eq i k) _ l d j' d hj rfl)) ?_
  exact load_whole arg2 harg2 x0 0 rfl _ r c' r (lo c') (by omega) rfl

theorem trip_dv (j : Fin 8192) (e : Fin 128) :
    arg13.view.read (Elt Ideal) (arg13.view.writes (Elt Ideal) f13
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) k acc f9 f11 f13).2.2) (ix2 j e)
      = ((arg13.view.read (Elt Ideal) f13 (ix2 j e) : EReal)
          + (if 1024 * k.val ≤ j.val ∧ j.val < 1024 * k.val + 1024 then
              ∑ r : Fin 1024, wt x0 (k0_pay19 v3) x4 r j * x1 (ix2 r e) else 0) : EReal) := by
  unfold tripL_k0_t1 trip_k0_t1
  dsimp only
  refine add_rows (n := 1024) arg13.view f13 [] (1024 * k.val) (off2_eq i k) (k0_off2_inb i k) _
    (fun j e => ∑ r : Fin 1024, wt x0 (k0_pay19 v3) x4 r j * x1 (ix2 r e)) ?_ j e
  intro l c' j' hj
  rw [pay9_apply]
  refine congrArg₂ (· + ·) (load2 arg13.view f13 (1024 * k.val) (off2_eq i k) _ l c' j' c' hj rfl) (Finset.sum_congr rfl fun r _ => ?_)
  refine congrArg₂ (· * ·) (pay5_wt (k0_pay19 v3) x0 _ x4 _ r l j'
    (fun d => load_whole arg2 harg2 x0 0 rfl _ r d r d (by omega) rfl)
    (fun d => load_whole arg6 harg6 x4 (1024 * k.val) (off1_eq i k) _ l d j' d hj rfl)) ?_
  exact load_whole arg3 harg3 x1 0 rfl _ r c' r c' (by omega) rfl

theorem trip_df (b : Fin 8) (l : Fin 1024) :
    arg11.view.read (Elt Ideal) (arg11.view.writes (Elt Ideal) f11
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) k acc f9 f11 f13).2.1) (ix4 0 b 0 l)
      = ((arg11.view.read (Elt Ideal) f11 (ix4 0 b 0 l) : EReal)
          + (if b.val = k.val then
              0 - ∑ r : Fin 1024, dsw x0 x1 (k0_pay19 v3) (k0_pay20 i v5) x4 x5 r (kr b l) else 0) : EReal) := by
  unfold tripL_k0_t1 trip_k0_t1
  dsimp only
  refine (add_lanes (n := 1024) arg11.view f11 [] k.val 0 (off3_eq i k) (k0_off3_inb i k) _
    (fun b l => 0 - ∑ r : Fin 1024, dsw x0 x1 (k0_pay19 v3) (k0_pay20 i v5) x4 x5 r (kr b l)) ?_ b l).trans ?_
  swap
  · have hl : (b.val = k.val ∧ 0 ≤ l.val ∧ l.val < 0 + 1024) ↔ b.val = k.val := by omega
    simp only [hl]
    rfl
  intro l b' l' hb hl
  have hj : (kr b' l').val = 1024 * k.val + l.val := by
    show 1024 * b'.val + l'.val = _
    omega
  rw [pay23_apply]
  refine congrArg₂ (· + ·) (load4 arg11.view f11 k.val 0 (off3_eq i k) _ l b' l' hb hl)
    (congrArg (fun z : EReal => 0 - z) (Finset.sum_congr rfl fun r _ => ?_))
  exact pay6_dsw (k0_pay19 v3) (k0_pay20 i v5) x0 _ x1 _ x4 x5 _ _ r l (kr b' l')
    (fun d => load_whole arg2 harg2 x0 0 rfl _ r d r d (by omega) rfl)
    (fun d => load_whole arg3 harg3 x1 0 rfl _ r d r d (by omega) rfl)
    (fun d => load_whole arg6 harg6 x4 (1024 * k.val) (off1_eq i k) _ l d (kr b' l') d hj rfl)
    (fun d => load_whole arg7 harg7 x5 (1024 * k.val) (off2_eq i k) _ l d (kr b' l') d hj rfl)

theorem trip_dq (r : Fin 1024) (e : Fin 128) :
    (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) k acc f9 f11 f13).1 (ix2 r e)
      = ((acc.1 (ix2 r e) : EReal)
          + ∑ l : Fin 1024, dsw x0 x1 (k0_pay19 v3) (k0_pay20 i v5) x4 x5 r (kr ⟨k.val, trip_lt i k⟩ l) * x4 (ix2 (kr ⟨k.val, trip_lt i k⟩ l) (lo e)) : EReal) := by
  unfold tripR_k0_t1 trip_k0_t1
  dsimp only
  refine (pay24_apply (k0_pay19 v3) (k0_pay20 i v5) _ _ _ _ acc.1 _ r e).trans ?_
  refine congrArg (acc.1 (ix2 r e) + ·) (Finset.sum_congr rfl fun l _ => ?_)
  refine congrArg₂ (· * ·) (pay6_dsw (k0_pay19 v3) (k0_pay20 i v5) x0 _ x1 _ x4 x5 _ _ r l (kr ⟨k.val, trip_lt i k⟩ l)
    (fun d => load_whole arg2 harg2 x0 0 rfl _ r d r d (by omega) rfl)
    (fun d => load_whole arg3 harg3 x1 0 rfl _ r d r d (by omega) rfl)
    (fun d => load_whole arg6 harg6 x4 (1024 * k.val) (off1_eq i k) _ l d (kr ⟨k.val, trip_lt i k⟩ l) d rfl rfl)
    (fun d => load_whole arg7 harg7 x5 (1024 * k.val) (off2_eq i k) _ l d (kr ⟨k.val, trip_lt i k⟩ l) d rfl rfl)) ?_
  exact load_whole arg6 harg6 x4 (1024 * k.val) (off4_eq i k) _ l e (kr ⟨k.val, trip_lt i k⟩ l) (lo e) rfl rfl

theorem trip_rs (r : Fin 1024) :
    (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) k acc f9 f11 f13).2 (ix2 r 0)
      = ((acc.2 (ix2 r 0) : EReal) + ∑ l : Fin 1024, dsw x0 x1 (k0_pay19 v3) (k0_pay20 i v5) x4 x5 r (kr ⟨k.val, trip_lt i k⟩ l) : EReal) := by
  unfold tripR_k0_t1 trip_k0_t1
  dsimp only
  rw [pay25_apply]
  refine congrArg (acc.2 (ix2 r 0) + ·) (Finset.sum_congr rfl fun l _ => ?_)
  exact pay6_dsw (k0_pay19 v3) (k0_pay20 i v5) x0 _ x1 _ x4 x5 _ _ r l (kr ⟨k.val, trip_lt i k⟩ l)
    (fun d => load_whole arg2 harg2 x0 0 rfl _ r d r d (by omega) rfl)
    (fun d => load_whole arg3 harg3 x1 0 rfl _ r d r d (by omega) rfl)
    (fun d => load_whole arg6 harg6 x4 (1024 * k.val) (off1_eq i k) _ l d (kr ⟨k.val, trip_lt i k⟩ l) d rfl rfl)
    (fun d => load_whole arg7 harg7 x5 (1024 * k.val) (off2_eq i k) _ l d (kr ⟨k.val, trip_lt i k⟩ l) d rfl rfl)

end

/-! ### The loop -/

section
variable (G9 : BufTy.Contents (Elt Ideal) arg9.view.ty) (G11 : BufTy.Contents (Elt Ideal) arg11.view.ty)
  (G13 : BufTy.Contents (Elt Ideal) arg13.view.ty) (init : FVec Ideal S1024x128 .f32 × FVec Ideal S1024x1 .f32)

theorem loop_dk (j : Fin 8192) (e : Fin 128) : ∀ n, n ≤ (k0_t1_loop i).trips →
    arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init n).2.1) (ix2 j e)
      = ((arg9.view.read (Elt Ideal) G9 (ix2 j e) : EReal)
          + (if j.val < 1024 * n then ∑ r : Fin 1024, dsw x0 x1 (k0_pay19 v3) (k0_pay20 i v5) x4 x5 r j * x0 (ix2 r (lo e)) else 0) : EReal)
  | 0, _ => by simp [st_k0_t1]
  | n + 1, h => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init ⟨n, h⟩]
    dsimp only
    rw [View.writes_append, trip_dk, loop_dk j e n (Nat.le_of_succ_le h), add_assoc, ite_step]

theorem loop_dv (j : Fin 8192) (e : Fin 128) : ∀ n, n ≤ (k0_t1_loop i).trips →
    arg13.view.read (Elt Ideal) (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init n).2.2.2) (ix2 j e)
      = ((arg13.view.read (Elt Ideal) G13 (ix2 j e) : EReal)
          + (if j.val < 1024 * n then ∑ r : Fin 1024, wt x0 (k0_pay19 v3) x4 r j * x1 (ix2 r e) else 0) : EReal)
  | 0, _ => by simp [st_k0_t1]
  | n + 1, h => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init ⟨n, h⟩]
    dsimp only
    rw [View.writes_append, trip_dv, loop_dv j e n (Nat.le_of_succ_le h), add_assoc, ite_step]

theorem loop_df (b : Fin 8) (l : Fin 1024) : ∀ n, n ≤ (k0_t1_loop i).trips →
    arg11.view.read (Elt Ideal) (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init n).2.2.1) (ix4 0 b 0 l)
      = ((arg11.view.read (Elt Ideal) G11 (ix4 0 b 0 l) : EReal)
          + (if b.val < n then 0 - ∑ r : Fin 1024, dsw x0 x1 (k0_pay19 v3) (k0_pay20 i v5) x4 x5 r (kr b l) else 0) : EReal)
  | 0, _ => by simp [st_k0_t1]
  | n + 1, h => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init ⟨n, h⟩]
    dsimp only
    rw [View.writes_append, trip_df, loop_df b l n (Nat.le_of_succ_le h), add_assoc]
    congr 1
    dsimp only
    rcases lt_trichotomy b.val n with hb | hb | hb
    · rw [if_pos hb, if_neg (by omega), if_pos (by omega), add_zero]
    · rw [if_neg (by omega), if_pos hb, if_pos (by omega), zero_add]
    · rw [if_neg (by omega), if_neg (by omega), if_neg (by omega), add_zero]

theorem loop_dq (r : Fin 1024) (e : Fin 128) : ∀ n, n ≤ (k0_t1_loop i).trips →
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init n).1.1 (ix2 r e)
      = ((init.1 (ix2 r e) : EReal)
          + ∑ j : Fin 8192, (if j.val < 1024 * n then dsw x0 x1 (k0_pay19 v3) (k0_pay20 i v5) x4 x5 r j * x4 (ix2 j (lo e)) else 0) : EReal)
  | 0, _ => by simp [st_k0_t1]
  | n + 1, h => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init ⟨n, h⟩]
    dsimp only
    rw [trip_dq, loop_dq r e n (Nat.le_of_succ_le h), add_assoc]
    congr 1
    rw [sum_window (N := 8192) (n := 1024) (1024 * n) (by have := trip_lt i ⟨n, h⟩; dsimp only at this; omega)
      (fun j => dsw x0 x1 (k0_pay19 v3) (k0_pay20 i v5) x4 x5 r j * x4 (ix2 j (lo e))), ← Finset.sum_add_distrib]
    exact Finset.sum_congr rfl fun j _ => ite_step ..

theorem loop_rs (r : Fin 1024) : ∀ n, n ≤ (k0_t1_loop i).trips →
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init n).1.2 (ix2 r 0)
      = ((init.2 (ix2 r 0) : EReal) + ∑ j : Fin 8192, (if j.val < 1024 * n then dsw x0 x1 (k0_pay19 v3) (k0_pay20 i v5) x4 x5 r j else 0) : EReal)
  | 0, _ => by simp [st_k0_t1]
  | n + 1, h => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 init ⟨n, h⟩]
    dsimp only
    rw [trip_rs, loop_rs r n (Nat.le_of_succ_le h), add_assoc]
    congr 1
    rw [sum_window (N := 8192) (n := 1024) (1024 * n) (by have := trip_lt i ⟨n, h⟩; dsimp only at this; omega)
      (fun j => dsw x0 x1 (k0_pay19 v3) (k0_pay20 i v5) x4 x5 r j), ← Finset.sum_add_distrib]
    exact Finset.sum_congr rfl fun j _ => ite_step ..

end
end
end Cert.KernelIdeal.Fox
-- ==== Proof.Diag.lean ====
/- The diagonal block of the backward kernel at an index: what its two halves add to the three accumulators and to the two
   carried sums, as sums over the keys at or before each query row. -/
module

public import proofs.«01_k».proof.Proof.Trip

@[expose] public section

set_option maxRecDepth 16384

noncomputable section

open Idealize.ShloMosaic Idealize.ShloMosaic.TcCoe Idealize.SL.Sem

namespace Cert.KernelIdeal.Fox

open Cert.KernelIdeal Cert.KernelIdeal.Gen

/-! ### Zeros and the two joined stores -/

theorem pay16_apply (j : Fin 8192) (e : Fin 128) : k0_pay16 (F := Ideal) (ix2 j e) = (0 : EReal) := by
  unfold k0_pay16
  pointwise

theorem pay17_apply (j : Fin 8192) (e : Fin 128) : k0_pay17 (F := Ideal) (ix2 j e) = (0 : EReal) := by
  unfold k0_pay17
  pointwise

theorem pay18_apply (b : Fin 8) (l : Fin 1024) : k0_pay18 (F := Ideal) (ix4 0 b 0 l) = (0 : EReal) := by
  unfold k0_pay18
  pointwise

theorem pay21_apply (r : Fin 1024) (e : Fin 128) : k0_pay21 (F := Ideal) (ix2 r e) = (0 : EReal) := by
  unfold k0_pay21
  pointwise

theorem pay22_apply (r : Fin 1024) : k0_pay22 (F := Ideal) (ix2 r 0) = (0 : EReal) := by
  unfold k0_pay22
  pointwise

theorem pay3_apply (a : Vec Ideal S8192x128 .f32) (j : Fin 8192) (e : Fin 128) :
    k0_pay3 a (ix2 j e) = (a (ix2 j e) : EReal) := by
  unfold k0_pay3
  pointwise

theorem pay1_lo (a b : FVec Ideal S512x128 .f32) (r : Fin 1024) (r' : Fin 512) (h : r.val = r'.val) (e : Fin 128) :
    k0_pay1 a b (ix2 r e) = b (ix2 r' e) := by
  unfold k0_pay1
  pointwise
  rw [dif_pos (by omega)]
  exact congrArg (fun x => b (ix2 x e)) (Fin.ext h)

theorem pay1_hi (a b : FVec Ideal S512x128 .f32) (r : Fin 1024) (r' : Fin 512) (h : r.val = 512 + r'.val) (e : Fin 128) :
    k0_pay1 a b (ix2 r e) = a (ix2 r' e) := by
  unfold k0_pay1
  pointwise
  rw [dif_neg (by omega)]
  exact congrArg (fun x => a (ix2 x e)) (Fin.ext (by dsimp only; omega))

theorem pay2_lo (a : FVec Ideal S1024x1 .f32) (b : FVec Ideal S512x1 .f32) (r : Fin 1024) (h : r.val < 512) :
    k0_pay2 a b (ix3 0 r 0) = a (ix2 r 0) := by
  unfold k0_pay2
  pointwise
  rw [dif_pos h]

theorem pay2_hi (a : FVec Ideal S1024x1 .f32) (b : FVec Ideal S512x1 .f32) (r : Fin 1024) (r' : Fin 512)
    (h : r.val = 512 + r'.val) : k0_pay2 a b (ix3 0 r 0) = b (ix2 r' 0) := by
  unfold k0_pay2
  pointwise
  rw [dif_neg (by omega)]
  exact congrArg (fun x => b (ix2 x 0)) (Fin.ext (by dsimp only; omega))

/-! ### The masked weights -/

section
variable (L D : FVec Ideal S1024x1 .f32) (x0 : Vec Ideal S1024x256 .bf16) (x1 : Vec Ideal S1024x128 .bf16)
  (x4 : Vec Ideal S8192x256 .bf16) (x5 : Vec Ideal S8192x128 .bf16)

theorem up_wt (q : Vec Ideal S1024x256 .bf16) (k : Vec Ideal S512x256 .bf16) (r : Fin 1024) (l : Fin 512) (j : Fin 8192)
    (hq : ∀ d, q (ix2 r d) = x0 (ix2 r d)) (hk : ∀ d, k (ix2 l d) = x4 (ix2 j d)) :
    k0_pay33 L k0_pay29 (k0_pay30 q) (k0_pay32 k) (constant S1024x512 .f32 0x00000000#32) (ix2 r l)
      = if l.val ≤ r.val then wt x0 L x4 r j else 0 := by
  rw [pay33_apply, wt]
  simp only [hq, hk]

theorem up_ds (q : Vec Ideal S1024x256 .bf16) (g : Vec Ideal S1024x128 .bf16) (k : Vec Ideal S512x256 .bf16)
    (v : Vec Ideal S512x128 .bf16) (r : Fin 1024) (l : Fin 512) (j : Fin 8192)
    (hq : ∀ d, q (ix2 r d) = x0 (ix2 r d)) (hg : ∀ d, g (ix2 r d) = x1 (ix2 r d))
    (hk : ∀ d, k (ix2 l d) = x4 (ix2 j d)) (hv : ∀ d, v (ix2 l d) = x5 (ix2 j d)) :
    k0_pay34 L D k0_pay29 (k0_pay30 q) (k0_pay31 g) (k0_pay32 k) (constant S1024x512 .f32 0x00000000#32) v (ix2 r l)
      = if l.val ≤ r.val then dsw x0 x1 L D x4 x5 r j else 0 := by
  rw [pay34_apply, up_wt L x0 x4 q k r l j hq hk, ite_mul, zero_mul, dsw, gap]
  simp only [hg, hv]

theorem low_wt (q k : Vec Ideal S512x256 .bf16) (r l : Fin 512) (r' : Fin 1024) (j : Fin 8192) (hr : r'.val = 512 + r.val)
    (hq : ∀ d, q (ix2 r d) = x0 (ix2 r' d)) (hk : ∀ d, k (ix2 l d) = x4 (ix2 j d)) :
    k0_pay45 L q k (ix2 r l) = if l.val ≤ r.val then wt x0 L x4 r' j else 0 := by
  have e : (⟨512 + r.val, by omega⟩ : Fin 1024) = r' := Fin.ext hr.symm
  rw [pay45_apply, wt, e]
  simp only [hq, hk]

theorem low_ds (q : Vec Ideal S512x256 .bf16) (g : Vec Ideal S512x128 .bf16) (k : Vec Ideal S512x256 .bf16)
    (v : Vec Ideal S512x128 .bf16) (r l : Fin 512) (r' : Fin 1024) (j : Fin 8192) (hr : r'.val = 512 + r.val)
    (hq : ∀ d, q (ix2 r d) = x0 (ix2 r' d)) (hg : ∀ d, g (ix2 r d) = x1 (ix2 r' d))
    (hk : ∀ d, k (ix2 l d) = x4 (ix2 j d)) (hv : ∀ d, v (ix2 l d) = x5 (ix2 j d)) :
    k0_pay46 L D q g k v (ix2 r l) = if l.val ≤ r.val then dsw x0 x1 L D x4 x5 r' j else 0 := by
  rw [pay46_apply, low_wt L x0 x4 q k r l r' j hr hq hk, ite_mul, zero_mul]
  have e : (⟨512 + r.val, by omega⟩ : Fin 1024) = r' := Fin.ext hr.symm
  rw [dsw, gap, e]
  simp only [hg, hv]

end

/-! ### Sums over the two halves -/

theorem masked_mul {p : Prop} [Decidable p] {a b x y : EReal} (h : a = if p then b else 0) (hx : x = y) :
    (a * x : EReal) = if p then b * y else 0 := by
  rw [h, hx, ite_mul, zero_mul]

theorem qi_lt (i : grid0.Coords) : (i 1).val < 8 := (i 1).isLt

/-- A sum over 1024 rows whose first half is zero is the sum over the second half. -/
theorem sum_second (F : Fin 1024 → EReal) (h : ∀ r : Fin 1024, r.val < 512 → F r = 0) :
    (∑ r : Fin 512, F ⟨512 + r.val, by omega⟩) = ∑ r : Fin 1024, F r := by
  rw [sum_window (N := 1024) (n := 512) 512 (by omega) F]
  refine Finset.sum_congr rfl fun r _ => ?_
  by_cases hr : r.val < 512
  · rw [if_neg (by omega), h r hr]
  · rw [if_pos (by omega)]

/-- The two halves of block `n`. -/
theorem ite_halves (j n : ℕ) (t : EReal) :
    ((if 1024 * n ≤ j ∧ j < 1024 * n + 512 then t else 0) + (if 1024 * n + 512 ≤ j ∧ j < 1024 * n + 512 + 512 then t else 0) : EReal)
      = if 1024 * n ≤ j ∧ j < 1024 * n + 1024 then t else 0 := by
  by_cases h1 : 1024 * n ≤ j ∧ j < 1024 * n + 512
  · rw [if_pos h1, if_neg (by omega), if_pos (by omega), add_zero]
  · by_cases h2 : 1024 * n + 512 ≤ j ∧ j < 1024 * n + 512 + 512
    · rw [if_neg h1, if_pos h2, if_pos (by omega), zero_add]
    · rw [if_neg h1, if_neg h2, if_neg (by omega), add_zero]

/-! ### The stores of the diagonal block -/

section
variable (i : grid0.Coords) (L D : FVec Ideal S1024x1 .f32)
  (arg2 : Memref sig .tc .vmem S1024x256 .bf16) (harg2 : arg2.IsWhole) (x0 : Vec Ideal S1024x256 .bf16)
  (arg3 : Memref sig .tc .vmem S1024x128 .bf16) (harg3 : arg3.IsWhole) (x1 : Vec Ideal S1024x128 .bf16)
  (arg6 : Memref sig .tc .vmem S8192x256 .bf16) (harg6 : arg6.IsWhole) (x4 : Vec Ideal S8192x256 .bf16)
  (arg7 : Memref sig .tc .vmem S8192x128 .bf16) (harg7 : arg7.IsWhole) (x5 : Vec Ideal S8192x128 .bf16)

/-- The block's query rows, and their gradients. -/
abbrev ldQ : Vec Ideal S1024x256 .bf16 :=
  arg2.view.readAt (Elt Ideal) (Rect.unit (s := S1024x256) ![0, 0] S1024x256.size inb_S1024x256_S1024x256_0_0).toLoadRect (harg2.unread x0)
abbrev ldQ' : Vec Ideal S1024x128 .bf16 :=
  arg2.view.readAt (Elt Ideal) (Rect.unit (s := S1024x256) ![0, 0] S1024x128.size inb_S1024x256_S1024x128_0_0).toLoadRect (harg2.unread x0)
abbrev ldG : Vec Ideal S1024x128 .bf16 :=
  arg3.view.readAt (Elt Ideal) (Rect.unit (s := S1024x128) ![0, 0] S1024x128.size inb_S1024x128_S1024x128_0_0).toLoadRect (harg3.unread x1)
/-- The second half of the block's query rows, and their gradients. -/
abbrev ldQ2 : Vec Ideal S512x256 .bf16 :=
  arg2.view.readAt (Elt Ideal) (Rect.unit (s := S1024x256) ![512, 0] S512x256.size inb_S1024x256_S512x256_512_0).toLoadRect (harg2.unread x0)
abbrev ldQ2' : Vec Ideal S512x128 .bf16 :=
  arg2.view.readAt (Elt Ideal) (Rect.unit (s := S1024x256) ![512, 0] S512x128.size inb_S1024x256_S512x128_512_0).toLoadRect (harg2.unread x0)
abbrev ldG2 : Vec Ideal S512x128 .bf16 :=
  arg3.view.readAt (Elt Ideal) (Rect.unit (s := S1024x128) ![512, 0] S512x128.size inb_S1024x128_S512x128_512_0).toLoadRect (harg3.unread x1)
/-- The keys and values of the first half, then of the second half. -/
abbrev ldK : Vec Ideal S512x256 .bf16 :=
  arg6.view.readAt (Elt Ideal) (Rect.unit (s := S8192x256) (k0_off9 i) S512x256.size (k0_off9_inb i)).toLoadRect (harg6.unread x4)
abbrev ldK' : Vec Ideal S512x128 .bf16 :=
  arg6.view.readAt (Elt Ideal) (Rect.unit (s := S8192x256) (k0_off12 i) S512x128.size (k0_off12_inb i)).toLoadRect (harg6.unread x4)
abbrev ldV : Vec Ideal S512x128 .bf16 :=
  arg7.view.readAt (Elt Ideal) (Rect.unit (s := S8192x128) (k0_off10 i) S512x128.size (k0_off10_inb i)).toLoadRect (harg7.unread x5)
abbrev ldK2 : Vec Ideal S512x256 .bf16 :=
  arg6.view.readAt (Elt Ideal) (Rect.unit (s := S8192x256) (k0_off13 i) S512x256.size (k0_off13_inb i)).toLoadRect (harg6.unread x4)
abbrev ldK2' : Vec Ideal S512x128 .bf16 :=
  arg6.view.readAt (Elt Ideal) (Rect.unit (s := S8192x256) (k0_off16 i) S512x128.size (k0_off16_inb i)).toLoadRect (harg6.unread x4)
abbrev ldV2 : Vec Ideal S512x128 .bf16 :=
  arg7.view.readAt (Elt Ideal) (Rect.unit (s := S8192x128) (k0_off14 i) S512x128.size (k0_off14_inb i)).toLoadRect (harg7.unread x5)

abbrev zz : FVec Ideal S1024x512 .f32 := constant S1024x512 .f32 0x00000000#32

/-- The two halves' weights and score gradients, as the kernel makes them. -/
abbrev upP : FVec Ideal S1024x512 .f32 :=
  k0_pay33 L k0_pay29 (k0_pay30 (ldQ arg2 harg2 x0)) (k0_pay32 (ldK i arg6 harg6 x4)) zz
abbrev upS : FVec Ideal S1024x512 .f32 :=
  k0_pay34 L D k0_pay29 (k0_pay30 (ldQ arg2 harg2 x0)) (k0_pay31 (ldG arg3 harg3 x1)) (k0_pay32 (ldK i arg6 harg6 x4)) zz
    (ldV i arg7 harg7 x5)
abbrev lowP : FVec Ideal S512x512 .f32 := k0_pay45 L (ldQ2 arg2 harg2 x0) (ldK2 i arg6 harg6 x4)
abbrev lowS : FVec Ideal S512x512 .f32 :=
  k0_pay46 L D (ldQ2 arg2 harg2 x0) (ldG2 arg3 harg3 x1) (ldK2 i arg6 harg6 x4) (ldV2 i arg7 harg7 x5)

theorem upP_apply (r : Fin 1024) (l : Fin 512) (j : Fin 8192) (hj : j.val = 1024 * (i 1).val + l.val) :
    upP i L arg2 harg2 x0 arg6 harg6 x4 (ix2 r l)
      = if j.val ≤ 1024 * (i 1).val + r.val then wt x0 L x4 r j else 0 := by
  refine (up_wt L x0 x4 _ _ r l j (fun d => load_whole arg2 harg2 x0 0 rfl _ r d r d (by omega) rfl)
    (fun d => load_whole arg6 harg6 x4 _ (off9_eq i) _ l d j d hj rfl)).trans (if_congr (by omega) rfl rfl)

theorem upS_apply (r : Fin 1024) (l : Fin 512) (j : Fin 8192) (hj : j.val = 1024 * (i 1).val + l.val) :
    upS i L D arg2 harg2 x0 arg3 harg3 x1 arg6 harg6 x4 arg7 harg7 x5 (ix2 r l)
      = if j.val ≤ 1024 * (i 1).val + r.val then dsw x0 x1 L D x4 x5 r j else 0 := by
  refine (up_ds L D x0 x1 x4 x5 _ _ _ _ r l j (fun d => load_whole arg2 harg2 x0 0 rfl _ r d r d (by omega) rfl)
    (fun d => load_whole arg3 harg3 x1 0 rfl _ r d r d (by omega) rfl)
    (fun d => load_whole arg6 harg6 x4 _ (off9_eq i) _ l d j d hj rfl)
    (fun d => load_whole arg7 harg7 x5 _ (off10_eq i) _ l d j d hj rfl)).trans (if_congr (by omega) rfl rfl)

theorem lowP_apply (r l : Fin 512) (r' : Fin 1024) (hr : r'.val = 512 + r.val) (j : Fin 8192)
    (hj : j.val = 1024 * (i 1).val + 512 + l.val) :
    lowP i L arg2 harg2 x0 arg6 harg6 x4 (ix2 r l)
      = if j.val ≤ 1024 * (i 1).val + r'.val then wt x0 L x4 r' j else 0 := by
  refine (low_wt L x0 x4 _ _ r l r' j hr (fun d => load_whole arg2 harg2 x0 512 rfl _ r d r' d hr rfl)
    (fun d => load_whole arg6 harg6 x4 _ (off13_eq i) _ l d j d hj rfl)).trans (if_congr (by omega) rfl rfl)

theorem lowS_apply (r l : Fin 512) (r' : Fin 1024) (hr : r'.val = 512 + r.val) (j : Fin 8192)
    (hj : j.val = 1024 * (i 1).val + 512 + l.val) :
    lowS i L D arg2 harg2 x0 arg3 harg3 x1 arg6 harg6 x4 arg7 harg7 x5 (ix2 r l)
      = if j.val ≤ 1024 * (i 1).val + r'.val then dsw x0 x1 L D x4 x5 r' j else 0 := by
  refine (low_ds L D x0 x1 x4 x5 _ _ _ _ r l r' j hr (fun d => load_whole arg2 harg2 x0 512 rfl _ r d r' d hr rfl)
    (fun d => load_whole arg3 harg3 x1 512 rfl _ r d r' d hr rfl)
    (fun d => load_whole arg6 harg6 x4 _ (off13_eq i) _ l d j d hj rfl)
    (fun d => load_whole arg7 harg7 x5 _ (off14_eq i) _ l d j d hj rfl)).trans (if_congr (by omega) rfl rfl)

/-- A masked sum over all the block's rows, taken over the second half of them where the key is in the second half. -/
theorem sum_low (F : Fin 1024 → EReal) (j : Fin 8192) (l : Fin 512) (hj : j.val = 1024 * (i 1).val + 512 + l.val)
    (G : Fin 512 → EReal)
    (hG : ∀ (r : Fin 512) (r' : Fin 1024), r'.val = 512 + r.val → G r = if j.val ≤ 1024 * (i 1).val + r'.val then F r' else 0) :
    ∑ r : Fin 512, G r = ∑ r : Fin 1024, if j.val ≤ 1024 * (i 1).val + r.val then F r else 0 := by
  rw [← sum_second _ (fun r hr => if_neg (by omega))]
  exact Finset.sum_congr rfl fun r _ => hG r ⟨512 + r.val, by omega⟩ rfl

section
variable (arg9 : Memref sig .tc .vmem S8192x128 .f32) (f : BufTy.Contents (Elt Ideal) arg9.view.ty)
  (P : List (View.Piece (Elt Ideal) S8192x128 .f32))

/-- The pieces of the key gradients after the block's first half, then after its second half. -/
abbrev dkUp : List (View.Piece (Elt Ideal) S8192x128 .f32) :=
  ⟨Rect.unit (s := S8192x128) (k0_off10 i) ![512, 128] (k0_off10_inb i),
    k0_pay36 L D k0_pay29 (k0_pay30 (ldQ arg2 harg2 x0)) (k0_pay31 (ldG arg3 harg3 x1)) (k0_pay32 (ldK i arg6 harg6 x4)) zz
      (ldV i arg7 harg7 x5)
      (arg9.view.readAt (Elt Ideal) (Rect.unit (s := S8192x128) (k0_off10 i) ![512, 128] (k0_off10_inb i)).toLoadRect
        (arg9.view.writes (Elt Ideal) f P)) (ldQ' arg2 harg2 x0)⟩ :: P

abbrev dkAll : List (View.Piece (Elt Ideal) S8192x128 .f32) :=
  ⟨Rect.unit (s := S8192x128) (k0_off14 i) ![512, 128] (k0_off14_inb i),
    k0_pay48 (k0_pay47 L D (ldQ2 arg2 harg2 x0) (ldG2 arg3 harg3 x1) (ldK2 i arg6 harg6 x4) (ldV2 i arg7 harg7 x5))
      (arg9.view.readAt (Elt Ideal) (Rect.unit (s := S8192x128) (k0_off14 i) ![512, 128] (k0_off14_inb i)).toLoadRect
        (arg9.view.writes (Elt Ideal) f (dkUp i L D arg2 harg2 x0 arg3 harg3 x1 arg6 harg6 x4 arg7 harg7 x5 arg9 f P)))
      (ldQ2' arg2 harg2 x0)⟩ :: dkUp i L D arg2 harg2 x0 arg3 harg3 x1 arg6 harg6 x4 arg7 harg7 x5 arg9 f P

/-- What the diagonal block adds to the key gradients. -/
theorem diag_dk (j : Fin 8192) (e : Fin 128) :
    arg9.view.read (Elt Ideal) (arg9.view.writes (Elt Ideal) f
        (dkAll i L D arg2 harg2 x0 arg3 harg3 x1 arg6 harg6 x4 arg7 harg7 x5 arg9 f P)) (ix2 j e)
      = ((arg9.view.read (Elt Ideal) (arg9.view.writes (Elt Ideal) f P) (ix2 j e) : EReal)
          + (if 1024 * (i 1).val ≤ j.val ∧ j.val < 1024 * (i 1).val + 1024 then
              ∑ r : Fin 1024, (if j.val ≤ 1024 * (i 1).val + r.val then dsw x0 x1 L D x4 x5 r j * x0 (ix2 r (lo e)) else 0)
              else 0) : EReal) := by
  rw [← ite_halves, ← add_assoc]
  refine (add_rows (n := 512) arg9.view f _ (1024 * (i 1).val + 512) (off14_eq i) (k0_off14_inb i) _
    (fun j e => ∑ r : Fin 1024, (if j.val ≤ 1024 * (i 1).val + r.val then dsw x0 x1 L D x4 x5 r j * x0 (ix2 r (lo e)) else 0))
    ?_ j e).trans (congrArg (fun z : EReal => (z + _ : EReal)) ?_)
  · intro l c j' hj
    refine (pay48_apply L D _ _ _ _ _ _ l c).trans ?_
    refine congrArg₂ (· + ·) (load2 arg9.view _ _ (off14_eq i) _ l c j' c hj rfl)
      (sum_low i (fun r => dsw x0 x1 L D x4 x5 r j' * x0 (ix2 r (lo c))) j' l hj _ fun r r' hr => ?_)
    exact masked_mul (lowS_apply i L D arg2 harg2 x0 arg3 harg3 x1 arg6 harg6 x4 arg7 harg7 x5 r l r' hr j' hj) <|
      load_whole arg2 harg2 x0 512 rfl _ r c r' (lo c) hr rfl
  · refine add_rows (n := 512) arg9.view f P (1024 * (i 1).val) (off10_eq i) (k0_off10_inb i) _
      (fun j e => ∑ r : Fin 1024, (if j.val ≤ 1024 * (i 1).val + r.val then dsw x0 x1 L D x4 x5 r j * x0 (ix2 r (lo e)) else 0))
      ?_ j e
    intro l c j' hj
    refine (pay36_apply L D _ _ _ _ _ _ _ _ l c).trans ?_
    refine congrArg₂ (· + ·) (load2 arg9.view _ _ (off10_eq i) _ l c j' c hj rfl) (Finset.sum_congr rfl fun r _ => ?_)
    exact masked_mul (upS_apply i L D arg2 harg2 x0 arg3 harg3 x1 arg6 harg6 x4 arg7 harg7 x5 r l j' hj) <|
      load_whole arg2 harg2 x0 0 rfl _ r c r (lo c) (by omega) rfl

abbrev dvUp : List (View.Piece (Elt Ideal) S8192x128 .f32) :=
  ⟨Rect.unit (s := S8192x128) (k0_off10 i) ![512, 128] (k0_off10_inb i),
    k0_pay37 L k0_pay29 (k0_pay30 (ldQ arg2 harg2 x0)) (k0_pay31 (ldG arg3 harg3 x1)) (k0_pay32 (ldK i arg6 harg6 x4)) zz
      (arg9.view.readAt (Elt Ideal) (Rect.unit (s := S8192x128) (k0_off10 i) ![512, 128] (k0_off10_inb i)).toLoadRect
        (arg9.view.writes (Elt Ideal) f P))⟩ :: P

abbrev dvAll : List (View.Piece (Elt Ideal) S8192x128 .f32) :=
  ⟨Rect.unit (s := S8192x128) (k0_off14 i) ![512, 128] (k0_off14_inb i),
    k0_pay49 (k0_pay44 (ldG2 arg3 harg3 x1)) (lowP i L arg2 harg2 x0 arg6 harg6 x4)
      (arg9.view.readAt (Elt Ideal) (Rect.unit (s := S8192x128) (k0_off14 i) ![512, 128] (k0_off14_inb i)).toLoadRect
        (arg9.view.writes (Elt Ideal) f (dvUp i L arg2 harg2 x0 arg3 harg3 x1 arg6 harg6 x4 arg9 f P)))⟩
    :: dvUp i L arg2 harg2 x0 arg3 harg3 x1 arg6 harg6 x4 arg9 f P

/-- What the diagonal block adds to the value gradients. -/
theorem diag_dv (j : Fin 8192) (e : Fin 128) :
    arg9.view.read (Elt Ideal) (arg9.view.writes (Elt Ideal) f
        (dvAll i L arg2 harg2 x0 arg3 harg3 x1 arg6 harg6 x4 arg9 f P)) (ix2 j e)
      = ((arg9.view.read (Elt Ideal) (arg9.view.writes (Elt Ideal) f P) (ix2 j e) : EReal)
          + (if 1024 * (i 1).val ≤ j.val ∧ j.val < 1024 * (i 1).val + 1024 then
              ∑ r : Fin 1024, (if j.val ≤ 1024 * (i 1).val + r.val then wt x0 L x4 r j * x1 (ix2 r e) else 0)
              else 0) : EReal) := by
  rw [← ite_halves, ← add_assoc]
  refine (add_rows (n := 512) arg9.view f _ (1024 * (i 1).val + 512) (off14_eq i) (k0_off14_inb i) _
    (fun j e => ∑ r : Fin 1024, (if j.val ≤ 1024 * (i 1).val + r.val then wt x0 L x4 r j * x1 (ix2 r e) else 0))
    ?_ j e).trans (congrArg (fun z : EReal => (z + _ : EReal)) ?_)
  · intro l c j' hj
    refine (pay49_apply _ _ _ l c).trans ?_
    refine congrArg₂ (· + ·) (load2 arg9.view _ _ (off14_eq i) _ l c j' c hj rfl)
      (sum_low i (fun r => wt x0 L x4 r j' * x1 (ix2 r c)) j' l hj _ fun r r' hr => ?_)
    exact masked_mul (lowP_apply i L arg2 harg2 x0 arg6 harg6 x4 r l r' hr j' hj) <|
      load_whole arg3 harg3 x1 512 rfl _ r c r' c hr rfl
  · refine add_rows (n := 512) arg9.view f P (1024 * (i 1).val) (off10_eq i) (k0_off10_inb i) _
      (fun j e => ∑ r : Fin 1024, (if j.val ≤ 1024 * (i 1).val + r.val then wt x0 L x4 r j * x1 (ix2 r e) else 0))
      ?_ j e
    intro l c j' hj
    refine (pay37_apply L _ _ _ _ _ _ l c).trans ?_
    refine congrArg₂ (· + ·) (load2 arg9.view _ _ (off10_eq i) _ l c j' c hj rfl) (Finset.sum_congr rfl fun r _ => ?_)
    exact masked_mul (upP_apply i L arg2 harg2 x0 arg6 harg6 x4 r l j' hj) <|
      load_whole arg3 harg3 x1 0 rfl _ r c r c (by omega) rfl

end

section
variable (arg11 : Memref sig .tc .vmem S1x8x1x1024 .f32) (f : BufTy.Contents (Elt Ideal) arg11.view.ty)
  (P : List (View.Piece (Elt Ideal) S1x8x1x1024 .f32))

abbrev dfUp : List (View.Piece (Elt Ideal) S1x8x1x1024 .f32) :=
  ⟨Rect.unit (s := S1x8x1x1024) (k0_off11 i) ![1, 1, 1, 512] (k0_off11_inb i),
    k0_pay39 (k0_pay38 L D k0_pay29 (k0_pay30 (ldQ arg2 harg2 x0)) (k0_pay31 (ldG arg3 harg3 x1))
      (k0_pay32 (ldK i arg6 harg6 x4)) zz (ldV i arg7 harg7 x5)
      (arg11.view.readAt (Elt Ideal) (Rect.unit (s := S1x8x1x1024) (k0_off11 i) ![1, 1, 1, 512] (k0_off11_inb i)).toLoadRect
        (arg11.view.writes (Elt Ideal) f P)))⟩ :: P

abbrev dfAll : List (View.Piece (Elt Ideal) S1x8x1x1024 .f32) :=
  ⟨Rect.unit (s := S1x8x1x1024) (k0_off15 i) ![1, 1, 1, 512] (k0_off15_inb i),
    k0_pay50 (lowS i L D arg2 harg2 x0 arg3 harg3 x1 arg6 harg6 x4 arg7 harg7 x5)
      (arg11.view.readAt (Elt Ideal) (Rect.unit (s := S1x8x1x1024) (k0_off15 i) ![1, 1, 1, 512] (k0_off15_inb i)).toLoadRect
        (arg11.view.writes (Elt Ideal) f (dfUp i L D arg2 harg2 x0 arg3 harg3 x1 arg6 harg6 x4 arg7 harg7 x5 arg11 f P)))⟩
    :: dfUp i L D arg2 harg2 x0 arg3 harg3 x1 arg6 harg6 x4 arg7 harg7 x5 arg11 f P

/-- What the diagonal block adds to the key side's gate gradients. -/
theorem diag_df (b : Fin 8) (l : Fin 1024) :
    arg11.view.read (Elt Ideal) (arg11.view.writes (Elt Ideal) f
        (dfAll i L D arg2 harg2 x0 arg3 harg3 x1 arg6 harg6 x4 arg7 harg7 x5 arg11 f P)) (ix4 0 b 0 l)
      = ((arg11.view.read (Elt Ideal) (arg11.view.writes (Elt Ideal) f P) (ix4 0 b 0 l) : EReal)
          + (if b.val = (i 1).val then
              0 - ∑ r : Fin 1024, (if (kr b l).val ≤ 1024 * (i 1).val + r.val then dsw x0 x1 L D x4 x5 r (kr b l) else 0)
              else 0) : EReal) := by
  have hsplit : ∀ t : EReal, (if b.val = (i 1).val then t else 0 : EReal)
      = (if b.val = (i 1).val ∧ 0 ≤ l.val ∧ l.val < 0 + 512 then t else 0)
        + (if b.val = (i 1).val ∧ 512 ≤ l.val ∧ l.val < 512 + 512 then t else 0) := by
    intro t
    by_cases hb : b.val = (i 1).val
    · by_cases hl : l.val < 512
      · rw [if_pos hb, if_pos (by omega), if_neg (by omega), add_zero]
      · rw [if_pos hb, if_neg (by omega), if_pos (by omega), zero_add]
    · rw [if_neg hb, if_neg (by omega), if_neg (by omega), add_zero]
  rw [hsplit, ← add_assoc]
  refine (add_lanes (n := 512) arg11.view f _ (i 1).val 512 (off15_eq i) (k0_off15_inb i) _
    (fun b l => 0 - ∑ r : Fin 1024,
      (if (kr b l).val ≤ 1024 * (i 1).val + r.val then dsw x0 x1 L D x4 x5 r (kr b l) else 0))
    ?_ b l).trans (congrArg (fun z : EReal => (z + _ : EReal)) ?_)
  · intro l b' l' hb hl
    have hj : (kr b' l').val = 1024 * (i 1).val + 512 + l.val := by dsimp only [kr]; omega
    refine (pay50_apply _ _ l).trans ?_
    refine congrArg₂ (· + ·) (load4 arg11.view _ _ _ (off15_eq i) _ l b' l' hb hl) (congrArg (fun z : EReal => (0 - z : EReal)) ?_)
    exact sum_low i (fun r => dsw x0 x1 L D x4 x5 r (kr b' l')) (kr b' l') l hj _ fun r r' hr =>
      lowS_apply i L D arg2 harg2 x0 arg3 harg3 x1 arg6 harg6 x4 arg7 harg7 x5 r l r' hr (kr b' l') hj
  · refine add_lanes (n := 512) arg11.view f P (i 1).val 0 (off11_eq i) (k0_off11_inb i) _
      (fun b l => 0 - ∑ r : Fin 1024,
        (if (kr b l).val ≤ 1024 * (i 1).val + r.val then dsw x0 x1 L D x4 x5 r (kr b l) else 0)) ?_ b l
    intro l b' l' hb hl
    have hj : (kr b' l').val = 1024 * (i 1).val + l.val := by dsimp only [kr]; omega
    refine (pay39_apply L D _ _ _ _ _ _ _ l).trans ?_
    refine congrArg₂ (· + ·) (load4 arg11.view _ _ _ (off11_eq i) _ l b' l' hb hl) (congrArg (fun z : EReal => (0 - z : EReal)) ?_)
    exact Finset.sum_congr rfl fun r _ =>
      upS_apply i L D arg2 harg2 x0 arg3 harg3 x1 arg6 harg6 x4 arg7 harg7 x5 r l (kr b' l') hj

end

/-- The first half's masked sum over its keys, for a row of the first half, is the masked sum over the keys from the
    block's first on. -/
theorem sum_keys_up (r : Fin 1024) (a : EReal) (F : Fin 8192 → EReal) (U : Fin 512 → EReal)
    (hU : ∀ (l : Fin 512) (j : Fin 8192), j.val = 1024 * (i 1).val + l.val →
      U l = if j.val ≤ 1024 * (i 1).val + r.val then F j else 0) (hr : r.val < 512) :
    (a + ∑ l, U l : EReal)
      = a + ∑ j : Fin 8192, if 1024 * (i 1).val ≤ j.val then (if j.val ≤ 1024 * (i 1).val + r.val then F j else 0) else 0 := by
  have hq := qi_lt i
  rw [(Finset.sum_congr rfl fun l _ => hU l ⟨1024 * (i 1).val + l.val, by omega⟩ rfl).trans
    (sum_window (N := 8192) (n := 512) (1024 * (i 1).val) (by omega)
      (fun j => if j.val ≤ 1024 * (i 1).val + r.val then F j else 0))]
  refine congrArg (a + ·) (Finset.sum_congr rfl fun j _ => ?_)
  by_cases h1 : j.val ≤ 1024 * (i 1).val + r.val
  · simp only [if_pos h1]
    exact if_congr (by omega) rfl rfl
  · simp only [if_neg h1, ite_self]

/-- The two halves' masked sums over their keys are the masked sum over the keys from the block's first on. -/
theorem sum_keys (r : Fin 1024) (a : EReal) (F : Fin 8192 → EReal) (U : Fin 512 → EReal) (W : Fin 512 → EReal)
    (hU : ∀ (l : Fin 512) (j : Fin 8192), j.val = 1024 * (i 1).val + l.val →
      U l = if j.val ≤ 1024 * (i 1).val + r.val then F j else 0)
    (hW : ∀ (l : Fin 512) (j : Fin 8192), j.val = 1024 * (i 1).val + 512 + l.val →
      W l = if j.val ≤ 1024 * (i 1).val + r.val then F j else 0) :
    ((a + ∑ l, U l) + ∑ l, W l : EReal)
      = a + ∑ j : Fin 8192, if 1024 * (i 1).val ≤ j.val then (if j.val ≤ 1024 * (i 1).val + r.val then F j else 0) else 0 := by
  have hq := qi_lt i
  rw [(Finset.sum_congr rfl fun l _ => hU l ⟨1024 * (i 1).val + l.val, by omega⟩ rfl).trans
    (sum_window (N := 8192) (n := 512) (1024 * (i 1).val) (by omega)
      (fun j => if j.val ≤ 1024 * (i 1).val + r.val then F j else 0)),
    (Finset.sum_congr rfl fun l _ => hW l ⟨1024 * (i 1).val + 512 + l.val, by omega⟩ rfl).trans
    (sum_window (N := 8192) (n := 512) (1024 * (i 1).val + 512) (by omega)
      (fun j => if j.val ≤ 1024 * (i 1).val + r.val then F j else 0)), add_assoc, ← Finset.sum_add_distrib]
  refine congrArg (a + ·) (Finset.sum_congr rfl fun j _ => ?_)
  rw [ite_halves]
  by_cases h1 : j.val ≤ 1024 * (i 1).val + r.val
  · simp only [if_pos h1]
    exact if_congr (by omega) rfl rfl
  · simp only [if_neg h1, ite_self]

abbrev dqUp (a : FVec Ideal S1024x128 .f32) : FVec Ideal S1024x128 .f32 :=
  k0_pay40 a (k0_pay35 L D k0_pay29 (k0_pay30 (ldQ arg2 harg2 x0)) (k0_pay31 (ldG arg3 harg3 x1))
    (k0_pay32 (ldK i arg6 harg6 x4)) zz (ldV i arg7 harg7 x5)) (ldK' i arg6 harg6 x4)

abbrev dqLow (a : FVec Ideal S1024x128 .f32) : FVec Ideal S512x128 .f32 :=
  k0_pay51 (k0_pay42 a (k0_pay35 L D k0_pay29 (k0_pay30 (ldQ arg2 harg2 x0)) (k0_pay31 (ldG arg3 harg3 x1))
    (k0_pay32 (ldK i arg6 harg6 x4)) zz (ldV i arg7 harg7 x5)) (ldK' i arg6 harg6 x4))
    (k0_pay47 L D (ldQ2 arg2 harg2 x0) (ldG2 arg3 harg3 x1) (ldK2 i arg6 harg6 x4) (ldV2 i arg7 harg7 x5))
    (ldK2' i arg6 harg6 x4)

/-- What the diagonal block adds to the query gradients. -/
theorem diag_dq (a : FVec Ideal S1024x128 .f32) (r : Fin 1024) (e : Fin 128) :
    k0_pay1 (dqLow i L D arg2 harg2 x0 arg3 harg3 x1 arg6 harg6 x4 arg7 harg7 x5 a)
        (k0_pay53 (dqUp i L D arg2 harg2 x0 arg3 harg3 x1 arg6 harg6 x4 arg7 harg7 x5 a)) (ix2 r e)
      = ((a (ix2 r e) : EReal) + ∑ j : Fin 8192, if 1024 * (i 1).val ≤ j.val then
          (if j.val ≤ 1024 * (i 1).val + r.val then dsw x0 x1 L D x4 x5 r j * x4 (ix2 j (lo e)) else 0) else 0 : EReal) := by
  have hU : ∀ (l : Fin 512) (j : Fin 8192), j.val = 1024 * (i 1).val + l.val →
      (upS i L D arg2 harg2 x0 arg3 harg3 x1 arg6 harg6 x4 arg7 harg7 x5 (ix2 r l) : EReal) * ldK' i arg6 harg6 x4 (ix2 l e)
        = if j.val ≤ 1024 * (i 1).val + r.val then dsw x0 x1 L D x4 x5 r j * x4 (ix2 j (lo e)) else 0 := fun l j hj =>
    masked_mul (upS_apply i L D arg2 harg2 x0 arg3 harg3 x1 arg6 harg6 x4 arg7 harg7 x5 r l j hj)
      (load_whole arg6 harg6 x4 _ (off12_eq i) _ l e j (lo e) hj rfl)
  by_cases hr : r.val < 512
  · refine (pay1_lo _ _ r ⟨r.val, hr⟩ rfl e).trans ((pay53_apply _ _ e).trans ((pay40_apply L D _ _ _ _ _ _ _ _ r e).trans ?_))
    exact sum_keys_up i r _ _ _ hU hr
  · obtain ⟨s, hs⟩ : ∃ s : Fin 512, r.val = 512 + s.val := ⟨⟨r.val - 512, by omega⟩, by dsimp only; omega⟩
    have er : (⟨512 + s.val, by omega⟩ : Fin 1024) = r := Fin.ext hs.symm
    refine (pay1_hi _ _ r s hs e).trans ((pay51_apply L D _ _ _ _ _ _ s e).trans ?_)
    rw [pay42_apply, er]
    refine (congrArg (fun z : EReal => (z + _ : EReal)) (pay40_apply L D _ _ _ _ _ _ _ _ r e)).trans ?_
    exact sum_keys i r _ _ _ _ hU (fun l j hj =>
      masked_mul (lowS_apply i L D arg2 harg2 x0 arg3 harg3 x1 arg6 harg6 x4 arg7 harg7 x5 s l r hs j hj)
        (load_whole arg6 harg6 x4 _ (off16_eq i) _ l e j (lo e) hj rfl))

/-- What the diagonal block adds to the query side's gate gradients. -/
theorem diag_rs (a : FVec Ideal S1024x1 .f32) (r : Fin 1024) :
    k0_pay2 (k0_pay41 a (upS i L D arg2 harg2 x0 arg3 harg3 x1 arg6 harg6 x4 arg7 harg7 x5))
        (k0_pay52 (k0_pay43 a (upS i L D arg2 harg2 x0 arg3 harg3 x1 arg6 harg6 x4 arg7 harg7 x5))
          (lowS i L D arg2 harg2 x0 arg3 harg3 x1 arg6 harg6 x4 arg7 harg7 x5)) (ix3 0 r 0)
      = ((a (ix2 r 0) : EReal) + ∑ j : Fin 8192, if 1024 * (i 1).val ≤ j.val then
          (if j.val ≤ 1024 * (i 1).val + r.val then dsw x0 x1 L D x4 x5 r j else 0) else 0 : EReal) := by
  have hU := fun (l : Fin 512) (j : Fin 8192) (hj : j.val = 1024 * (i 1).val + l.val) =>
    upS_apply i L D arg2 harg2 x0 arg3 harg3 x1 arg6 harg6 x4 arg7 harg7 x5 r l j hj
  by_cases hr : r.val < 512
  · refine (pay2_lo _ _ r hr).trans ((pay41_apply _ _ r).trans ?_)
    exact sum_keys_up i r _ _ _ hU hr
  · obtain ⟨s, hs⟩ : ∃ s : Fin 512, r.val = 512 + s.val := ⟨⟨r.val - 512, by omega⟩, by dsimp only; omega⟩
    have er : (⟨512 + s.val, by omega⟩ : Fin 1024) = r := Fin.ext hs.symm
    refine (pay2_hi _ _ r s hs).trans ((pay52_apply _ _ s).trans ?_)
    rw [pay43_apply, er]
    refine (congrArg (fun z : EReal => (z + _ : EReal)) (pay41_apply _ _ r)).trans ?_
    exact sum_keys i r _ _ _ _ hU (fun l j hj =>
      lowS_apply i L D arg2 harg2 x0 arg3 harg3 x1 arg6 harg6 x4 arg7 harg7 x5 s l r hs j hj)

end

end Cert.KernelIdeal.Fox

end
-- ==== Proof.Core.lean ====
/- One grid point of the backward kernel at an index: what the loop over the earlier key blocks and the diagonal block
   together leave in each output and in the scratch. -/
module

public import proofs.«01_k».proof.Proof.Diag
public import proofs.«01_k».proof.Proof.Gen.KernelIdeal.Frame

@[expose] public section

set_option maxRecDepth 16384

noncomputable section

open Idealize.ShloMosaic Idealize.ShloMosaic.TcCoe Idealize.SL.Sem

namespace Cert.KernelIdeal.Fox

open Cert.KernelIdeal Cert.KernelIdeal.Gen

/-- The blocks before the diagonal and the diagonal block, for one key's masked sum over the rows. -/
theorem mask_rows (j n : ℕ) (F : Fin 1024 → EReal) :
    ((if j < 1024 * n then ∑ r : Fin 1024, F r else 0)
        + (if 1024 * n ≤ j ∧ j < 1024 * n + 1024 then ∑ r : Fin 1024, (if j ≤ 1024 * n + r.val then F r else 0) else 0) : EReal)
      = ∑ r : Fin 1024, if j ≤ 1024 * n + r.val then F r else 0 := by
  by_cases h1 : j < 1024 * n
  · rw [if_pos h1, if_neg (by omega), add_zero]
    exact Finset.sum_congr rfl fun r _ => (if_pos (by omega)).symm
  · by_cases h2 : j < 1024 * n + 1024
    · rw [if_neg h1, if_pos (by omega), zero_add]
    · rw [if_neg h1, if_neg (by omega), add_zero]
      exact (Finset.sum_eq_zero fun r _ => if_neg (by omega)).symm

/-- The same, for the negated sum of one lane of one key block. -/
theorem mask_lanes (b l n : ℕ) (hl : l < 1024) (F : Fin 1024 → EReal) :
    ((if b < n then 0 - ∑ r : Fin 1024, F r else 0)
        + (if b = n then 0 - ∑ r : Fin 1024, (if 1024 * b + l ≤ 1024 * n + r.val then F r else 0) else 0) : EReal)
      = 0 - ∑ r : Fin 1024, if 1024 * b + l ≤ 1024 * n + r.val then F r else 0 := by
  rcases lt_trichotomy b n with h | h | h
  · rw [if_pos h, if_neg (by omega), add_zero]
    exact congrArg (fun z : EReal => (0 - z : EReal)) (Finset.sum_congr rfl fun r _ => (if_pos (by omega)).symm)
  · rw [if_neg (by omega), if_pos h, zero_add]
  · rw [if_neg (by omega), if_neg (by omega), add_zero,
      Finset.sum_eq_zero fun r _ => if_neg (by omega), sub_zero]

/-- The same, for one row's masked sum over the keys. -/
theorem mask_keys (n : ℕ) (r : Fin 1024) (F : Fin 8192 → EReal) :
    ((∑ j : Fin 8192, if j.val < 1024 * n then F j else 0)
        + (∑ j : Fin 8192, if 1024 * n ≤ j.val then (if j.val ≤ 1024 * n + r.val then F j else 0) else 0) : EReal)
      = ∑ j : Fin 8192, if j.val ≤ 1024 * n + r.val then F j else 0 := by
  rw [← Finset.sum_add_distrib]
  refine Finset.sum_congr rfl fun j _ => ?_
  by_cases h1 : j.val < 1024 * n
  · rw [if_pos h1, if_neg (by omega), if_pos (by omega), add_zero]
  · rw [if_neg h1, if_pos (by omega), zero_add]

section
variable (𝒱 : Variants) (c : Dev nD) (bd : Option 𝒱.V) (i : grid0.Coords) (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (v3 : Vec Ideal S1x1024x1 .f32) (v5 : Vec Ideal S1024x128 .f32)
  (x0 : Vec Ideal S1024x256 .bf16) (x1 : Vec Ideal S1024x128 .bf16) (x4 : Vec Ideal S8192x256 .bf16) (x5 : Vec Ideal S8192x128 .bf16)
  (G9 : BufTy.Contents (Elt Ideal) arg9.view.ty) (G11 : BufTy.Contents (Elt Ideal) arg11.view.ty)
  (G13 : BufTy.Contents (Elt Ideal) arg13.view.ty)

/-- The kernel's second counted loop makes no trip. -/
theorem no_t2 (v20 : BitVec 32) (X2 : BufTy.Contents (Elt Ideal) arg2.view.ty) (X3 : BufTy.Contents (Elt Ideal) arg3.view.ty)
    (X6 : BufTy.Contents (Elt Ideal) arg6.view.ty) (X7 : BufTy.Contents (Elt Ideal) arg7.view.ty)
    (init : FVec Ideal S1024x128 .f32 × FVec Ideal S1024x1 .f32) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 v3 v5 v20 X2 X3 X6 X7 G9 G11 G13 init
      (Scf.trips (k0_t2_loop i).lb (k0_t2_loop i).ub (k0_t2_loop i).st) = (init, [], [], []) := by
  rw [show Scf.trips (k0_t2_loop i).lb (k0_t2_loop i).ub (k0_t2_loop i).st = 0 from trips2 i]
  rfl

theorem core_dk (f : BufTy.Contents (Elt Ideal) arg9.view.ty) (P : List (View.Piece (Elt Ideal) S8192x128 .f32))
    (hP : arg9.view.writes (Elt Ideal) f P = arg9.view.writes (Elt Ideal) G9 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 (k0_pay21, k0_pay22) (Scf.trips (k0_t1_loop i).lb (k0_t1_loop i).ub (k0_t1_loop i).st)).2.1) (j : Fin 8192) (e : Fin 128) :
    arg9.view.read (Elt Ideal) (arg9.view.writes (Elt Ideal) f (dkAll i (k0_pay19 v3) (k0_pay20 i v5) arg2 harg2 x0 arg3 harg3 x1 arg6 harg6 x4 arg7 harg7 x5 arg9 f P)) (ix2 j e)
      = ((arg9.view.read (Elt Ideal) G9 (ix2 j e) : EReal) + ∑ r : Fin 1024, (if j.val ≤ 1024 * (i 1).val + r.val then
          dsw x0 x1 (k0_pay19 v3) (k0_pay20 i v5) x4 x5 r j * x0 (ix2 r (lo e)) else 0) : EReal) := by
  rw [diag_dk, hP, loop_dk 𝒱 c bd i arg2 harg2 arg3 harg3 arg4 harg4 arg5 harg5 arg6 harg6 arg7 harg7 arg8 harg8 arg9 harg9 arg10 harg10 arg11 harg11 arg12 harg12 arg13 harg13 v3 v5 x0 x1 x4 x5 G9 G11 G13 _ j e _ le_rfl, add_assoc,
    trips1 i, mask_rows]

theorem core_dv (f : BufTy.Contents (Elt Ideal) arg13.view.ty) (P : List (View.Piece (Elt Ideal) S8192x128 .f32))
    (hP : arg13.view.writes (Elt Ideal) f P = arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 (k0_pay21, k0_pay22) (Scf.trips (k0_t1_loop i).lb (k0_t1_loop i).ub (k0_t1_loop i).st)).2.2.2) (j : Fin 8192) (e : Fin 128) :
    arg13.view.read (Elt Ideal) (arg13.view.writes (Elt Ideal) f (dvAll i (k0_pay19 v3) arg2 harg2 x0 arg3 harg3 x1 arg6 harg6 x4 arg13 f P)) (ix2 j e)
      = ((arg13.view.read (Elt Ideal) G13 (ix2 j e) : EReal) + ∑ r : Fin 1024, (if j.val ≤ 1024 * (i 1).val + r.val then
          wt x0 (k0_pay19 v3) x4 r j * x1 (ix2 r e) else 0) : EReal) := by
  rw [diag_dv, hP, loop_dv 𝒱 c bd i arg2 harg2 arg3 harg3 arg4 harg4 arg5 harg5 arg6 harg6 arg7 harg7 arg8 harg8 arg9 harg9 arg10 harg10 arg11 harg11 arg12 harg12 arg13 harg13 v3 v5 x0 x1 x4 x5 G9 G11 G13 _ j e _ le_rfl, add_assoc,
    trips1 i, mask_rows]

theorem core_df (f : BufTy.Contents (Elt Ideal) arg11.view.ty) (P : List (View.Piece (Elt Ideal) S1x8x1x1024 .f32))
    (hP : arg11.view.writes (Elt Ideal) f P = arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 (k0_pay21, k0_pay22) (Scf.trips (k0_t1_loop i).lb (k0_t1_loop i).ub (k0_t1_loop i).st)).2.2.1) (b : Fin 8) (l : Fin 1024) :
    arg11.view.read (Elt Ideal) (arg11.view.writes (Elt Ideal) f (dfAll i (k0_pay19 v3) (k0_pay20 i v5) arg2 harg2 x0 arg3 harg3 x1 arg6 harg6 x4 arg7 harg7 x5 arg11 f P)) (ix4 0 b 0 l)
      = ((arg11.view.read (Elt Ideal) G11 (ix4 0 b 0 l) : EReal) + (0 - ∑ r : Fin 1024,
          (if (kr b l).val ≤ 1024 * (i 1).val + r.val then dsw x0 x1 (k0_pay19 v3) (k0_pay20 i v5) x4 x5 r (kr b l) else 0)) : EReal) := by
  rw [diag_df, hP, loop_df 𝒱 c bd i arg2 harg2 arg3 harg3 arg4 harg4 arg5 harg5 arg6 harg6 arg7 harg7 arg8 harg8 arg9 harg9 arg10 harg10 arg11 harg11 arg12 harg12 arg13 harg13 v3 v5 x0 x1 x4 x5 G9 G11 G13 _ b l _ le_rfl, add_assoc,
    trips1 i]
  exact congrArg (_ + ·) (mask_lanes b.val l.val (i 1).val l.isLt _)

theorem core_dq (a : FVec Ideal S1024x128 .f32) (ha : a = (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 (k0_pay21, k0_pay22) (Scf.trips (k0_t1_loop i).lb (k0_t1_loop i).ub (k0_t1_loop i).st)).1.1) (r : Fin 1024) (e : Fin 128) :
    k0_pay1 (dqLow i (k0_pay19 v3) (k0_pay20 i v5) arg2 harg2 x0 arg3 harg3 x1 arg6 harg6 x4 arg7 harg7 x5 a) (k0_pay53 (dqUp i (k0_pay19 v3) (k0_pay20 i v5) arg2 harg2 x0 arg3 harg3 x1 arg6 harg6 x4 arg7 harg7 x5 a)) (ix2 r e)
      = (∑ j : Fin 8192, (if j.val ≤ 1024 * (i 1).val + r.val then dsw x0 x1 (k0_pay19 v3) (k0_pay20 i v5) x4 x5 r j * x4 (ix2 j (lo e)) else 0) : EReal) := by
  rw [diag_dq, ha, loop_dq 𝒱 c bd i arg2 harg2 arg3 harg3 arg4 harg4 arg5 harg5 arg6 harg6 arg7 harg7 arg8 harg8 arg9 harg9 arg10 harg10 arg11 harg11 arg12 harg12 arg13 harg13 v3 v5 x0 x1 x4 x5 G9 G11 G13 _ r e _ le_rfl,
    trips1 i, add_assoc, mask_keys]
  dsimp only
  rw [pay21_apply, zero_add]

theorem core_rs (a : FVec Ideal S1024x1 .f32) (ha : a = (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 (harg2.unread x0) (harg3.unread x1) (harg6.unread x4) (harg7.unread x5) G9 G11 G13 (k0_pay21, k0_pay22) (Scf.trips (k0_t1_loop i).lb (k0_t1_loop i).ub (k0_t1_loop i).st)).1.2) (r : Fin 1024) :
    k0_pay2 (k0_pay41 a (upS i (k0_pay19 v3) (k0_pay20 i v5) arg2 harg2 x0 arg3 harg3 x1 arg6 harg6 x4 arg7 harg7 x5)) (k0_pay52 (k0_pay43 a (upS i (k0_pay19 v3) (k0_pay20 i v5) arg2 harg2 x0 arg3 harg3 x1 arg6 harg6 x4 arg7 harg7 x5)) (lowS i (k0_pay19 v3) (k0_pay20 i v5) arg2 harg2 x0 arg3 harg3 x1 arg6 harg6 x4 arg7 harg7 x5)) (ix3 0 r 0)
      = (∑ j : Fin 8192, (if j.val ≤ 1024 * (i 1).val + r.val then dsw x0 x1 (k0_pay19 v3) (k0_pay20 i v5) x4 x5 r j else 0) : EReal) := by
  rw [diag_rs, ha, loop_rs 𝒱 c bd i arg2 harg2 arg3 harg3 arg4 harg4 arg5 harg5 arg6 harg6 arg7 harg7 arg8 harg8 arg9 harg9 arg10 harg10 arg11 harg11 arg12 harg12 arg13 harg13 v3 v5 x0 x1 x4 x5 G9 G11 G13 _ r _ le_rfl,
    trips1 i, add_assoc, mask_keys]
  dsimp only
  rw [pay22_apply, zero_add]

end

end Cert.KernelIdeal.Fox

end
-- ==== Proof.Point.lean ====
/- One grid point of the backward kernel at an index, in each of the body's three cases. -/
module

public import proofs.«01_k».proof.Proof.Core
public import proofs.«01_k».proof.Proof.Gen.KernelIdeal.Frame
public import Idealize.ShloMosaic.Lib.VecWindow

@[expose] public section

set_option maxRecDepth 16384

noncomputable section

open Idealize.ShloMosaic Idealize.ShloMosaic.TcCoe Idealize.SL.Sem

namespace Cert.KernelIdeal.Fox

open Cert.KernelIdeal Cert.KernelIdeal.Gen

/-- A matrix stored whole reads back as stored, whatever the buffer held. -/
theorem stored2 {N M : ℕ} (v : View sig .tc .vmem ⟨2, ![N, M]⟩ .f32) (f : BufTy.Contents (Elt Ideal) v.ty)
    (inb : ∀ a, (![0, 0] : Fin 2 → ℕ) a + (⟨2, ![N, M]⟩ : Shape).size a ≤ (⟨2, ![N, M]⟩ : Shape).size a)
    (w : (Rect.unit (s := ⟨2, ![N, M]⟩) ![0, 0] (⟨2, ![N, M]⟩ : Shape).size inb).shape.Idx → Elt Ideal .f32) (r : Fin N) (c : Fin M) :
    v.read (Elt Ideal) (v.writes (Elt Ideal) f [⟨Rect.unit (s := ⟨2, ![N, M]⟩) ![0, 0] (⟨2, ![N, M]⟩ : Shape).size inb, w⟩]) (ix2 r c)
      = w (ix2 r c) :=
  View.read_writes_cons_unit_of_mem v f inb w [] (ix2 r c) (ix2 r c) rfl
    (fun a => by match a with | 0 => exact (Nat.zero_add _).symm | 1 => exact (Nat.zero_add _).symm)

theorem stored2' {N M : ℕ} (v : View sig .tc .vmem ⟨2, ![N, M]⟩ .bf16) (f : BufTy.Contents (Elt Ideal) v.ty)
    (inb : ∀ a, (![0, 0] : Fin 2 → ℕ) a + (⟨2, ![N, M]⟩ : Shape).size a ≤ (⟨2, ![N, M]⟩ : Shape).size a)
    (w : (Rect.unit (s := ⟨2, ![N, M]⟩) ![0, 0] (⟨2, ![N, M]⟩ : Shape).size inb).shape.Idx → Elt Ideal .bf16) (r : Fin N) (c : Fin M) :
    v.read (Elt Ideal) (v.writes (Elt Ideal) f [⟨Rect.unit (s := ⟨2, ![N, M]⟩) ![0, 0] (⟨2, ![N, M]⟩ : Shape).size inb, w⟩]) (ix2 r c)
      = w (ix2 r c) :=
  View.read_writes_cons_unit_of_mem v f inb w [] (ix2 r c) (ix2 r c) rfl
    (fun a => by match a with | 0 => exact (Nat.zero_add _).symm | 1 => exact (Nat.zero_add _).symm)

theorem stored4 (v : View sig .tc .vmem S1x8x1x1024 .f32) (f : BufTy.Contents (Elt Ideal) v.ty)
    (inb : ∀ a, (![0, 0, 0, 0] : Fin 4 → ℕ) a + S1x8x1x1024.size a ≤ S1x8x1x1024.size a)
    (w : (Rect.unit (s := S1x8x1x1024) ![0, 0, 0, 0] S1x8x1x1024.size inb).shape.Idx → Elt Ideal .f32) (b : Fin 8) (l : Fin 1024) :
    v.read (Elt Ideal) (v.writes (Elt Ideal) f [⟨Rect.unit (s := S1x8x1x1024) ![0, 0, 0, 0] S1x8x1x1024.size inb, w⟩]) (ix4 0 b 0 l)
      = w (ix4 0 b 0 l) :=
  View.read_writes_cons_unit_of_mem v f inb w [] (ix4 0 b 0 l) (ix4 0 b 0 l) rfl
    (fun a => by match a with | 0 => rfl | 1 => exact (Nat.zero_add _).symm | 2 => rfl | 3 => exact (Nat.zero_add _).symm)

theorem stored3 (v : View sig .tc .vmem S1x1024x1 .f32) (f : BufTy.Contents (Elt Ideal) v.ty)
    (inb : ∀ a, (![0, 0, 0] : Fin 3 → ℕ) a + S1x1024x1.size a ≤ S1x1024x1.size a)
    (w : (Rect.unit (s := S1x1024x1) ![0, 0, 0] S1x1024x1.size inb).shape.Idx → Elt Ideal .f32) (r : Fin 1024) :
    v.read (Elt Ideal) (v.writes (Elt Ideal) f [⟨Rect.unit (s := S1x1024x1) ![0, 0, 0] S1x1024x1.size inb, w⟩]) (ix3 0 r 0)
      = w (ix3 0 r 0) :=
  View.read_writes_cons_unit_of_mem v f inb w [] (ix3 0 r 0) (ix3 0 r 0) rfl
    (fun a => by match a with | 0 => rfl | 1 => exact (Nat.zero_add _).symm | 2 => rfl)

section
variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)

theorem full4 (x2 : Vec Ideal S1x1024x1 .f32) : (arg4.view.readAt (Elt Ideal) (Rect.unit (s := S1x1024x1) ![0, 0, 0] S1x1024x1.size inb_S1x1024x1_S1x1024x1_0_0_0).toLoadRect (harg4.unread x2)) = x2 :=
  (View.readAt_full _ _ _).trans (harg4.read_unread x2)

theorem full5 (x3 : Vec Ideal S1024x128 .f32) : (arg5.view.readAt (Elt Ideal) (Rect.unit (s := S1024x128) ![0, 0] S1024x128.size inb_S1024x128_S1024x128_0_0).toLoadRect (harg5.unread x3)) = x3 :=
  (View.readAt_full _ _ _).trans (harg5.read_unread x3)

theorem pt_out0_A_7 (hc0 : cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (j : Fin 8192) (e : Fin 128) :
    out0_A_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 j e)
      = (∑ r : Fin 1024, (if j.val ≤ 1024 * (i 1).val + r.val then dsw x0 x1 (k0_pay19 x2) (k0_pay20 i x3) x4 x5 r j * x0 (ix2 r (lo e)) else 0) : EReal) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5), ← View.read_writes_eq_canon arg9.view arg9.view.junk _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  refine (core_dk Variants.none c none i arg2 harg2 arg3 harg3 arg4 harg4 arg5 harg5 arg6 harg6 arg7 harg7 arg8 harg8 arg9 harg9 arg10 harg10 arg11 harg11 arg12 harg12 arg13 harg13 _ _ x0 x1 x4 x5 (arg9.view.writes (Elt Ideal) arg9.view.junk [⟨Rect.unit (s := S8192x128) ![0, 0] S8192x128.size inb_S8192x128_S8192x128_0_0, (k0_pay16 (F := Ideal))⟩]) (arg11.view.writes (Elt Ideal) arg11.view.junk [⟨Rect.unit (s := S1x8x1x1024) ![0, 0, 0, 0] S1x8x1x1024.size inb_S1x8x1x1024_S1x8x1x1024_0_0_0_0, (k0_pay18 (F := Ideal))⟩]) (arg13.view.writes (Elt Ideal) arg13.view.junk [⟨Rect.unit (s := S8192x128) ![0, 0] S8192x128.size inb_S8192x128_S8192x128_0_0, (k0_pay17 (F := Ideal))⟩]) _ _ (by rw [no_t2, List.nil_append, View.writes_append]; rfl) j e).trans ?_
  rw [stored2, pay16_apply, zero_add, full4, full5]

theorem pt_sout0_A_0 (hc0 : cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (j : Fin 8192) (e : Fin 128) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 j e)
      = (∑ r : Fin 1024, (if j.val ≤ 1024 * (i 1).val + r.val then wt x0 (k0_pay19 x2) x4 r j * x1 (ix2 r e) else 0) : EReal) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5), ← View.read_writes_eq_canon arg13.view arg13.view.junk _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  refine (core_dv Variants.none c none i arg2 harg2 arg3 harg3 arg4 harg4 arg5 harg5 arg6 harg6 arg7 harg7 arg8 harg8 arg9 harg9 arg10 harg10 arg11 harg11 arg12 harg12 arg13 harg13 _ _ x0 x1 x4 x5 (arg9.view.writes (Elt Ideal) arg9.view.junk [⟨Rect.unit (s := S8192x128) ![0, 0] S8192x128.size inb_S8192x128_S8192x128_0_0, (k0_pay16 (F := Ideal))⟩]) (arg11.view.writes (Elt Ideal) arg11.view.junk [⟨Rect.unit (s := S1x8x1x1024) ![0, 0, 0, 0] S1x8x1x1024.size inb_S1x8x1x1024_S1x8x1x1024_0_0_0_0, (k0_pay18 (F := Ideal))⟩]) (arg13.view.writes (Elt Ideal) arg13.view.junk [⟨Rect.unit (s := S8192x128) ![0, 0] S8192x128.size inb_S8192x128_S8192x128_0_0, (k0_pay17 (F := Ideal))⟩]) _ _ (by rw [no_t2, List.nil_append, View.writes_append]; rfl) j e).trans ?_
  rw [stored2, pay17_apply, zero_add, full4]

theorem pt_out0_A_9 (hc0 : cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (b : Fin 8) (l : Fin 1024) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix4 0 b 0 l)
      = ((0 - ∑ r : Fin 1024, (if (kr b l).val ≤ 1024 * (i 1).val + r.val then dsw x0 x1 (k0_pay19 x2) (k0_pay20 i x3) x4 x5 r (kr b l) else 0)) : EReal) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5), ← View.read_writes_eq_canon arg11.view arg11.view.junk _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  refine (core_df Variants.none c none i arg2 harg2 arg3 harg3 arg4 harg4 arg5 harg5 arg6 harg6 arg7 harg7 arg8 harg8 arg9 harg9 arg10 harg10 arg11 harg11 arg12 harg12 arg13 harg13 _ _ x0 x1 x4 x5 (arg9.view.writes (Elt Ideal) arg9.view.junk [⟨Rect.unit (s := S8192x128) ![0, 0] S8192x128.size inb_S8192x128_S8192x128_0_0, (k0_pay16 (F := Ideal))⟩]) (arg11.view.writes (Elt Ideal) arg11.view.junk [⟨Rect.unit (s := S1x8x1x1024) ![0, 0, 0, 0] S1x8x1x1024.size inb_S1x8x1x1024_S1x8x1x1024_0_0_0_0, (k0_pay18 (F := Ideal))⟩]) (arg13.view.writes (Elt Ideal) arg13.view.junk [⟨Rect.unit (s := S8192x128) ![0, 0] S8192x128.size inb_S8192x128_S8192x128_0_0, (k0_pay17 (F := Ideal))⟩]) _ _ (by rw [no_t2, List.nil_append, View.writes_append]; rfl) b l).trans ?_
  rw [stored4, pay18_apply, zero_add, full4, full5]

theorem pt_out0_A_6 (hc0 : cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (r : Fin 1024) (e : Fin 128) :
    out0_A_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 r e)
      = (∑ j : Fin 8192, (if j.val ≤ 1024 * (i 1).val + r.val then dsw x0 x1 (k0_pay19 x2) (k0_pay20 i x3) x4 x5 r j * x4 (ix2 j (lo e)) else 0) : EReal) := by
  unfold out0_A_6
  unfold kernelRun0_A
  dsimp only
  refine (stored2 _ _ _ _ r e).trans ((core_dq Variants.none c none i arg2 harg2 arg3 harg3 arg4 harg4 arg5 harg5 arg6 harg6 arg7 harg7 arg8 harg8 arg9 harg9 arg10 harg10 arg11 harg11 arg12 harg12 arg13 harg13 _ _ x0 x1 x4 x5 (arg9.view.writes (Elt Ideal) arg9.view.junk [⟨Rect.unit (s := S8192x128) ![0, 0] S8192x128.size inb_S8192x128_S8192x128_0_0, (k0_pay16 (F := Ideal))⟩]) (arg11.view.writes (Elt Ideal) arg11.view.junk [⟨Rect.unit (s := S1x8x1x1024) ![0, 0, 0, 0] S1x8x1x1024.size inb_S1x8x1x1024_S1x8x1x1024_0_0_0_0, (k0_pay18 (F := Ideal))⟩]) (arg13.view.writes (Elt Ideal) arg13.view.junk [⟨Rect.unit (s := S8192x128) ![0, 0] S8192x128.size inb_S8192x128_S8192x128_0_0, (k0_pay17 (F := Ideal))⟩]) _ (by unfold kernelRun0_A.sl.r_2; rw [no_t2]; rfl) r e).trans ?_)
  rw [full4, full5]

theorem pt_out0_A_10 (hc0 : cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (r : Fin 1024) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix3 0 r 0)
      = (∑ j : Fin 8192, (if j.val ≤ 1024 * (i 1).val + r.val then dsw x0 x1 (k0_pay19 x2) (k0_pay20 i x3) x4 x5 r j else 0) : EReal) := by
  unfold out0_A_10
  unfold kernelRun0_A
  dsimp only
  refine (stored3 _ _ _ _ r).trans ((core_rs Variants.none c none i arg2 harg2 arg3 harg3 arg4 harg4 arg5 harg5 arg6 harg6 arg7 harg7 arg8 harg8 arg9 harg9 arg10 harg10 arg11 harg11 arg12 harg12 arg13 harg13 _ _ x0 x1 x4 x5 (arg9.view.writes (Elt Ideal) arg9.view.junk [⟨Rect.unit (s := S8192x128) ![0, 0] S8192x128.size inb_S8192x128_S8192x128_0_0, (k0_pay16 (F := Ideal))⟩]) (arg11.view.writes (Elt Ideal) arg11.view.junk [⟨Rect.unit (s := S1x8x1x1024) ![0, 0, 0, 0] S1x8x1x1024.size inb_S1x8x1x1024_S1x8x1x1024_0_0_0_0, (k0_pay18 (F := Ideal))⟩]) (arg13.view.writes (Elt Ideal) arg13.view.junk [⟨Rect.unit (s := S8192x128) ![0, 0] S8192x128.size inb_S8192x128_S8192x128_0_0, (k0_pay17 (F := Ideal))⟩]) _ (by unfold kernelRun0_A.sl.r_3; rw [no_t2]; rfl) r).trans ?_)
  rw [full4, full5]

theorem pt_out0_B_7 (hc0 : ¬cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (j : Fin 8192) (e : Fin 128) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e)
      = ((xo7 (ix2 j e) : EReal) + ∑ r : Fin 1024, (if j.val ≤ 1024 * (i 1).val + r.val then dsw x0 x1 (k0_pay19 x2) (k0_pay20 i x3) x4 x5 r j * x0 (ix2 r (lo e)) else 0) : EReal) := by
  unfold out0_B_7
  unfold kernelRun0_B
  dsimp only
  refine (core_dk Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) j e).trans ?_
  rw [harg9.read_unread, full4, full5]

theorem pt_sout0_B_0 (hc0 : ¬cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (j : Fin 8192) (e : Fin 128) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e)
      = ((xs0 (ix2 j e) : EReal) + ∑ r : Fin 1024, (if j.val ≤ 1024 * (i 1).val + r.val then wt x0 (k0_pay19 x2) x4 r j * x1 (ix2 r e) else 0) : EReal) := by
  unfold sout0_B_0
  unfold kernelRun0_B
  dsimp only
  refine (core_dv Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) j e).trans ?_
  rw [harg13.read_unread, full4]

theorem pt_out0_B_9 (hc0 : ¬cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (b : Fin 8) (l : Fin 1024) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix4 0 b 0 l)
      = ((xo9 (ix4 0 b 0 l) : EReal) + (0 - ∑ r : Fin 1024, (if (kr b l).val ≤ 1024 * (i 1).val + r.val then dsw x0 x1 (k0_pay19 x2) (k0_pay20 i x3) x4 x5 r (kr b l) else 0)) : EReal) := by
  unfold out0_B_9
  unfold kernelRun0_B
  dsimp only
  refine (core_df Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) b l).trans ?_
  rw [harg11.read_unread, full4, full5]

theorem pt_out0_B_6 (hc0 : ¬cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (r : Fin 1024) (e : Fin 128) :
    out0_B_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r e)
      = (∑ j : Fin 8192, (if j.val ≤ 1024 * (i 1).val + r.val then dsw x0 x1 (k0_pay19 x2) (k0_pay20 i x3) x4 x5 r j * x4 (ix2 j (lo e)) else 0) : EReal) := by
  unfold out0_B_6
  unfold kernelRun0_B
  dsimp only
  refine (stored2 _ _ _ _ r e).trans ((core_dq Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ (by unfold kernelRun0_B.sl.r_2; rw [no_t2]) r e).trans ?_)
  rw [full4, full5]

theorem pt_out0_B_10 (hc0 : ¬cond0_0 i) (hc1 : ¬cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (r : Fin 1024) :
    out0_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix3 0 r 0)
      = (∑ j : Fin 8192, (if j.val ≤ 1024 * (i 1).val + r.val then dsw x0 x1 (k0_pay19 x2) (k0_pay20 i x3) x4 x5 r j else 0) : EReal) := by
  unfold out0_B_10
  unfold kernelRun0_B
  dsimp only
  refine (stored3 _ _ _ _ r).trans ((core_rs Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ (by unfold kernelRun0_B.sl.r_3; rw [no_t2]) r).trans ?_)
  rw [full4, full5]

theorem pt_out0_C_7 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (j : Fin 8192) (e : Fin 128) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e)
      = ((xo7 (ix2 j e) : EReal) + ∑ r : Fin 1024, (if j.val ≤ 1024 * (i 1).val + r.val then dsw x0 x1 (k0_pay19 x2) (k0_pay20 i x3) x4 x5 r j * x0 (ix2 r (lo e)) else 0) : EReal) := by
  unfold out0_C_7
  unfold kernelRun0_C
  dsimp only
  refine (core_dk Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) j e).trans ?_
  rw [harg9.read_unread, full4, full5]

theorem pt_sout0_C_0 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (j : Fin 8192) (e : Fin 128) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e)
      = ((xs0 (ix2 j e) : EReal) + ∑ r : Fin 1024, (if j.val ≤ 1024 * (i 1).val + r.val then wt x0 (k0_pay19 x2) x4 r j * x1 (ix2 r e) else 0) : EReal) := by
  unfold sout0_C_0
  unfold kernelRun0_C
  dsimp only
  refine (core_dv Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) j e).trans ?_
  rw [harg13.read_unread, full4]

theorem pt_out0_C_9 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (b : Fin 8) (l : Fin 1024) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix4 0 b 0 l)
      = ((xo9 (ix4 0 b 0 l) : EReal) + (0 - ∑ r : Fin 1024, (if (kr b l).val ≤ 1024 * (i 1).val + r.val then dsw x0 x1 (k0_pay19 x2) (k0_pay20 i x3) x4 x5 r (kr b l) else 0)) : EReal) := by
  unfold out0_C_9
  unfold kernelRun0_C
  dsimp only
  refine (core_df Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ _ (by rw [no_t2]; rfl) b l).trans ?_
  rw [harg11.read_unread, full4, full5]

theorem pt_out0_C_6 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (r : Fin 1024) (e : Fin 128) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r e)
      = (∑ j : Fin 8192, (if j.val ≤ 1024 * (i 1).val + r.val then dsw x0 x1 (k0_pay19 x2) (k0_pay20 i x3) x4 x5 r j * x4 (ix2 j (lo e)) else 0) : EReal) := by
  unfold out0_C_6
  unfold kernelRun0_C
  dsimp only
  refine (stored2 _ _ _ _ r e).trans ((core_dq Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ (by unfold kernelRun0_C.sl.r_2; rw [no_t2]) r e).trans ?_)
  rw [full4, full5]

theorem pt_out0_C_10 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (r : Fin 1024) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix3 0 r 0)
      = (∑ j : Fin 8192, (if j.val ≤ 1024 * (i 1).val + r.val then dsw x0 x1 (k0_pay19 x2) (k0_pay20 i x3) x4 x5 r j else 0) : EReal) := by
  unfold out0_C_10
  unfold kernelRun0_C
  dsimp only
  refine (stored3 _ _ _ _ r).trans ((core_rs Variants.none c none i arg2 harg2 arg3 harg3 arg4 harg4 arg5 harg5 arg6 harg6 arg7 harg7 arg8 harg8 arg9 harg9 arg10 harg10 arg11 harg11 arg12 harg12 arg13 harg13 _ _ x0 x1 x4 x5 (harg9.unread xo7) (harg11.unread xo9) (harg13.unread xs0) _ (by unfold kernelRun0_C.sl.r_3; rw [no_t2]) r).trans ?_)
  rw [full4, full5]

theorem pt_out0_C_8 (hc0 : ¬cond0_0 i) (hc1 : cond0_1 i) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16) (xo7 : Vec Ideal S8192x128 .f32) (xo9 : Vec Ideal S1x8x1x1024 .f32) (xs0 : Vec Ideal S8192x128 .f32) (j : Fin 8192) (e : Fin 128) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) = sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) := by
  unfold out0_C_8 sout0_C_0
  unfold kernelRun0_C
  dsimp only
  refine (stored2' _ _ _ _ j e).trans ((pay3_apply _ j e).trans ?_)
  exact congrFun (View.readAt_full (s := S8192x128) arg13.view _ inb_S8192x128_S8192x128_0_0) (ix2 j e)

end

end Cert.KernelIdeal.Fox

end
-- ==== Proof.Fold.lean ====
module

public import proofs.«01_k».proof.Proof.Point

@[expose] public section

set_option maxRecDepth 16384

noncomputable section

open Idealize.ShloMosaic Idealize.ShloMosaic.TcCoe Idealize.SL.Sem

namespace Cert.KernelIdeal.Fox

open Cert.KernelIdeal Cert.KernelIdeal.Gen

/-! The grid's points folded: what each result holds, from the arrays the region finds. -/

/-- Lane `e` of head `h` in an array of 256 lanes per head. -/
abbrev lane2 (h : Fin 8) (e : Fin 256) : Fin 2048 := ⟨256 * h.val + e.val, by omega⟩
/-- Lane `e` of head `h` in an array of 128 lanes per head. -/
abbrev lane1 (h : Fin 8) (e : Fin 128) : Fin 1024 := ⟨128 * h.val + e.val, by omega⟩
/-- The lane of head `h` among 128. -/
abbrev hl (h : Fin 8) : Fin 128 := ⟨h.val, by omega⟩
/-- Row `r` of the `n`-th block of 1024 rows. -/
abbrev rowOf (n : ℕ) (r : Fin 1024) : Fin 8192 := ⟨(1024 * n + r.val) % 8192, Nat.mod_lt _ (by decide)⟩

section
variable (q k : Vec Ideal S8192x2048 .bf16) (v o : Vec Ideal S8192x1024 .bf16) (l : Vec Ideal S8x8192x1 .f32)
  (d : Vec Ideal S8192x128 .f32)

/-- The weight of query row `R` on key row `j` in head `h`. -/
def Wt (h : Fin 8) (R j : Fin 8192) : EReal :=
  Ideal.exp2 ((∑ e : Fin 256, (q (ix2 R (lane2 h e)) : EReal) * k (ix2 j (lane2 h e))) - l (ix3 h R 0))

/-- The gradient of the score of query row `R` against key row `j` in head `h`. -/
def Ds (h : Fin 8) (R j : Fin 8192) : EReal :=
  Wt q k l h R j * ((∑ e : Fin 128, (o (ix2 R (lane1 h e)) : EReal) * v (ix2 j (lane1 h e))) - d (ix2 R (hl h)))

end

/-- A value restarted every eight points and added to at the others is the sum since the restart. -/
theorem fold_sum (g : ∀ t : ℕ, t < 64 → EReal) (B : ℕ → ℕ → EReal)
    (hA : ∀ t (h : t < 64), t % 8 = 0 → g t h = B (t / 8) 0)
    (hB : ∀ t (h : t < 64), t % 8 ≠ 0 → g t h = g (t - 1) (by omega) + B (t / 8) (t % 8)) :
    ∀ t (h : t < 64), g t h = ∑ n ∈ Finset.range (t % 8 + 1), B (t / 8) n := by
  intro t
  induction t with
  | zero => intro h; rw [hA 0 h rfl]; simp
  | succ t ih =>
    intro h
    by_cases h0 : (t + 1) % 8 = 0
    · rw [hA _ h h0, h0]; simp
    · rw [hB _ h h0]
      have e1 : (t + 1) % 8 = t % 8 + 1 := by omega
      have e2 : (t + 1) / 8 = t / 8 := by omega
      have ih' := ih (by omega)
      rw [Finset.sum_range_succ, e1, e2]
      exact congrArg (· + B (t / 8) (t % 8 + 1)) ih'

/-- Eight blocks of 1024 rows are all the rows. -/
theorem sum_rows (f : Fin 8192 → EReal) :
    ∑ n ∈ Finset.range 8, ∑ r : Fin 1024, f (rowOf n r) = ∑ R : Fin 8192, f R := by
  rw [Finset.sum_range (f := fun n => ∑ r : Fin 1024, f (rowOf n r)), ← Fintype.sum_prod_type']
  refine Fintype.sum_equiv (finProdFinEquiv (m := 8) (n := 1024)) _ _ (fun x => ?_)
  refine congrArg f (Fin.ext ?_)
  have := x.1.isLt
  have := x.2.isLt
  show (1024 * x.1.val + x.2.val) % 8192 = x.2.val + 1024 * x.1.val
  omega

/-- The head of a point. -/
abbrev hd (t : Fin cfg0.N) : Fin 8 := ⟨t.val / 8, by have := lt_of_lt_of_eq t.isLt N_0; omega⟩

theorem coords_facts : ∀ t : Fin cfg0.N, (grid0.coords t 0).val = t.val / 8 ∧ (grid0.coords t 1).val = t.val % 8 :=
  (by decide +kernel : ∀ t : Fin grid0.N, _)

/-- A row of a block is the row of the array. -/
theorem rowOf_val (n : ℕ) (hn : n < 8) (r : Fin 1024) : (rowOf n r).val = 1024 * n + r.val := by
  show (1024 * n + r.val) % 8192 = _
  omega

/-- What one block of query rows adds to a key row. -/
def blockSum (g : Fin 8 → Fin 8192 → EReal) (j : Fin 8192) (h n : ℕ) : EReal :=
  if hh : h < 8 then ∑ r : Fin 1024, (if j.val ≤ (rowOf n r).val then g ⟨h, hh⟩ (rowOf n r) else 0) else 0

theorem blockSum_eq (g : Fin 8 → Fin 8192 → EReal) (j : Fin 8192) (t : Fin cfg0.N) :
    blockSum g j (t.val / 8) (t.val % 8) = ∑ r : Fin 1024, (if j.val ≤ (rowOf (t.val % 8) r).val then g (hd t) (rowOf (t.val % 8) r) else 0) :=
  dif_pos _

theorem blockSum_all (g : Fin 8 → Fin 8192 → EReal) (j : Fin 8192) (h : Fin 8) :
    ∑ n ∈ Finset.range 8, blockSum g j h.val n = ∑ R : Fin 8192, (if j.val ≤ R.val then g h R else 0) := by
  rw [← sum_rows]
  refine Finset.sum_congr rfl fun n _ => ?_
  exact dif_pos h.isLt

/-- A masked sum over the query rows of one block. -/
theorem rows_congr (t : Fin cfg0.N) (j : Fin 8192) (f : Fin 1024 → EReal) (g : Fin 8 → Fin 8192 → EReal)
    (h : ∀ r, f r = g (hd t) (rowOf (t.val % 8) r)) :
    (∑ r : Fin 1024, (if j.val ≤ 1024 * (grid0.coords t 1).val + r.val then f r else 0) : EReal)
      = blockSum g j (t.val / 8) (t.val % 8) := by
  rw [blockSum_eq]
  refine Finset.sum_congr rfl fun r _ => ?_
  rw [(coords_facts t).2, rowOf_val _ (by omega), h]

/-- A masked sum over the key rows of one query row. -/
theorem keys_congr (t : Fin cfg0.N) (r : Fin 1024) (f g : Fin 8192 → EReal) (h : ∀ j, f j = g j) :
    (∑ j : Fin 8192, (if j.val ≤ 1024 * (grid0.coords t 1).val + r.val then f j else 0) : EReal)
      = ∑ j : Fin 8192, (if j.val ≤ (rowOf (t.val % 8) r).val then g j else 0) := by
  refine Finset.sum_congr rfl fun j _ => ?_
  rw [(coords_facts t).2, rowOf_val _ (by omega), h]

section
variable (t : Fin cfg0.N) (x0 : Vec Ideal S1024x256 .bf16) (x1 : Vec Ideal S1024x128 .bf16) (x2 : Vec Ideal S1x1024x1 .f32) (x3 : Vec Ideal S1024x128 .f32) (x4 : Vec Ideal S8192x256 .bf16) (x5 : Vec Ideal S8192x128 .bf16)
  (q k : Vec Ideal S8192x2048 .bf16) (v o : Vec Ideal S8192x1024 .bf16) (l : Vec Ideal S8x8192x1 .f32) (d : Vec Ideal S8192x128 .f32)

/-- The blocks of a point are cut from the arrays. -/
structure Cut : Prop where
  b0 : ∀ (r : Fin 1024) (e : Fin 256), x0 (ix2 r e) = q (ix2 (rowOf (t.val % 8) r) (lane2 (hd t) e))
  b1 : ∀ (r : Fin 1024) (e : Fin 128), x1 (ix2 r e) = o (ix2 (rowOf (t.val % 8) r) (lane1 (hd t) e))
  b2 : ∀ (r : Fin 1024), x2 (ix3 0 r 0) = l (ix3 (hd t) (rowOf (t.val % 8) r) 0)
  b3 : ∀ (r : Fin 1024) (e : Fin 128), x3 (ix2 r e) = d (ix2 (rowOf (t.val % 8) r) e)
  b4 : ∀ (r : Fin 8192) (e : Fin 256), x4 (ix2 r e) = k (ix2 r (lane2 (hd t) e))
  b5 : ∀ (r : Fin 8192) (e : Fin 128), x5 (ix2 r e) = v (ix2 r (lane1 (hd t) e))

variable (H : Cut t x0 x1 x2 x3 x4 x5 q k v o l d)
include H

theorem point_wt (r : Fin 1024) (j : Fin 8192) :
    wt x0 (k0_pay19 x2) x4 r j = Wt q k l (hd t) (rowOf (t.val % 8) r) j := by
  unfold wt Wt
  rw [pay19_apply, H.b2]
  simp only [H.b0, H.b4]

theorem point_ds (r : Fin 1024) (j : Fin 8192) :
    dsw x0 x1 (k0_pay19 x2) (k0_pay20 (grid0.coords t) x3) x4 x5 r j = Ds q k v o l d (hd t) (rowOf (t.val % 8) r) j := by
  unfold dsw Ds gap
  rw [point_wt t x0 x1 x2 x3 x4 x5 q k v o l d H, pay20_apply (grid0.coords t) _ r (hl (hd t)) (coords_facts t).1.symm, H.b3]
  simp only [H.b1, H.b5]

variable (c : Dev nD) (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)

theorem dk_A (hc0 : cond0_0 (grid0.coords t)) (hc1 : ¬cond0_1 (grid0.coords t)) (j : Fin 8192) (e : Fin 128) :
    (out0_A_7 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 j e) : EReal) = blockSum (fun h R => Ds q k v o l d h R j * q (ix2 R (lane2 h (lo e)))) j (t.val / 8) (t.val % 8) :=
  (pt_out0_A_7 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 j e).trans (rows_congr t j _ (fun h R => Ds q k v o l d h R j * q (ix2 R (lane2 h (lo e)))) (fun r => by rw [point_ds t x0 x1 x2 x3 x4 x5 q k v o l d H, H.b0]))

theorem dk_B (hc0 : ¬cond0_0 (grid0.coords t)) (hc1 : ¬cond0_1 (grid0.coords t)) (xo7 : Vec Ideal S8192x128 .f32) (xo9 : Vec Ideal S1x8x1x1024 .f32) (xs0 : Vec Ideal S8192x128 .f32) (j : Fin 8192) (e : Fin 128) :
    (out0_B_7 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) : EReal) = (xo7 (ix2 j e) : EReal) + blockSum (fun h R => Ds q k v o l d h R j * q (ix2 R (lane2 h (lo e)))) j (t.val / 8) (t.val % 8) :=
  (pt_out0_B_7 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 j e).trans (congrArg (fun x : EReal => (xo7 (ix2 j e) : EReal) + x) (rows_congr t j _ (fun h R => Ds q k v o l d h R j * q (ix2 R (lane2 h (lo e)))) (fun r => by rw [point_ds t x0 x1 x2 x3 x4 x5 q k v o l d H, H.b0])))

theorem dk_C (hc0 : ¬cond0_0 (grid0.coords t)) (hc1 : cond0_1 (grid0.coords t)) (xo7 : Vec Ideal S8192x128 .f32) (xo9 : Vec Ideal S1x8x1x1024 .f32) (xs0 : Vec Ideal S8192x128 .f32) (j : Fin 8192) (e : Fin 128) :
    (out0_C_7 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) : EReal) = (xo7 (ix2 j e) : EReal) + blockSum (fun h R => Ds q k v o l d h R j * q (ix2 R (lane2 h (lo e)))) j (t.val / 8) (t.val % 8) :=
  (pt_out0_C_7 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 j e).trans (congrArg (fun x : EReal => (xo7 (ix2 j e) : EReal) + x) (rows_congr t j _ (fun h R => Ds q k v o l d h R j * q (ix2 R (lane2 h (lo e)))) (fun r => by rw [point_ds t x0 x1 x2 x3 x4 x5 q k v o l d H, H.b0])))

theorem dv_A (hc0 : cond0_0 (grid0.coords t)) (hc1 : ¬cond0_1 (grid0.coords t)) (j : Fin 8192) (e : Fin 128) :
    (sout0_A_0 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 j e) : EReal) = blockSum (fun h R => Wt q k l h R j * o (ix2 R (lane1 h e))) j (t.val / 8) (t.val % 8) :=
  (pt_sout0_A_0 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 j e).trans (rows_congr t j _ (fun h R => Wt q k l h R j * o (ix2 R (lane1 h e))) (fun r => by rw [point_wt t x0 x1 x2 x3 x4 x5 q k v o l d H, H.b1]))

theorem dv_B (hc0 : ¬cond0_0 (grid0.coords t)) (hc1 : ¬cond0_1 (grid0.coords t)) (xo7 : Vec Ideal S8192x128 .f32) (xo9 : Vec Ideal S1x8x1x1024 .f32) (xs0 : Vec Ideal S8192x128 .f32) (j : Fin 8192) (e : Fin 128) :
    (sout0_B_0 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) : EReal) = (xs0 (ix2 j e) : EReal) + blockSum (fun h R => Wt q k l h R j * o (ix2 R (lane1 h e))) j (t.val / 8) (t.val % 8) :=
  (pt_sout0_B_0 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 j e).trans (congrArg (fun x : EReal => (xs0 (ix2 j e) : EReal) + x) (rows_congr t j _ (fun h R => Wt q k l h R j * o (ix2 R (lane1 h e))) (fun r => by rw [point_wt t x0 x1 x2 x3 x4 x5 q k v o l d H, H.b1])))

theorem dv_C (hc0 : ¬cond0_0 (grid0.coords t)) (hc1 : cond0_1 (grid0.coords t)) (xo7 : Vec Ideal S8192x128 .f32) (xo9 : Vec Ideal S1x8x1x1024 .f32) (xs0 : Vec Ideal S8192x128 .f32) (j : Fin 8192) (e : Fin 128) :
    (sout0_C_0 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 j e) : EReal) = (xs0 (ix2 j e) : EReal) + blockSum (fun h R => Wt q k l h R j * o (ix2 R (lane1 h e))) j (t.val / 8) (t.val % 8) :=
  (pt_sout0_C_0 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 j e).trans (congrArg (fun x : EReal => (xs0 (ix2 j e) : EReal) + x) (rows_congr t j _ (fun h R => Wt q k l h R j * o (ix2 R (lane1 h e))) (fun r => by rw [point_wt t x0 x1 x2 x3 x4 x5 q k v o l d H, H.b1])))

theorem df_A (hc0 : cond0_0 (grid0.coords t)) (hc1 : ¬cond0_1 (grid0.coords t)) (b : Fin 8) (w : Fin 1024) :
    (out0_A_9 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix4 0 b 0 w) : EReal) = (0 - blockSum (fun h R => Ds q k v o l d h R (kr b w)) (kr b w) (t.val / 8) (t.val % 8)) :=
  (pt_out0_A_9 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 b w).trans (congrArg (fun x : EReal => 0 - x) (rows_congr t (kr b w) _ (fun h R => Ds q k v o l d h R (kr b w)) (fun r => point_ds t x0 x1 x2 x3 x4 x5 q k v o l d H r _)))

theorem df_B (hc0 : ¬cond0_0 (grid0.coords t)) (hc1 : ¬cond0_1 (grid0.coords t)) (xo7 : Vec Ideal S8192x128 .f32) (xo9 : Vec Ideal S1x8x1x1024 .f32) (xs0 : Vec Ideal S8192x128 .f32) (b : Fin 8) (w : Fin 1024) :
    (out0_B_9 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix4 0 b 0 w) : EReal) = (xo9 (ix4 0 b 0 w) : EReal) + (0 - blockSum (fun h R => Ds q k v o l d h R (kr b w)) (kr b w) (t.val / 8) (t.val % 8)) :=
  (pt_out0_B_9 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 b w).trans (congrArg (fun x : EReal => (xo9 (ix4 0 b 0 w) : EReal) + x) (congrArg (fun x : EReal => 0 - x) (rows_congr t (kr b w) _ (fun h R => Ds q k v o l d h R (kr b w)) (fun r => point_ds t x0 x1 x2 x3 x4 x5 q k v o l d H r _))))

theorem df_C (hc0 : ¬cond0_0 (grid0.coords t)) (hc1 : cond0_1 (grid0.coords t)) (xo7 : Vec Ideal S8192x128 .f32) (xo9 : Vec Ideal S1x8x1x1024 .f32) (xs0 : Vec Ideal S8192x128 .f32) (b : Fin 8) (w : Fin 1024) :
    (out0_C_9 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix4 0 b 0 w) : EReal) = (xo9 (ix4 0 b 0 w) : EReal) + (0 - blockSum (fun h R => Ds q k v o l d h R (kr b w)) (kr b w) (t.val / 8) (t.val % 8)) :=
  (pt_out0_C_9 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 b w).trans (congrArg (fun x : EReal => (xo9 (ix4 0 b 0 w) : EReal) + x) (congrArg (fun x : EReal => 0 - x) (rows_congr t (kr b w) _ (fun h R => Ds q k v o l d h R (kr b w)) (fun r => point_ds t x0 x1 x2 x3 x4 x5 q k v o l d H r _))))

theorem dq_A (hc0 : cond0_0 (grid0.coords t)) (hc1 : ¬cond0_1 (grid0.coords t)) (r : Fin 1024) (e : Fin 128) :
    (out0_A_6 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 r e) : EReal)
      = ∑ j : Fin 8192, (if j.val ≤ (rowOf (t.val % 8) r).val then (fun j => Ds q k v o l d (hd t) (rowOf (t.val % 8) r) j * k (ix2 j (lane2 (hd t) (lo e)))) j else 0) :=
  (pt_out0_A_6 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 r e).trans (keys_congr t r _ (fun j => Ds q k v o l d (hd t) (rowOf (t.val % 8) r) j * k (ix2 j (lane2 (hd t) (lo e)))) (fun j => by rw [point_ds t x0 x1 x2 x3 x4 x5 q k v o l d H, H.b4]))

theorem dq_B (hc0 : ¬cond0_0 (grid0.coords t)) (hc1 : ¬cond0_1 (grid0.coords t)) (xo7 : Vec Ideal S8192x128 .f32) (xo9 : Vec Ideal S1x8x1x1024 .f32) (xs0 : Vec Ideal S8192x128 .f32) (r : Fin 1024) (e : Fin 128) :
    (out0_B_6 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r e) : EReal)
      = ∑ j : Fin 8192, (if j.val ≤ (rowOf (t.val % 8) r).val then (fun j => Ds q k v o l d (hd t) (rowOf (t.val % 8) r) j * k (ix2 j (lane2 (hd t) (lo e)))) j else 0) :=
  (pt_out0_B_6 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 r e).trans (keys_congr t r _ (fun j => Ds q k v o l d (hd t) (rowOf (t.val % 8) r) j * k (ix2 j (lane2 (hd t) (lo e)))) (fun j => by rw [point_ds t x0 x1 x2 x3 x4 x5 q k v o l d H, H.b4]))

theorem dq_C (hc0 : ¬cond0_0 (grid0.coords t)) (hc1 : cond0_1 (grid0.coords t)) (xo7 : Vec Ideal S8192x128 .f32) (xo9 : Vec Ideal S1x8x1x1024 .f32) (xs0 : Vec Ideal S8192x128 .f32) (r : Fin 1024) (e : Fin 128) :
    (out0_C_6 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r e) : EReal)
      = ∑ j : Fin 8192, (if j.val ≤ (rowOf (t.val % 8) r).val then (fun j => Ds q k v o l d (hd t) (rowOf (t.val % 8) r) j * k (ix2 j (lane2 (hd t) (lo e)))) j else 0) :=
  (pt_out0_C_6 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 r e).trans (keys_congr t r _ (fun j => Ds q k v o l d (hd t) (rowOf (t.val % 8) r) j * k (ix2 j (lane2 (hd t) (lo e)))) (fun j => by rw [point_ds t x0 x1 x2 x3 x4 x5 q k v o l d H, H.b4]))

theorem rs_A (hc0 : cond0_0 (grid0.coords t)) (hc1 : ¬cond0_1 (grid0.coords t)) (r : Fin 1024) :
    (out0_A_10 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix3 0 r 0) : EReal)
      = ∑ j : Fin 8192, (if j.val ≤ (rowOf (t.val % 8) r).val then (fun j => Ds q k v o l d (hd t) (rowOf (t.val % 8) r) j) j else 0) :=
  (pt_out0_A_10 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 r).trans (keys_congr t r _ (fun j => Ds q k v o l d (hd t) (rowOf (t.val % 8) r) j) (fun j => point_ds t x0 x1 x2 x3 x4 x5 q k v o l d H r j))

theorem rs_B (hc0 : ¬cond0_0 (grid0.coords t)) (hc1 : ¬cond0_1 (grid0.coords t)) (xo7 : Vec Ideal S8192x128 .f32) (xo9 : Vec Ideal S1x8x1x1024 .f32) (xs0 : Vec Ideal S8192x128 .f32) (r : Fin 1024) :
    (out0_B_10 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix3 0 r 0) : EReal)
      = ∑ j : Fin 8192, (if j.val ≤ (rowOf (t.val % 8) r).val then (fun j => Ds q k v o l d (hd t) (rowOf (t.val % 8) r) j) j else 0) :=
  (pt_out0_B_10 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 r).trans (keys_congr t r _ (fun j => Ds q k v o l d (hd t) (rowOf (t.val % 8) r) j) (fun j => point_ds t x0 x1 x2 x3 x4 x5 q k v o l d H r j))

theorem rs_C (hc0 : ¬cond0_0 (grid0.coords t)) (hc1 : cond0_1 (grid0.coords t)) (xo7 : Vec Ideal S8192x128 .f32) (xo9 : Vec Ideal S1x8x1x1024 .f32) (xs0 : Vec Ideal S8192x128 .f32) (r : Fin 1024) :
    (out0_C_10 (F := Ideal) c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix3 0 r 0) : EReal)
      = ∑ j : Fin 8192, (if j.val ≤ (rowOf (t.val % 8) r).val then (fun j => Ds q k v o l d (hd t) (rowOf (t.val % 8) r) j) j else 0) :=
  (pt_out0_C_10 c (grid0.coords t) arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 r).trans (keys_congr t r _ (fun j => Ds q k v o l d (hd t) (rowOf (t.val % 8) r) j) (fun j => point_ds t x0 x1 x2 x3 x4 x5 q k v o l d H r j))

end

end Cert.KernelIdeal.Fox

end
-- ==== Proof.State.lean ====
module

public import proofs.«01_k».proof.Proof.Fold
public import proofs.«01_k».proof.Proof.Gen.KernelIdeal.Value

@[expose] public section

set_option maxRecDepth 16384

noncomputable section

open Idealize.ShloMosaic Idealize.ShloMosaic.TcCoe Idealize.SL.Sem

namespace Cert.KernelIdeal.Fox

open Cert.KernelIdeal Cert.KernelIdeal.Gen

/-! The blocks of the points, and what the state holds after each point. -/

section
variable (m : (ℓ : Loc nD τ sig) → Buf (Elt Ideal) ℓ) (c : Dev nD)

@[irreducible] def aQ : Vec Ideal S8192x2048 .bf16 := V m c (Pipeline.arrRef spec0 0)
@[irreducible] def aO : Vec Ideal S8192x1024 .bf16 := V m c (Pipeline.arrRef spec0 1)
@[irreducible] def aL : Vec Ideal S8x8192x1 .f32 := V m c (Pipeline.arrRef spec0 2)
@[irreducible] def aD : Vec Ideal S8192x128 .f32 := V m c (Pipeline.arrRef spec0 3)
@[irreducible] def aK : Vec Ideal S8192x2048 .bf16 := V m c (Pipeline.arrRef spec0 4)
@[irreducible] def aV : Vec Ideal S8192x1024 .bf16 := V m c (Pipeline.arrRef spec0 5)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = t.val / 8 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val / 8 :=
  (by decide +kernel : ∀ t : Fin grid0.N, _)
theorem idx5 : ∀ t : Fin cfg0.N, win0_5.index t (0 : Fin 2) = 0 ∧ win0_5.index t (1 : Fin 2) = t.val / 8 :=
  (by decide +kernel : ∀ t : Fin grid0.N, _)

theorem cut0 (A : Vec Ideal S8192x2048 .bf16) (t : Fin cfg0.N) (r : Fin 1024) (e : Fin 256) :
    (((cfg0.win 0).blk t).view.read (Elt Ideal) A : Vec Ideal S1024x256 .bf16) (ix2 r e) = A (ix2 (rowOf (t.val % 8) r) (lane2 (hd t) e)) := by
  obtain ⟨e0, e1⟩ := idx0 t
  refine congrArg A (funext fun a => Fin.ext ?_)
  match a with
  | 0 => show win0_0.index t (0 : Fin 2) * 1024 + 1 * r.val = (1024 * (t.val % 8) + r.val) % 8192; rw [e0]; omega
  | 1 => show win0_0.index t (1 : Fin 2) * 256 + 1 * e.val = 256 * (t.val / 8) + e.val; rw [e1]; omega

theorem blk0 (t : Fin cfg0.N) (r : Fin 1024) (e : Fin 256) :
    (iblk m c 0 t : Vec Ideal S1024x256 .bf16) (ix2 r e) = aQ m c (ix2 (rowOf (t.val % 8) r) (lane2 (hd t) e)) := by
  unfold aQ iblk
  exact cut0 _ t r e

theorem cut1 (A : Vec Ideal S8192x1024 .bf16) (t : Fin cfg0.N) (r : Fin 1024) (e : Fin 128) :
    (((cfg0.win 1).blk t).view.read (Elt Ideal) A : Vec Ideal S1024x128 .bf16) (ix2 r e) = A (ix2 (rowOf (t.val % 8) r) (lane1 (hd t) e)) := by
  obtain ⟨e0, e1⟩ := idx1 t
  refine congrArg A (funext fun a => Fin.ext ?_)
  match a with
  | 0 => show win0_1.index t (0 : Fin 2) * 1024 + 1 * r.val = (1024 * (t.val % 8) + r.val) % 8192; rw [e0]; omega
  | 1 => show win0_1.index t (1 : Fin 2) * 128 + 1 * e.val = 128 * (t.val / 8) + e.val; rw [e1]; omega

theorem blk1 (t : Fin cfg0.N) (r : Fin 1024) (e : Fin 128) :
    (iblk m c 1 t : Vec Ideal S1024x128 .bf16) (ix2 r e) = aO m c (ix2 (rowOf (t.val % 8) r) (lane1 (hd t) e)) := by
  unfold aO iblk
  exact cut1 _ t r e

theorem cut3 (A : Vec Ideal S8192x128 .f32) (t : Fin cfg0.N) (r : Fin 1024) (e : Fin 128) :
    (((cfg0.win 3).blk t).view.read (Elt Ideal) A : Vec Ideal S1024x128 .f32) (ix2 r e) = A (ix2 (rowOf (t.val % 8) r) (e)) := by
  obtain ⟨e0, e1⟩ := idx3 t
  refine congrArg A (funext fun a => Fin.ext ?_)
  match a with
  | 0 => show win0_3.index t (0 : Fin 2) * 1024 + 1 * r.val = (1024 * (t.val % 8) + r.val) % 8192; rw [e0]; omega
  | 1 => show win0_3.index t (1 : Fin 2) * 128 + 1 * e.val = e.val; rw [e1]; omega

theorem blk3 (t : Fin cfg0.N) (r : Fin 1024) (e : Fin 128) :
    (iblk m c 3 t : Vec Ideal S1024x128 .f32) (ix2 r e) = aD m c (ix2 (rowOf (t.val % 8) r) (e)) := by
  unfold aD iblk
  exact cut3 _ t r e

theorem cut4 (A : Vec Ideal S8192x2048 .bf16) (t : Fin cfg0.N) (r : Fin 8192) (e : Fin 256) :
    (((cfg0.win 4).blk t).view.read (Elt Ideal) A : Vec Ideal S8192x256 .bf16) (ix2 r e) = A (ix2 (r) (lane2 (hd t) e)) := by
  obtain ⟨e0, e1⟩ := idx4 t
  refine congrArg A (funext fun a => Fin.ext ?_)
  match a with
  | 0 => show win0_4.index t (0 : Fin 2) * 8192 + 1 * r.val = r.val; rw [e0]; omega
  | 1 => show win0_4.index t (1 : Fin 2) * 256 + 1 * e.val = 256 * (t.val / 8) + e.val; rw [e1]; omega

theorem blk4 (t : Fin cfg0.N) (r : Fin 8192) (e : Fin 256) :
    (iblk m c 4 t : Vec Ideal S8192x256 .bf16) (ix2 r e) = aK m c (ix2 (r) (lane2 (hd t) e)) := by
  unfold aK iblk
  exact cut4 _ t r e

theorem cut5 (A : Vec Ideal S8192x1024 .bf16) (t : Fin cfg0.N) (r : Fin 8192) (e : Fin 128) :
    (((cfg0.win 5).blk t).view.read (Elt Ideal) A : Vec Ideal S8192x128 .bf16) (ix2 r e) = A (ix2 (r) (lane1 (hd t) e)) := by
  obtain ⟨e0, e1⟩ := idx5 t
  refine congrArg A (funext fun a => Fin.ext ?_)
  match a with
  | 0 => show win0_5.index t (0 : Fin 2) * 8192 + 1 * r.val = r.val; rw [e0]; omega
  | 1 => show win0_5.index t (1 : Fin 2) * 128 + 1 * e.val = 128 * (t.val / 8) + e.val; rw [e1]; omega

theorem blk5 (t : Fin cfg0.N) (r : Fin 8192) (e : Fin 128) :
    (iblk m c 5 t : Vec Ideal S8192x128 .bf16) (ix2 r e) = aV m c (ix2 (r) (lane1 (hd t) e)) := by
  unfold aV iblk
  exact cut5 _ t r e

theorem cut2 (A : Vec Ideal S8x8192x1 .f32) (t : Fin cfg0.N) (r : Fin 1024) :
    (((cfg0.win 2).blk t).view.read (Elt Ideal) A : Vec Ideal S1x1024x1 .f32) (ix3 0 r 0) = A (ix3 (hd t) (rowOf (t.val % 8) r) 0) := by
  obtain ⟨e0, e1, e2⟩ := idx2 t
  refine congrArg A (funext fun a => Fin.ext ?_)
  match a with
  | 0 => show win0_2.index t (0 : Fin 3) * 1 + 1 * 0 = t.val / 8; rw [e0]; omega
  | 1 => show win0_2.index t (1 : Fin 3) * 1024 + 1 * r.val = (1024 * (t.val % 8) + r.val) % 8192; rw [e1]; omega
  | 2 => show win0_2.index t (2 : Fin 3) * 1 + 1 * 0 = 0; rw [e2]

theorem blk2 (t : Fin cfg0.N) (r : Fin 1024) :
    (iblk m c 2 t : Vec Ideal S1x1024x1 .f32) (ix3 0 r 0) = aL m c (ix3 (hd t) (rowOf (t.val % 8) r) 0) := by
  unfold aL iblk
  exact cut2 _ t r

theorem cuts (t : Fin cfg0.N) :
    Cut t (iblk m c 0 t) (iblk m c 1 t) (iblk m c 2 t) (iblk m c 3 t) (iblk m c 4 t) (iblk m c 5 t)
      (aQ m c) (aK m c) (aV m c) (aO m c) (aL m c) (aD m c) :=
  ⟨blk0 m c t, blk1 m c t, blk2 m c t, blk3 m c t, blk4 m c t, blk5 m c t⟩

/-- The gradient of scores, over the arrays the region finds. -/
abbrev aDs (h : Fin 8) (R j : Fin 8192) : EReal := Ds (aQ m c) (aK m c) (aV m c) (aO m c) (aL m c) (aD m c) h R j
/-- The weights, over the arrays the region finds. -/
abbrev aWt (h : Fin 8) (R j : Fin 8192) : EReal := Wt (aQ m c) (aK m c) (aL m c) h R j

theorem at_out0_A_6 (t : Fin cfg0.N) (h0 : t.val % 8 = 0) (h1 : ¬t.val % 8 = 7) :
    (outsAt0 m c t.val t.isLt).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [outsAt0_A m c t h0 h1]

theorem at_out0_B_6 (t : Fin cfg0.N) (h0 : ¬t.val % 8 = 0) (h1 : ¬t.val % 8 = 7) :
    (outsAt0 m c t.val t.isLt).1 = out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]

theorem at_out0_C_6 (t : Fin cfg0.N) (h0 : ¬t.val % 8 = 0) (h1 : t.val % 8 = 7) :
    (outsAt0 m c t.val t.isLt).1 = out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

theorem at_out0_A_7 (t : Fin cfg0.N) (h0 : t.val % 8 = 0) (h1 : ¬t.val % 8 = 7) :
    (outsAt0 m c t.val t.isLt).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [outsAt0_A m c t h0 h1]

theorem at_out0_B_7 (t : Fin cfg0.N) (h0 : ¬t.val % 8 = 0) (h1 : ¬t.val % 8 = 7) :
    (outsAt0 m c t.val t.isLt).2.1 = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]

theorem at_out0_C_7 (t : Fin cfg0.N) (h0 : ¬t.val % 8 = 0) (h1 : t.val % 8 = 7) :
    (outsAt0 m c t.val t.isLt).2.1 = out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

theorem at_out0_C_8 (t : Fin cfg0.N) (h0 : ¬t.val % 8 = 0) (h1 : t.val % 8 = 7) :
    (outsAt0 m c t.val t.isLt).2.2.1 = out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

theorem at_out0_A_9 (t : Fin cfg0.N) (h0 : t.val % 8 = 0) (h1 : ¬t.val % 8 = 7) :
    (outsAt0 m c t.val t.isLt).2.2.2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [outsAt0_A m c t h0 h1]

theorem at_out0_B_9 (t : Fin cfg0.N) (h0 : ¬t.val % 8 = 0) (h1 : ¬t.val % 8 = 7) :
    (outsAt0 m c t.val t.isLt).2.2.2.1 = out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]

theorem at_out0_C_9 (t : Fin cfg0.N) (h0 : ¬t.val % 8 = 0) (h1 : t.val % 8 = 7) :
    (outsAt0 m c t.val t.isLt).2.2.2.1 = out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

theorem at_out0_A_10 (t : Fin cfg0.N) (h0 : t.val % 8 = 0) (h1 : ¬t.val % 8 = 7) :
    (outsAt0 m c t.val t.isLt).2.2.2.2.1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [outsAt0_A m c t h0 h1]

theorem at_out0_B_10 (t : Fin cfg0.N) (h0 : ¬t.val % 8 = 0) (h1 : ¬t.val % 8 = 7) :
    (outsAt0 m c t.val t.isLt).2.2.2.2.1 = out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]

theorem at_out0_C_10 (t : Fin cfg0.N) (h0 : ¬t.val % 8 = 0) (h1 : t.val % 8 = 7) :
    (outsAt0 m c t.val t.isLt).2.2.2.2.1 = out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

theorem at_sout0_A_0 (t : Fin cfg0.N) (h0 : t.val % 8 = 0) (h1 : ¬t.val % 8 = 7) :
    (outsAt0 m c t.val t.isLt).2.2.2.2.2 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  rw [outsAt0_A m c t h0 h1]

theorem at_sout0_B_0 (t : Fin cfg0.N) (h0 : ¬t.val % 8 = 0) (h1 : ¬t.val % 8 = 7) :
    (outsAt0 m c t.val t.isLt).2.2.2.2.2 = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]

theorem at_sout0_C_0 (t : Fin cfg0.N) (h0 : ¬t.val % 8 = 0) (h1 : t.val % 8 = 7) :
    (outsAt0 m c t.val t.isLt).2.2.2.2.2 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_C m c t h0 h1]

end

end Cert.KernelIdeal.Fox

end
-- ==== Proof.Tail.lean ====
module

public import proofs.«01_k».proof.Proof.State
public import Idealize.ShloMosaic.Lib.StableHlo.ReadAt

@[expose] public section

set_option maxRecDepth 16384

noncomputable section

open Idealize.ShloMosaic Idealize.ShloMosaic.TcCoe Idealize.SL.Sem

namespace Cert.KernelIdeal.Fox

open Cert.KernelIdeal Cert.KernelIdeal.Gen

/-! The host lines after the masked scores, from any contents `U` that hold the scores. -/

abbrev W (U : Valuation τ sig (Elt Ideal)) (b : Ref sig .tc) := StableHlo.after (List.flatten [hostOps0_13, hostOps0_14, hostOps0_15]) U b

section
variable (U : Valuation τ sig (Elt Ideal))

abbrev vX : FVec Ideal S8x8192x8192 .f32 := W U main_v77
abbrev vV : FVec Ideal S8x8192x128 .f32 := W U main_v60
abbrev vO : FVec Ideal S8x8192x128 .f32 := W U main_v89
abbrev vM : FVec Ideal S8x8192x1 .f32 := W U main_v79
abbrev vE : FVec Ideal S8x8192x8192 .f32 := W U main_v82
abbrev vL : FVec Ideal S8x8192x1 .f32 := W U main_v84
abbrev vT : FVec Ideal S8x8192x128 .f32 := W U main_v87
abbrev vD : FVec Ideal S8192x8 .f32 := W U main_v92
abbrev vC : FVec Ideal S8x8192x1 .f32 := W U main_v97
abbrev vN : FVec Ideal S8x8192x1 .f32 := W U main_v94
abbrev vS : FVec Ideal S8x8192x1 .f32 := W U main_v98
abbrev vP : FVec Ideal S8192x128 .f32 := W U main_v99

theorem vM_eq : vM U = broadcastInDim S8x8192x1 ![0, 1] bcast_S8x8192_S8x8192x1_0_1 (Host.reduce FloatOps.maximumf (vX U) (constant S_ .f32 0xFF800000#32) reducesTo_S8x8192x8192_S8x8192_d2 h_S_) := by
  unfold vM vX W
  after_reads_simp

theorem vM_at (h : Fin 8) (R : Fin 8192) : vM U (ix3 h R 0) = Finset.univ.fold max (Ideal.ofBits .f32 0xFF800000#32) (fun j : Fin 8192 => vX U (ix3 h R j)) := by
  rw [vM_eq]
  generalize vX U = X
  pointwise

theorem vE_eq : vE U = Host.exp (subf (vX U) (broadcastInDim S8x8192x8192 ![0, 1, 2] bcast_S8x8192x1_S8x8192x8192_0_1_2 (vM U))) := by
  unfold vE vM vX W
  after_reads_simp

theorem vE_at (h : Fin 8) (R j : Fin 8192) : vE U (ix3 h R j) = Ideal.exp (vX U (ix3 h R j) - vM U (ix3 h R 0)) := by
  rw [vE_eq]
  generalize vX U = X
  generalize vM U = M
  pointwise

theorem vL_eq : vL U = broadcastInDim S8x8192x1 ![0, 1] bcast_S8x8192_S8x8192x1_0_1 (Host.reduceAdd (vE U) (constant S_ .f32 0x00000000#32) reducesTo_S8x8192x8192_S8x8192_d2 h_S_) := by
  unfold vL vE W
  after_reads_simp

theorem vL_at (h : Fin 8) (R : Fin 8192) : vL U (ix3 h R 0) = ∑ j : Fin 8192, vE U (ix3 h R j) := by
  rw [vL_eq]
  generalize vE U = X
  pointwise

theorem vT_eq : vT U = Host.dotGeneral dot_S8x8192x8192_S8x8192x128_S8x8192x128_2_1_1_2_0_0 none (Host.divf (vE U) (broadcastInDim S8x8192x8192 ![0, 1, 2] bcast_S8x8192x1_S8x8192x8192_0_1_2 (vL U))) (vV U) := by
  unfold vT vL vE vV W
  after_reads_simp

theorem vT_at (h : Fin 8) (R : Fin 8192) (e : Fin 128) :
    vT U (ix3 h R e) = ∑ j : Fin 8192, Ideal.div (vE U (ix3 h R j)) (vL U (ix3 h R 0)) * vV U (ix3 h j e) := by
  rw [vT_eq]
  generalize vE U = E
  generalize vL U = L
  generalize vV U = X
  pointwise

theorem vD_eq : vD U = transpose S8192x8 [1, 0] (Host.reduceAdd (mulf (vO U) (vT U)) (constant S_ .f32 0x00000000#32) reducesTo_S8x8192x128_S8x8192_d2 h_S_) transposes_S8x8192_S8192x8_1_0 := by
  unfold vD vO vT W
  after_reads_simp

theorem vD_at (h : Fin 8) (R : Fin 8192) : vD U (ix2 R h) = ∑ e : Fin 128, vO U (ix3 h R e) * vT U (ix3 h R e) := by
  rw [vD_eq]
  generalize vO U = X
  generalize vT U = Y
  pointwise

theorem v97_at (h : Fin 8) (R : Fin 8192) : vC U (ix3 h R 0) = Ideal.div 1 (Ideal.log (Ideal.ofBits .f32 0x40000000#32)) := by
  unfold vC W
  after_reads_at

theorem vN_eq : vN U = addf (vM U) (Host.log (vL U)) := by
  unfold vN vM vL W
  after_reads_simp

theorem vS_eq : vS U = mulf (vN U) (vC U) := by
  unfold vS vN vC W
  after_reads_simp

theorem addlog_at {s : Shape} (X Y : FVec Ideal s .f32) (i : s.Idx) : addf X (Host.log Y) i = X i + Ideal.log (Y i) := rfl

theorem mul_at {s : Shape} (X Y : FVec Ideal s .f32) (i : s.Idx) : mulf X Y i = X i * Y i := rfl

theorem vN_at (h : Fin 8) (R : Fin 8192) : vN U (ix3 h R 0) = vM U (ix3 h R 0) + Ideal.log (vL U (ix3 h R 0)) :=
  (congrFun (vN_eq U) _).trans (addlog_at _ _ _)

theorem vS_at (h : Fin 8) (R : Fin 8192) : vS U (ix3 h R 0) = vN U (ix3 h R 0) * vC U (ix3 h R 0) :=
  (congrFun (vS_eq U) _).trans (mul_at _ _ _)

theorem vP_eq : vP U = pad S8192x128 ![0, 0] ![0, 120] ![0, 0] (vD U) (sitofp .f32 (constantI S_ 32 0#32)) pads_S8192x8_S8192x128_000_01200 h_S_ := by
  unfold vP vD W
  after_reads_simp
  simp -implicitDefEqProofs only [StableHlo.TRef.toBuf, StableHlo.TRef.ofBuf, cast_cast, cast_eq]

theorem vP_at (h : Fin 8) (R : Fin 8192) : vP U (ix2 R (hl h)) = vD U (ix2 R h) := by
  rw [vP_eq]
  generalize vD U = X
  unfold hl
  pointwise

end

end Cert.KernelIdeal.Fox

end
-- ==== Proof.Soft.lean ====
module

public import Idealize.ShloMosaic.PureOps.Ideal
public import Idealize.ShloMosaic.PureOps.Ideal.Laws
public import Idealize.ShloMosaic.Lib.IdealHost
public import Mathlib.Analysis.SpecialFunctions.Pow.Real
public import Mathlib.Analysis.SpecialFunctions.Log.Basic

@[expose] public section

noncomputable section

open Idealize.ShloMosaic

namespace Cert.Fox

/-! The causal softmax of one head over `n` rows and its gradient, once as the reference writes it and once as the kernel does,
    over the extended reals; on real inputs the two agree. -/

/-- The score scale, as the float literal both programs carry. -/
def sc : EReal := Ideal.ofBits .f32 0x3DB504F3#32
/-- The base change from `e` to 2, as both programs compute it. -/
def lc : EReal := Ideal.div 1 (Ideal.log (Ideal.ofBits .f32 0x40000000#32))

theorem sc_real : ∃ s : ℝ, s ≠ 0 ∧ sc = (s : EReal) := by
  refine ⟨11863283 * 2 ^ (-27 : ℤ), by positivity, ?_⟩
  unfold sc
  simp [Ideal.ofBits, Ideal.ieee]

theorem two_real : Ideal.ofBits .f32 0x40000000#32 = ((2 : ℝ) : EReal) := by
  simp [Ideal.ofBits, Ideal.ieee, -EReal.coe_mul]
  norm_num

theorem lc_real : lc = ((1 / Real.log 2 : ℝ) : EReal) := by
  have h2 : (0 : ℝ) < Real.log 2 := Real.log_pos (by norm_num)
  unfold lc
  rw [two_real, Ideal.log_coe, if_neg (by norm_num), Ideal.div_coe h2.ne', one_mul]

section
variable {n : ℕ} (q k v o : Fin n → Fin 128 → EReal) (f : Fin n → EReal)

/-- The masked scores. -/
def lgt (R j : Fin n) : EReal := if j.val ≤ R.val then (∑ e, q R e * k j e) * sc + (f R - f j) else ⊥
/-- A row's greatest score. -/
def mx (R : Fin n) : EReal := Finset.univ.fold max ⊥ (lgt q k f R)
/-- The exponentials of a row, its greatest score taken off. -/
def ex (R j : Fin n) : EReal := Ideal.exp (lgt q k f R j - mx q k f R)
/-- A row's sum of exponentials. -/
def sm (R : Fin n) : EReal := ∑ j, ex q k f R j
/-- The attention output. -/
def ot (R : Fin n) (e : Fin 128) : EReal := ∑ j, Ideal.div (ex q k f R j) (sm q k f R) * v j e
/-- The output against its cotangent. -/
def dl (R : Fin n) : EReal := ∑ e, o R e * ot q k v f R e
/-- The cotangent against a value row. -/
def dov (R j : Fin n) : EReal := ∑ e, o R e * v j e

/-- The bias lanes of a query row. -/
def bq (a : EReal) (x : Fin 128) : EReal :=
  if x.val = 0 then a else if x.val = 1 then a - a else if x.val = 2 then a - a - (a - a) else if x.val < 6 then 1 else 0
/-- The bias lanes of a key row. -/
def bk (b : EReal) (x : Fin 128) : EReal :=
  if x.val < 3 then 1 else if x.val = 3 then -b else if x.val = 4 then -(b - b) else if x.val = 5 then -(b - b - (b - b)) else 0

/-- The kernel's probability. -/
def kW (R j : Fin n) : EReal :=
  Ideal.exp2 (((∑ e, q R e * (sc * lc) * k j e) + ∑ x, bq (f R * lc) x * bk (f j * lc) x)
    - (mx q k f R + Ideal.log (sm q k f R)) * lc)
/-- The kernel's score gradient. -/
def kD (R j : Fin n) : EReal := kW q k f R j * (dov v o R j - dl q k v o f R)
/-- The reference's correction of a row. -/
def rS (R : Fin n) : EReal := ∑ j, dov v o R j * Ideal.div 1 (sm q k f R * sm q k f R) * ex q k f R j
/-- The reference's score gradient. -/
def rD (R j : Fin n) : EReal :=
  if j.val ≤ R.val then (Ideal.div (dov v o R j) (sm q k f R) + -rS q k v o f R) * ex q k f R j else 0

end

/-! ### On real inputs -/

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem fold_max_real {n : ℕ} (g : Fin n → EReal) (R : Fin n) (hR : ∃ r : ℝ, g R = r) (h : ∀ j, g j ≠ ⊤) :
    ∃ r : ℝ, Finset.univ.fold max ⊥ g = r := by
  have hle : g R ≤ Finset.univ.fold max ⊥ g := (Finset.le_fold_max _).2 (Or.inr ⟨R, Finset.mem_univ _, le_rfl⟩)
  have hlt : Finset.univ.fold max ⊥ g < ⊤ := (Finset.fold_max_lt _).2 ⟨bot_lt_top, fun j _ => lt_top_iff_ne_top.2 (h j)⟩
  obtain ⟨r, hr⟩ := hR
  refine ⟨_, (EReal.coe_toReal hlt.ne ?_).symm⟩
  intro hb
  rw [hb, hr] at hle
  exact absurd hle (by simp)

theorem bias_real (a b : ℝ) : ∑ x, bq (a : EReal) x * bk (b : EReal) x = ((a - b : ℝ) : EReal) := by
  have h : ∀ x : Fin 128, bq (a : EReal) x * bk (b : EReal) x = (((if x = 0 then a else 0) + (if x = 3 then -b else 0) : ℝ) : EReal) := by
    intro x
    have e0 : x = 0 ↔ x.val = 0 := Fin.ext_iff
    have e3 : x = 3 ↔ x.val = 3 := Fin.ext_iff
    simp only [e0, e3, bq, bk, ← EReal.coe_sub, sub_self, ← EReal.coe_neg, neg_zero]
    split_ifs <;> first | omega | simp
  rw [Finset.sum_congr rfl fun x _ => h x, ← coe_sum, Finset.sum_add_distrib]
  simp [sub_eq_add_neg]

section
variable {n : ℕ} (q k v o : Fin n → Fin 128 → ℝ) (f : Fin n → ℝ)

/-- Real rows as extended reals. -/
abbrev up (x : Fin n → Fin 128 → ℝ) (R : Fin n) (e : Fin 128) : EReal := ((x R e : ℝ) : EReal)
/-- A real column as extended reals. -/
abbrev upc (x : Fin n → ℝ) (R : Fin n) : EReal := ((x R : ℝ) : EReal)

theorem dov_real (R j : Fin n) : dov (up v) (up o) R j = ((∑ e, o R e * v j e : ℝ) : EReal) := by
  unfold dov
  simp only [coe_sum, EReal.coe_mul]

theorem lgt_real (s : ℝ) (hs : sc = s) (R j : Fin n) :
    lgt (up q) (up k) (upc f) R j = if j.val ≤ R.val then (((∑ e, q R e * k j e) * s + (f R - f j) : ℝ) : EReal) else ⊥ := by
  unfold lgt
  simp only [hs, coe_sum, EReal.coe_mul, EReal.coe_add, EReal.coe_sub]

theorem mx_real (R : Fin n) : ∃ r : ℝ, mx (up q) (up k) (upc f) R = r := by
  obtain ⟨s, -, hs⟩ := sc_real
  refine fold_max_real _ R ?_ ?_
  · rw [lgt_real q k f s hs, if_pos le_rfl]
    exact ⟨_, rfl⟩
  · intro j
    rw [lgt_real q k f s hs]
    split_ifs
    · exact EReal.coe_ne_top _
    · exact bot_ne_top

/-- On real inputs the kernel's probabilities and score gradients are real, and are the reference's below the diagonal. -/
theorem real_grads : ∃ p d : Fin n → Fin n → ℝ, ∀ R j,
    (j.val ≤ R.val → kW (up q) (up k) (upc f) R j = (p R j : EReal) ∧ kD (up q) (up k) (up v) (up o) (upc f) R j = (d R j : EReal))
    ∧ Ideal.div (ex (up q) (up k) (upc f) R j) (sm (up q) (up k) (upc f) R) = ((if j.val ≤ R.val then p R j else 0 : ℝ) : EReal)
    ∧ rD (up q) (up k) (up v) (up o) (upc f) R j = ((if j.val ≤ R.val then d R j else 0 : ℝ) : EReal) := by
  obtain ⟨s, -, hs⟩ := sc_real
  choose μ hμ using mx_real q k f
  let x : Fin n → Fin n → ℝ := fun R j => (∑ e, q R e * k j e) * s + (f R - f j)
  let ε : Fin n → Fin n → ℝ := fun R j => if j.val ≤ R.val then Real.exp (x R j - μ R) else 0
  let l : Fin n → ℝ := fun R => ∑ j, ε R j
  let β : Fin n → Fin n → ℝ := fun R j => ∑ e, o R e * v j e
  have hε : ∀ R j, ex (up q) (up k) (upc f) R j = (ε R j : EReal) := by
    intro R j
    unfold ex
    rw [lgt_real q k f s hs, hμ]
    by_cases h : j.val ≤ R.val
    · simp only [if_pos h, ε, ← EReal.coe_sub, Ideal.exp_coe, x]
    · simp only [if_neg h, ε, EReal.bot_sub, EReal.coe_zero]
      rfl
  have hl : ∀ R, sm (up q) (up k) (upc f) R = (l R : EReal) := by
    intro R
    unfold sm
    simp only [hε, l, coe_sum]
  have lpos : ∀ R, 0 < l R := by
    intro R
    refine Finset.sum_pos' (fun j _ => ?_) ⟨R, Finset.mem_univ _, ?_⟩
    · simp only [ε]; split_ifs
      · exact (Real.exp_pos _).le
      · exact le_rfl
    · simp only [ε, le_refl, if_true]
      exact Real.exp_pos _
  have hdiv : ∀ R (y : ℝ), Ideal.div (y : EReal) (l R : EReal) = ((y / l R : ℝ) : EReal) := by
    intro R y
    rw [Ideal.div_coe (lpos R).ne', ← EReal.coe_mul, mul_one_div]
  have hp : ∀ R j, Ideal.div (ex (up q) (up k) (upc f) R j) (sm (up q) (up k) (upc f) R) = ((ε R j / l R : ℝ) : EReal) := by
    intro R j
    rw [hε, hl, hdiv]
  let δ : Fin n → ℝ := fun R => ∑ e, o R e * ∑ j, ε R j / l R * v j e
  have hδ : ∀ R, dl (up q) (up k) (up v) (up o) (upc f) R = (δ R : EReal) := by
    intro R
    unfold dl ot
    simp only [hp, δ, coe_sum, EReal.coe_mul]
  have δeq : ∀ R, δ R = (∑ j, β R j * ε R j) / l R := by
    intro R
    simp only [δ, β, Finset.mul_sum]
    rw [Finset.sum_comm, Finset.sum_div]
    refine Finset.sum_congr rfl fun j _ => ?_
    rw [Finset.sum_mul, Finset.sum_div]
    refine Finset.sum_congr rfl fun e _ => ?_
    ring
  have hW : ∀ R j, j.val ≤ R.val → kW (up q) (up k) (upc f) R j = ((ε R j / l R : ℝ) : EReal) := by
    intro R j h
    have h2 : (0 : ℝ) < Real.log 2 := Real.log_pos (by norm_num)
    unfold kW
    rw [hμ, hl, hs, lc_real, Ideal.log_coe, if_neg (lpos R).not_ge]
    simp only [← EReal.coe_mul, ← EReal.coe_add, bias_real, ← coe_sum, ← EReal.coe_sub, Ideal.exp2_coe]
    congr 1
    have e1 : (∑ e, q R e * (s * (1 / Real.log 2)) * k j e) + (f R * (1 / Real.log 2) - f j * (1 / Real.log 2))
        - (μ R + Real.log (l R)) * (1 / Real.log 2) = (x R j - μ R - Real.log (l R)) / Real.log 2 := by
      have e2 : ∑ e, q R e * (s * (1 / Real.log 2)) * k j e = (∑ e, q R e * k j e) * s / Real.log 2 := by
        rw [Finset.sum_mul, Finset.sum_div]
        exact Finset.sum_congr rfl fun e _ => by ring
      rw [e2]
      simp only [x]
      ring
    rw [e1]
    rw [show ∀ y : ℝ, Real.rpow 2 y = (2 : ℝ) ^ y from fun _ => rfl, Real.rpow_def_of_pos (by norm_num), mul_div_cancel₀ _ h2.ne', Real.exp_sub, Real.exp_log (lpos R)]
    simp only [ε, if_pos h]
  refine ⟨fun R j => ε R j / l R, fun R j => ε R j / l R * (β R j - δ R), fun R j => ⟨fun h => ⟨hW R j h, ?_⟩, ?_, ?_⟩⟩
  · unfold kD
    rw [hW R j h, dov_real, hδ, ← EReal.coe_sub, ← EReal.coe_mul]
  · rw [hp]
    congr 1
    by_cases h : j.val ≤ R.val
    · rw [if_pos h]
    · rw [if_neg h]; simp only [ε, if_neg h, zero_div]
  · unfold rD
    by_cases h : j.val ≤ R.val
    · rw [if_pos h, if_pos h]
      have hS : rS (up q) (up k) (up v) (up o) (upc f) R = ((∑ j, β R j * (1 / (l R * l R)) * ε R j : ℝ) : EReal) := by
        unfold rS
        simp only [dov_real, hl, hε, ← EReal.coe_mul]
        have : Ideal.div 1 ((l R * l R : ℝ) : EReal) = ((1 / (l R * l R) : ℝ) : EReal) := by
          rw [Ideal.div_coe (mul_pos (lpos R) (lpos R)).ne', one_mul]
        rw [this]
        simp only [coe_sum, EReal.coe_mul, β]
      rw [hS, dov_real, hl, hdiv, hε, ← EReal.coe_neg, ← EReal.coe_add, ← EReal.coe_mul]
      congr 1
      have e3 : ∑ j, β R j * (1 / (l R * l R)) * ε R j = (∑ j, β R j * ε R j) / (l R * l R) := by
        rw [Finset.sum_div]
        exact Finset.sum_congr rfl fun j _ => by ring
      show _ = ε R j / l R * (β R j - δ R)
      rw [e3, δeq]
      have := (lpos R).ne'
      simp only [β]
      field_simp
      ring
    · rw [if_neg h, if_neg h, EReal.coe_zero]

/-! ### The five results -/

theorem dq_eq (R : Fin n) (e : Fin 128) :
    ∑ j, (if j.val ≤ R.val then kD (up q) (up k) (up v) (up o) (upc f) R j * (up k) j e else 0) = Ideal.div (∑ j, rD (up q) (up k) (up v) (up o) (upc f) R j * sc * (up k) j e) sc := by
  obtain ⟨p, d, h⟩ := real_grads q k v o f
  obtain ⟨s, hs0, hs⟩ := sc_real
  have h1 : ∀ j, (if j.val ≤ R.val then kD (up q) (up k) (up v) (up o) (upc f) R j * (up k) j e else 0) = ((if j.val ≤ R.val then d R j * k j e else 0 : ℝ) : EReal) := by
    intro j
    by_cases hj : j.val ≤ R.val
    · rw [if_pos hj, if_pos hj, ((h R j).1 hj).2, EReal.coe_mul]
    · rw [if_neg hj, if_neg hj, EReal.coe_zero]
  rw [Finset.sum_congr rfl fun j _ => h1 j]
  simp only [(h R _).2.2, hs, ← EReal.coe_mul, ← coe_sum]
  rw [Ideal.div_coe hs0, ← EReal.coe_mul]
  congr 1
  rw [Finset.sum_mul]
  refine Finset.sum_congr rfl fun j _ => ?_
  split_ifs
  · field_simp
  · ring

theorem dk_eq (j : Fin n) (e : Fin 128) :
    ∑ R, (if j.val ≤ R.val then kD (up q) (up k) (up v) (up o) (upc f) R j * ((up q) R e * (sc * lc)) else 0) = (∑ R, rD (up q) (up k) (up v) (up o) (upc f) R j * sc * (up q) R e) * lc := by
  obtain ⟨p, d, h⟩ := real_grads q k v o f
  obtain ⟨s, hs0, hs⟩ := sc_real
  have h1 : ∀ R, (if j.val ≤ R.val then kD (up q) (up k) (up v) (up o) (upc f) R j * ((up q) R e * (sc * lc)) else 0)
      = ((if j.val ≤ R.val then d R j * (q R e * (s * (1 / Real.log 2))) else 0 : ℝ) : EReal) := by
    intro R
    by_cases hj : j.val ≤ R.val
    · rw [if_pos hj, if_pos hj, ((h R j).1 hj).2, hs, lc_real]
      simp only [EReal.coe_mul]
    · rw [if_neg hj, if_neg hj, EReal.coe_zero]
  rw [Finset.sum_congr rfl fun R _ => h1 R]
  simp only [(h _ j).2.2, hs, lc_real, ← EReal.coe_mul, ← coe_sum]
  congr 1
  rw [Finset.sum_mul]
  refine Finset.sum_congr rfl fun R _ => ?_
  split_ifs <;> ring

include v in
theorem dv_eq (j : Fin n) (e : Fin 128) :
    ∑ R, (if j.val ≤ R.val then kW (up q) (up k) (upc f) R j * (up o) R e else 0) = ∑ R, (up o) R e * Ideal.div (ex (up q) (up k) (upc f) R j) (sm (up q) (up k) (upc f) R) := by
  obtain ⟨p, d, h⟩ := real_grads q k v o f
  refine Finset.sum_congr rfl fun R _ => ?_
  rw [(h R j).2.1]
  by_cases hj : j.val ≤ R.val
  · rw [if_pos hj, if_pos hj, ((h R j).1 hj).1, mul_comm]
  · rw [if_neg hj, if_neg hj, EReal.coe_zero, mul_zero]

theorem rs_eq (R : Fin n) :
    ∑ j, (if j.val ≤ R.val then kD (up q) (up k) (up v) (up o) (upc f) R j else 0) = ∑ j, rD (up q) (up k) (up v) (up o) (upc f) R j := by
  obtain ⟨p, d, h⟩ := real_grads q k v o f
  refine Finset.sum_congr rfl fun j _ => ?_
  rw [(h R j).2.2]
  by_cases hj : j.val ≤ R.val
  · rw [if_pos hj, if_pos hj, ((h R j).1 hj).2]
  · rw [if_neg hj, if_neg hj, EReal.coe_zero]

theorem kD_real (R j : Fin n) (hj : j.val ≤ R.val) : ∃ r : ℝ, kD (up q) (up k) (up v) (up o) (upc f) R j = r := by
  obtain ⟨p, d, h⟩ := real_grads q k v o f
  exact ⟨_, ((h R j).1 hj).2⟩

theorem neg_sum_blocks {ι κ : Type} (s : Finset ι) (t : Finset κ) (b : ι → EReal) (g : κ → EReal) (hb : ∀ i ∈ s, ∃ r : ℝ, b i = r)
    (hg : ∀ i ∈ t, ∃ r : ℝ, g i = r) (h : ∑ i ∈ s, b i = ∑ i ∈ t, g i) : ∑ i ∈ s, (0 - b i) = ∑ i ∈ t, -g i := by
  classical
  have key : ∀ {α : Type} (u : Finset α) (c : α → EReal), (∀ i ∈ u, ∃ r : ℝ, c i = r) → ∃ r : ℝ, ∑ i ∈ u, c i = r ∧ ∑ i ∈ u, -c i = ((-r : ℝ) : EReal) := by
    intro α u c
    induction u using Finset.induction_on with
    | empty => intro _; exact ⟨0, by simp, by simp⟩
    | insert a u ha ih =>
      intro hc
      obtain ⟨r, h1, h2⟩ := ih fun i hi => hc i (Finset.mem_insert_of_mem hi)
      obtain ⟨x, hx⟩ := hc a (Finset.mem_insert_self _ _)
      refine ⟨x + r, ?_, ?_⟩
      · rw [Finset.sum_insert ha, h1, hx, EReal.coe_add]
      · rw [Finset.sum_insert ha, h2, hx, ← EReal.coe_neg, ← EReal.coe_add, neg_add]
  obtain ⟨r1, e1, e1'⟩ := key s b hb
  obtain ⟨r2, e2, e2'⟩ := key t g hg
  have : r1 = r2 := by
    rw [e1, e2] at h
    exact_mod_cast h
  simp only [zero_sub]
  rw [e1', e2', this]

end

end Cert.Fox

end
-- ==== Proof.Host.lean ====
module

public import proofs.«01_k».proof.Proof.Tail
public import proofs.«01_k».proof.Proof.Soft
public import Idealize.ShloMosaic.Lib.Tactic.WordOmega

@[expose] public section

set_option maxRecDepth 16384

noncomputable section

open Idealize.ShloMosaic Idealize.ShloMosaic.TcCoe Idealize.SL.Sem

namespace Cert.KernelIdeal.Fox

open Cert.KernelIdeal Cert.KernelIdeal.Gen

/-! What the arrays that the region reads hold, in terms of the arguments. -/

/-- One head of a wide argument. -/
def head (A : FVec Ideal S8192x1024 .f32) (h : Fin 8) (R : Fin 8192) (e : Fin 128) : EReal := A (ix2 R (lane1 h e))
/-- One head of the forget-gate argument. -/
def col (A : FVec Ideal S8192x8 .f32) (h : Fin 8) (R : Fin 8192) : EReal := A (ix2 R h)
/-- A bias lane. -/
abbrev hi (e : Fin 128) : Fin 256 := ⟨128 + e.val, by omega⟩

theorem head_at (A : FVec Ideal S8192x1024 .f32) (h : Fin 8) (R : Fin 8192) (x : ℕ) (hx : x < 1024) (e : Fin 128) (hxe : x = 128 * h.val + e.val) :
    A (ix2 R ⟨x, hx⟩) = head A h R e := by
  subst hxe; rfl

theorem sel_eq {α : Type} (x k : ℕ) (hx : x < 8192) (hk : k < 8192) (a b : α) :
    Scalar.select (IntOp.cmpi .eq (BitVec.ofNat 32 x) (BitVec.ofNat 32 k)) a b = if x = k then a else b := by
  have e : BitVec.ofNat 32 x = BitVec.ofNat 32 k ↔ x = k := by
    rw [← BitVec.toNat_inj, BitVec.toNat_ofNat, BitVec.toNat_ofNat, Nat.mod_eq_of_lt (by omega), Nat.mod_eq_of_lt (by omega)]
  simp only [IntOp.cmpi, Scalar.select]
  by_cases h : x = k
  · simp [h]
  · have hb : (BitVec.ofNat 32 x == BitVec.ofNat 32 k) = false := beq_eq_false_iff_ne.2 fun w => h (e.1 w)
    simp [h, hb]

theorem toInt_small (x : ℕ) (hx : x < 8192) : (BitVec.ofNat 32 x).toInt = x := by
  rw [BitVec.toInt_eq_toNat_of_lt] <;> rw [BitVec.toNat_ofNat, Nat.mod_eq_of_lt (by omega)]
  omega

theorem sel_slt {α : Type} (x k : ℕ) (hx : x < 8192) (hk : k < 8192) (a b : α) :
    Scalar.select (IntOp.cmpi .slt (BitVec.ofNat 32 x) (BitVec.ofNat 32 k)) a b = if x < k then a else b := by
  have e : (BitVec.ofNat 32 x).slt (BitVec.ofNat 32 k) = decide (x < k) := by
    rw [BitVec.slt, toInt_small x hx, toInt_small k hk]
    simp
  simp only [IntOp.cmpi, Scalar.select, e]
  by_cases h : x < k
  · simp [h]
  · simp [h]

theorem sel_sle {α : Type} (x k : ℕ) (hx : x < 8192) (hk : k < 8192) (a b : α) :
    Scalar.select (IntOp.cmpi .sle (BitVec.ofNat 32 x) (BitVec.ofNat 32 k)) a b = if x ≤ k then a else b := by
  have e : (BitVec.ofNat 32 x).sle (BitVec.ofNat 32 k) = decide (x ≤ k) := by
    rw [BitVec.sle, toInt_small x hx, toInt_small k hk]
    simp
  simp only [IntOp.cmpi, Scalar.select, e]
  by_cases h : x ≤ k
  · simp [h]
  · simp [h]

theorem bot_lit : Ideal.ofBits .f32 0xFF800000#32 = ⊥ := by
  simp [Ideal.ofBits, Ideal.ieee]

theorem after_app (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

section
variable (m : (ℓ : Loc nD τ sig) → Buf (Elt Ideal) ℓ) (c : Dev nD)

/-- The contents once the masked scores are there. -/
@[irreducible] def lead : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))

abbrev hQ (h : Fin 8) := head (m ((c.tc : Thread nD τ).loc main_arg0)) h
abbrev hK (h : Fin 8) := head (m ((c.tc : Thread nD τ).loc main_arg1)) h
abbrev hV (h : Fin 8) := head (m ((c.tc : Thread nD τ).loc main_arg2)) h
abbrev hF (h : Fin 8) := col (m ((c.tc : Thread nD τ).loc main_arg3)) h
abbrev hO (h : Fin 8) := head (m ((c.tc : Thread nD τ).loc main_arg4)) h

theorem aV_at (R : Fin 8192) (h : Fin 8) (e : Fin 128) : aV m c (ix2 R (lane1 h e)) = hV m c h R e := by
  unfold aV
  show V m c main_v100 _ = _
  unfold V
  after_reads_at
  rfl

theorem aO_at (R : Fin 8192) (h : Fin 8) (e : Fin 128) : aO m c (ix2 R (lane1 h e)) = hO m c h R e := by
  unfold aO
  show V m c main_v101 _ = _
  unfold V
  after_reads_at
  rfl

theorem aQ_lo (R : Fin 8192) (h : Fin 8) (e : Fin 128) : aQ m c (ix2 R (lane2 h (lo e))) = hQ m c h R e * (Cert.Fox.sc * Cert.Fox.lc) := by
  unfold aQ
  show V m c main_v53 _ = _
  unfold V
  after_reads_simp
  unfold lane2 lo
  pointwise
  rw [dif_pos (by omega)]
  after_reads_at
  exact congrArg (· * _) (head_at _ h R _ _ e (by omega))

theorem aK_lo (R : Fin 8192) (h : Fin 8) (e : Fin 128) : aK m c (ix2 R (lane2 h (lo e))) = hK m c h R e := by
  unfold aK
  show V m c main_v54 _ = _
  unfold V
  after_reads_simp
  unfold lane2 lo
  pointwise
  rw [dif_pos (by omega)]
  after_reads_at
  exact head_at _ h R _ _ e (by omega)

theorem aQ_hi (R : Fin 8192) (h : Fin 8) (e : Fin 128) : aQ m c (ix2 R (lane2 h (hi e))) = Cert.Fox.bq (hF m c h R * Cert.Fox.lc) e := by
  unfold aQ
  show V m c main_v53 _ = _
  unfold V
  after_reads_simp
  unfold lane2 hi
  pointwise
  rw [dif_neg (by omega)]
  after_reads_at
  have hx : (256 * h.val + (128 + e.val)) % 256 - 128 = e.val := by omega
  simp only [id]
  try pointwise
  simp only [hx]
  rw [sel_eq _ 0 (by omega) (by omega), sel_eq _ 1 (by omega) (by omega), sel_eq _ 2 (by omega) (by omega), sel_slt _ 6 (by omega) (by omega)]
  rfl

theorem aK_hi (R : Fin 8192) (h : Fin 8) (e : Fin 128) : aK m c (ix2 R (lane2 h (hi e))) = Cert.Fox.bk (hF m c h R * Cert.Fox.lc) e := by
  unfold aK
  show V m c main_v54 _ = _
  unfold V
  after_reads_simp
  unfold lane2 hi
  pointwise
  rw [dif_neg (by omega)]
  after_reads_at
  have hx : (256 * h.val + (128 + e.val)) % 256 - 128 = e.val := by omega
  simp only [id]
  try pointwise
  simp only [hx]
  rw [sel_slt _ 3 (by omega) (by omega), sel_eq _ 3 (by omega) (by omega), sel_eq _ 4 (by omega) (by omega), sel_eq _ 5 (by omega) (by omega)]
  rfl

theorem W_eq (b : Ref sig .tc) : V m c b = W (lead m c) b := by
  unfold lead
  show StableHlo.after (List.flatten ([hostOps0, hostOps0_1, hostOps0_2, hostOps0_3, hostOps0_4, hostOps0_5, hostOps0_6, hostOps0_7, hostOps0_8, hostOps0_9, hostOps0_10, hostOps0_11, hostOps0_12] ++ [hostOps0_13, hostOps0_14, hostOps0_15])) _ _ = _
  rw [List.flatten_append, after_app]

theorem X_at (h : Fin 8) (R j : Fin 8192) : vX (lead m c) (ix3 h R j) = Cert.Fox.lgt (hQ m c h) (hK m c h) (hF m c h) R j := by
  unfold vX
  rw [← W_eq]
  unfold V
  after_reads_simp
  simp -implicitDefEqProofs only [StableHlo.TRef.toBuf, StableHlo.TRef.ofBuf, cast_cast, cast_eq]
  clean_types
  pointwise
  rw [sel_sle _ _ (by omega) (by omega)]
  unfold Cert.Fox.lgt
  refine if_congr Iff.rfl ?_ bot_lit
  refine congrArg₂ (· + ·) (congrArg (· * _) (Finset.sum_congr rfl fun x _ => ?_)) rfl
  exact congrArg₂ (· * ·) (head_at _ h R _ _ x (by omega)) (head_at _ h j _ _ x (by omega))

theorem vV_at (h : Fin 8) (R : Fin 8192) (e : Fin 128) : vV (lead m c) (ix3 h R e) = hV m c h R e := by
  unfold vV
  rw [← W_eq]
  unfold V
  after_reads_at
  exact head_at _ h R _ _ e (by omega)

theorem vO_at (h : Fin 8) (R : Fin 8192) (e : Fin 128) : vO (lead m c) (ix3 h R e) = hO m c h R e := by
  unfold vO
  rw [← W_eq]
  unfold V
  after_reads_at
  exact head_at _ h R _ _ e (by omega)

theorem M_at (h : Fin 8) (R : Fin 8192) : vM (lead m c) (ix3 h R 0) = Cert.Fox.mx (hQ m c h) (hK m c h) (hF m c h) R := by
  rw [vM_at, bot_lit]
  exact congrArg (fun g => Finset.univ.fold max ⊥ g) (funext fun j => X_at m c h R j)

theorem E_at (h : Fin 8) (R j : Fin 8192) : vE (lead m c) (ix3 h R j) = Cert.Fox.ex (hQ m c h) (hK m c h) (hF m c h) R j := by
  rw [vE_at, X_at, M_at]
  rfl

theorem L_at (h : Fin 8) (R : Fin 8192) : vL (lead m c) (ix3 h R 0) = Cert.Fox.sm (hQ m c h) (hK m c h) (hF m c h) R := by
  rw [vL_at]
  exact Finset.sum_congr rfl fun j _ => E_at m c h R j

theorem aL_at (h : Fin 8) (R : Fin 8192) : aL m c (ix3 h R 0)
    = (Cert.Fox.mx (hQ m c h) (hK m c h) (hF m c h) R + Ideal.log (Cert.Fox.sm (hQ m c h) (hK m c h) (hF m c h) R)) * Cert.Fox.lc := by
  unfold aL
  show V m c main_v98 _ = _
  rw [W_eq]
  refine (vS_at (lead m c) h R).trans ?_
  rw [vN_at, v97_at, M_at, L_at]
  rfl

theorem aD_at (h : Fin 8) (R : Fin 8192) : aD m c (ix2 R (hl h)) = Cert.Fox.dl (hQ m c h) (hK m c h) (hV m c h) (hO m c h) (hF m c h) R := by
  unfold aD
  show V m c main_v99 _ = _
  rw [W_eq]
  refine (vP_at (lead m c) h R).trans ?_
  rw [vD_at]
  refine Finset.sum_congr rfl fun e _ => congrArg₂ (· * ·) (vO_at m c h R e) ?_
  rw [vT_at]
  exact Finset.sum_congr rfl fun j _ => congrArg₂ (· * ·) (congrArg₂ Ideal.div (E_at m c h R j) (L_at m c h R)) (vV_at m c h j e)

theorem sum_lanes (g : Fin 256 → EReal) : ∑ e : Fin 256, g e = (∑ e : Fin 128, g (lo e)) + ∑ e : Fin 128, g (hi e) :=
  Fin.sum_univ_add (a := 128) (b := 128) g

theorem aWt_at (h : Fin 8) (R j : Fin 8192) : aWt m c h R j = Cert.Fox.kW (hQ m c h) (hK m c h) (hF m c h) R j := by
  unfold aWt Wt
  rw [sum_lanes]
  simp only [aQ_lo, aK_lo, aQ_hi, aK_hi, aL_at]
  rfl

theorem aDs_at (h : Fin 8) (R j : Fin 8192) : aDs m c h R j = Cert.Fox.kD (hQ m c h) (hK m c h) (hV m c h) (hO m c h) (hF m c h) R j := by
  unfold aDs Ds
  rw [show Wt (aQ m c) (aK m c) (aL m c) h R j = _ from aWt_at m c h R j, aD_at]
  simp only [aO_at, aV_at]
  rfl

end

end Cert.KernelIdeal.Fox

end
-- ==== Proof.RefA.lean ====
module

public import proofs.«01_k».proof.Proof.Host
public import proofs.«01_k».proof.Proof.Gen.ReferenceIdeal.Run
public import Idealize.ShloMosaic.Lib.StableHlo.ReadAt

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen
open Cert.KernelIdeal.Fox (head col lane1 kr head_at sel_sle bot_lit)

/-! What the reference holds, line by line, from contents `U` of its arguments. -/

theorem after_app (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

section
variable (U : Valuation τ sig (Elt Ideal))

/-- The contents once the masked scores are there. -/
@[irreducible] def UA : Valuation τ sig (Elt Ideal) := StableHlo.after ((Value.ops (F := Ideal)).take 31) U
/-- The contents once the forward pass has its weights. -/
@[irreducible] def UB : Valuation τ sig (Elt Ideal) := StableHlo.after (((Value.ops (F := Ideal)).drop 31).take 38) (UA U)
/-- The contents once the score gradient is there. -/
@[irreducible] def UC : Valuation τ sig (Elt Ideal) := StableHlo.after (((Value.ops (F := Ideal)).drop 69).take 25) (UB U)
/-- The contents at the end. -/
@[irreducible] def UD : Valuation τ sig (Elt Ideal) := StableHlo.after ((Value.ops (F := Ideal)).drop 94) (UC U)

theorem whole : StableHlo.after (Value.ops (F := Ideal)) U = UD U := by
  unfold UD UC UB UA
  rw [← after_app, ← after_app, ← after_app]
  rfl

abbrev hQ (h : Fin 8) := head (U main_arg0) h
abbrev hK (h : Fin 8) := head (U main_arg1) h
abbrev hV (h : Fin 8) := head (U main_arg2) h
abbrev hF (h : Fin 8) := col (U main_arg3) h
abbrev hO (h : Fin 8) := head (U main_arg4) h

abbrev rQ : FVec Ideal S8x8192x128 .f32 := UA U main_v1
abbrev rK : FVec Ideal S8x8192x128 .f32 := UA U main_v3
abbrev rV : FVec Ideal S8x8192x128 .f32 := UA U main_v5
abbrev rO : FVec Ideal S8x8192x128 .f32 := UC U main_v56
abbrev rX : FVec Ideal S8x8192x8192 .f32 := UA U main_v23_0
abbrev rC : IVec S8x8192x8192 1 := UA U main_v23_1
abbrev rM : FVec Ideal S8x8192 .f32 := UB U main_v24
abbrev rN : FVec Ideal S8x8192 .f32 := UB U main_v31
abbrev rE : FVec Ideal S8x8192x8192 .f32 := UB U main_v44
abbrev rL : FVec Ideal S8x8192x1 .f32 := UB U main_v46
abbrev rP : FVec Ideal S8x8192x8192 .f32 := UB U main_v48
abbrev rI : FVec Ideal S8x8192x1 .f32 := UB U main_v51
abbrev rB : FVec Ideal S8x8192x8192 .f32 := UC U main_v59
abbrev rS : FVec Ideal S8x8192 .f32 := UC U main_v63
abbrev rT : FVec Ideal S8x8192 .f32 := UC U main_v68
abbrev rH : FVec Ideal S8x8192x8192 .f32 := UC U main_v71
abbrev rD : FVec Ideal S8x8192x8192 .f32 := UC U main_v72
abbrev rZ : FVec Ideal S8x8192x8192 .f32 := UD U main_v83

theorem keep5 : UB U main_v5 = rV U := by
  unfold rV UB
  simp only [Value.ops, List.drop_succ_cons, List.drop_zero, List.take_succ_cons, List.take_zero]
  after_reads_simp

theorem keepC : UB U main_v23_1 = rC U := by
  unfold rC UB
  simp only [Value.ops, List.drop_succ_cons, List.drop_zero, List.take_succ_cons, List.take_zero]
  after_reads_simp

theorem keepo : UB U main_arg4 = U main_arg4 := by
  unfold UB UA
  simp only [Value.ops, List.drop_succ_cons, List.drop_zero, List.take_succ_cons, List.take_zero]
  after_reads_simp

theorem keep1 : UC U main_v1 = rQ U := by
  unfold rQ UC UB
  simp only [Value.ops, List.drop_succ_cons, List.drop_zero, List.take_succ_cons, List.take_zero]
  after_reads_simp

theorem keep3 : UC U main_v3 = rK U := by
  unfold rK UC UB
  simp only [Value.ops, List.drop_succ_cons, List.drop_zero, List.take_succ_cons, List.take_zero]
  after_reads_simp

theorem rQ_at (h : Fin 8) (R : Fin 8192) (e : Fin 128) : rQ U (ix3 h R e) = hQ U h R e := by
  unfold rQ UA
  simp only [Value.ops, List.drop_succ_cons, List.drop_zero, List.take_succ_cons, List.take_zero]
  after_reads_at
  exact head_at _ h R _ _ e (by omega)

theorem rK_at (h : Fin 8) (R : Fin 8192) (e : Fin 128) : rK U (ix3 h R e) = hK U h R e := by
  unfold rK UA
  simp only [Value.ops, List.drop_succ_cons, List.drop_zero, List.take_succ_cons, List.take_zero]
  after_reads_at
  exact head_at _ h R _ _ e (by omega)

theorem rV_at (h : Fin 8) (R : Fin 8192) (e : Fin 128) : rV U (ix3 h R e) = hV U h R e := by
  unfold rV UA
  simp only [Value.ops, List.drop_succ_cons, List.drop_zero, List.take_succ_cons, List.take_zero]
  after_reads_at
  exact head_at _ h R _ _ e (by omega)

theorem rX_at (h : Fin 8) (R j : Fin 8192) : rX U (ix3 h R j) = Cert.Fox.lgt (hQ U h) (hK U h) (hF U h) R j := by
  unfold rX UA
  simp only [Value.ops, List.drop_succ_cons, List.drop_zero, List.take_succ_cons, List.take_zero]
  after_reads_simp
  simp -implicitDefEqProofs only [StableHlo.TRef.toBuf, StableHlo.TRef.ofBuf, cast_cast, cast_eq]
  clean_types
  pointwise
  rw [sel_sle _ _ (by omega) (by omega)]
  unfold Cert.Fox.lgt
  refine if_congr Iff.rfl ?_ bot_lit
  refine congrArg₂ (· + ·) (congrArg (· * _) (Finset.sum_congr rfl fun x _ => ?_)) rfl
  exact congrArg₂ (· * ·) (head_at _ h R _ _ x (by omega)) (head_at _ h j _ _ x (by omega))

end

end Cert.ReferenceIdeal.Fox

end
-- ==== Proof.RefB.lean ====
module

public import proofs.«01_k».proof.Proof.RefA
public import proofs.«01_k».proof.Proof.Gen.ReferenceIdeal.Run
public import Idealize.ShloMosaic.Lib.StableHlo.ReadAt

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen
open Cert.KernelIdeal.Fox (head col lane1 kr head_at sel_sle bot_lit)

/-! What the reference holds, line by line, from contents `U` of its arguments. -/

section
variable (U : Valuation τ sig (Elt Ideal))

theorem rM_eq : rM U = Host.reduce FloatOps.maximumf (rX U) (constant S_ .f32 0xFF800000#32) reducesTo_S8x8192x8192_S8x8192_d2 h_S_ := by
  unfold rM rX UB
  simp only [Value.ops, List.drop_succ_cons, List.drop_zero, List.take_succ_cons, List.take_zero]
  after_reads_simp

theorem rM_at (h : Fin 8) (R : Fin 8192) : rM U (ix2 h R) = Cert.Fox.mx (hQ U h) (hK U h) (hF U h) R := by
  have e : rM U (ix2 h R) = Finset.univ.fold max (Ideal.ofBits .f32 0xFF800000#32) (fun j : Fin 8192 => rX U (ix3 h R j)) := by
    rw [rM_eq]
    generalize rX U = X
    pointwise
  rw [e, bot_lit]
  exact congrArg (fun g => Finset.univ.fold max ⊥ g) (funext fun j => rX_at U h R j)

theorem rN_eq : rN U = maximumf (broadcastInDim S8x8192 ![] bcast_S_S8x8192 (constant S_ .f32 0xFF800000#32)) (rM U) := by
  unfold rM rN UB
  simp only [Value.ops, List.drop_succ_cons, List.drop_zero, List.take_succ_cons, List.take_zero]
  after_reads_simp

theorem max_at {s : Shape} (w : BitVec 32) (hb : S_.BroadcastsInDim s (![] : Fin 0 → Fin s.rank)) (X : FVec Ideal s .f32) (i : s.Idx) :
    maximumf (broadcastInDim s ![] hb (constant S_ .f32 w)) X i = max (Ideal.ofBits .f32 w) (X i) := rfl

theorem rN_at (h : Fin 8) (R : Fin 8192) : rN U (ix2 h R) = Cert.Fox.mx (hQ U h) (hK U h) (hF U h) R := by
  rw [← rM_at]
  refine (congrFun (rN_eq U) _).trans ((max_at _ _ _ _).trans ?_)
  rw [bot_lit]
  exact max_eq_right bot_le

theorem rE_eq : rE U = Host.exp (subf (rX U) (broadcastInDim S8x8192x8192 ![0, 1, 2] bcast_S8x8192x1_S8x8192x8192_0_1_2 (broadcastInDim S8x8192x1 ![0, 1] bcast_S8x8192_S8x8192x1_0_1 (rN U)))) := by
  unfold rE rN rX UB
  simp only [Value.ops, List.drop_succ_cons, List.drop_zero, List.take_succ_cons, List.take_zero]
  after_reads_simp

theorem rE_at (h : Fin 8) (R j : Fin 8192) : rE U (ix3 h R j) = Cert.Fox.ex (hQ U h) (hK U h) (hF U h) R j := by
  have e : rE U (ix3 h R j) = Ideal.exp (rX U (ix3 h R j) - rN U (ix2 h R)) := by
    rw [rE_eq]
    generalize rX U = X
    generalize rN U = N
    pointwise
  rw [e, rX_at, rN_at]
  rfl

theorem rL_eq : rL U = broadcastInDim S8x8192x1 ![0, 1] bcast_S8x8192_S8x8192x1_0_1 (Host.reduceAdd (rE U) (constant S_ .f32 0x00000000#32) reducesTo_S8x8192x8192_S8x8192_d2 h_S_) := by
  unfold rE rL UB
  simp only [Value.ops, List.drop_succ_cons, List.drop_zero, List.take_succ_cons, List.take_zero]
  after_reads_simp

theorem rL_at (h : Fin 8) (R : Fin 8192) : rL U (ix3 h R 0) = Cert.Fox.sm (hQ U h) (hK U h) (hF U h) R := by
  have e : rL U (ix3 h R 0) = ∑ j : Fin 8192, rE U (ix3 h R j) := by
    rw [rL_eq]
    generalize rE U = E
    pointwise
  rw [e]
  exact Finset.sum_congr rfl fun j _ => rE_at U h R j

theorem rP_eq : rP U = Host.divf (rE U) (broadcastInDim S8x8192x8192 ![0, 1, 2] bcast_S8x8192x1_S8x8192x8192_0_1_2 (rL U)) := by
  unfold rE rL rP UB
  simp only [Value.ops, List.drop_succ_cons, List.drop_zero, List.take_succ_cons, List.take_zero]
  after_reads_simp

theorem rP_at (h : Fin 8) (R j : Fin 8192) : rP U (ix3 h R j) = Ideal.div (Cert.Fox.ex (hQ U h) (hK U h) (hF U h) R j) (Cert.Fox.sm (hQ U h) (hK U h) (hF U h) R) := by
  rw [← rE_at, ← rL_at, rP_eq]
  generalize rE U = E
  generalize rL U = L
  pointwise

theorem rI_eq : rI U = Host.divf (broadcastInDim S8x8192x1 ![] bcast_S_S8x8192x1 (constant S_ .f32 0x3F800000#32)) (mulf (rL U) (rL U)) := by
  unfold rI rL UB
  simp only [Value.ops, List.drop_succ_cons, List.drop_zero, List.take_succ_cons, List.take_zero]
  after_reads_simp

theorem div_sq_at {s : Shape} (X Y : FVec Ideal s .f32) (i : s.Idx) : Host.divf X (mulf Y Y) i = Ideal.div (X i) (Y i * Y i) := rfl

theorem rI_at (h : Fin 8) (R : Fin 8192) : rI U (ix3 h R 0) = Ideal.div 1 (Cert.Fox.sm (hQ U h) (hK U h) (hF U h) R * Cert.Fox.sm (hQ U h) (hK U h) (hF U h) R) := by
  rw [← rL_at]
  refine (congrFun (rI_eq U) _).trans ((div_sq_at _ _ _).trans ?_)
  refine congrArg (fun x => Ideal.div x _) ?_
  pointwise

end

end Cert.ReferenceIdeal.Fox

end
-- ==== Proof.RefC.lean ====
module

public import proofs.«01_k».proof.Proof.RefB
public import proofs.«01_k».proof.Proof.Gen.ReferenceIdeal.Run
public import Idealize.ShloMosaic.Lib.StableHlo.ReadAt

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen
open Cert.KernelIdeal.Fox (head col lane1 kr head_at sel_sle bot_lit)

/-! What the reference holds, line by line, from contents `U` of its arguments. -/

section
variable (U : Valuation τ sig (Elt Ideal))

theorem rO_at (h : Fin 8) (R : Fin 8192) (e : Fin 128) : rO U (ix3 h R e) = hO U h R e := by
  unfold rO UC
  simp only [Value.ops, List.drop_succ_cons, List.drop_zero, List.take_succ_cons, List.take_zero]
  after_reads_simp
  rw [keepo]
  pointwise
  exact head_at _ h R _ _ e (by omega)

theorem rB_eq : rB U = Host.dotGeneral dot_S8x8192x128_S8x8192x128_S8x8192x8192_2_2_1_1_0_0 none (rO U) (rV U) := by
  unfold rB rO rV UC
  simp only [Value.ops, List.drop_succ_cons, List.drop_zero, List.take_succ_cons, List.take_zero]
  after_reads_simp
  rw [keep5]

theorem rB_at (h : Fin 8) (R j : Fin 8192) : rB U (ix3 h R j) = Cert.Fox.dov (hV U h) (hO U h) R j := by
  have e : rB U (ix3 h R j) = ∑ e : Fin 128, rO U (ix3 h R e) * rV U (ix3 h j e) := by
    rw [rB_eq]
    generalize rO U = X
    generalize rV U = Y
    pointwise
  rw [e]
  exact Finset.sum_congr rfl fun e _ => congrArg₂ (· * ·) (rO_at U h R e) (rV_at U h j e)

theorem rS_eq : rS U = Host.reduceAdd (mulf (mulf (rB U) (broadcastInDim S8x8192x8192 ![0, 1, 2] bcast_S8x8192x1_S8x8192x8192_0_1_2 (rI U))) (rE U)) (constant S_ .f32 0x00000000#32) reducesTo_S8x8192x8192_S8x8192_d2 h_S_ := by
  unfold rB rE rI rS UC
  simp only [Value.ops, List.drop_succ_cons, List.drop_zero, List.take_succ_cons, List.take_zero]
  after_reads_simp

theorem rS_at (h : Fin 8) (R : Fin 8192) : rS U (ix2 h R) = Cert.Fox.rS (hQ U h) (hK U h) (hV U h) (hO U h) (hF U h) R := by
  have e : rS U (ix2 h R) = ∑ j : Fin 8192, rB U (ix3 h R j) * rI U (ix3 h R 0) * rE U (ix3 h R j) := by
    rw [rS_eq]
    generalize rB U = X
    generalize rI U = Y
    generalize rE U = Z
    pointwise
  rw [e]
  exact Finset.sum_congr rfl fun j _ => congrArg₂ (· * ·) (congrArg₂ (· * ·) (rB_at U h R j) (rI_at U h R)) (rE_at U h R j)

theorem rT_eq : rT U = Host.reduceAdd (Host.negf (shapeCast S8x8192x1 (rS U) shapeCasts_S8x8192_S8x8192x1)) (constant S_ .f32 0x00000000#32) reducesTo_S8x8192x1_S8x8192_d2 h_S_ := by
  unfold rS rT UC
  simp only [Value.ops, List.drop_succ_cons, List.drop_zero, List.take_succ_cons, List.take_zero]
  after_reads_simp
  rfl

theorem rT_at (h : Fin 8) (R : Fin 8192) : rT U (ix2 h R) = -Cert.Fox.rS (hQ U h) (hK U h) (hV U h) (hO U h) (hF U h) R := by
  rw [← rS_at, rT_eq]
  generalize rS U = X
  pointwise
  exact Fin.sum_univ_one (fun _ => -X (ix2 h R))

theorem rH_eq : rH U = mulf (addf (Host.divf (rB U) (broadcastInDim S8x8192x8192 ![0, 1, 2] bcast_S8x8192x1_S8x8192x8192_0_1_2 (rL U))) (broadcastInDim S8x8192x8192 ![0, 1] bcast_S8x8192_S8x8192x8192_0_1 (rT U))) (rE U) := by
  unfold rB rE rH rL rT UC
  simp only [Value.ops, List.drop_succ_cons, List.drop_zero, List.take_succ_cons, List.take_zero]
  after_reads_simp

theorem rH_at (h : Fin 8) (R j : Fin 8192) : rH U (ix3 h R j) = (Ideal.div (rB U (ix3 h R j)) (rL U (ix3 h R 0)) + rT U (ix2 h R)) * rE U (ix3 h R j) := by
  rw [rH_eq]
  generalize rB U = X
  generalize rL U = Y
  generalize rT U = T
  generalize rE U = Z
  pointwise

theorem rC_eq : rC U = broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))) := by
  unfold rC UA
  simp only [Value.ops, List.drop_succ_cons, List.drop_zero, List.take_succ_cons, List.take_zero]
  after_reads_simp
  simp -implicitDefEqProofs only [StableHlo.TRef.toBuf, StableHlo.TRef.ofBuf, cast_cast, cast_eq]

theorem rD_eq : rD U = select (rC U) (rH U) (broadcastInDim S8x8192x8192 ![] bcast_S_S8x8192x8192 (constant S_ .f32 0x00000000#32)) := by
  unfold rC rD rH UC
  simp only [Value.ops, List.drop_succ_cons, List.drop_zero, List.take_succ_cons, List.take_zero]
  after_reads_simp
  simp -implicitDefEqProofs only [StableHlo.TRef.toBuf, StableHlo.TRef.ofBuf, cast_cast, cast_eq]
  rw [keepC]

theorem rD_at (h : Fin 8) (R j : Fin 8192) : rD U (ix3 h R j) = Cert.Fox.rD (hQ U h) (hK U h) (hV U h) (hO U h) (hF U h) R j := by
  have e : rD U (ix3 h R j) = if j.val ≤ R.val then rH U (ix3 h R j) else 0 := by
    rw [rD_eq, rC_eq]
    generalize rH U = X
    pointwise
    rw [sel_sle _ _ (by omega) (by omega)]
  rw [e, rH_at, rB_at, rL_at, rT_at, rE_at]
  rfl

abbrev rG : FVec Ideal S8x8192x128 .f32 := UC U main_v58

theorem rG_eq : rG U = transpose S8x8192x128 [0, 2, 1] (Host.dotGeneral dot_S8x8192x128_S8x8192x8192_S8x128x8192_1_1_2_2_0_0 none (rO U) (rP U)) transposes_S8x128x8192_S8x8192x128_0_2_1 := by
  unfold rG rO rP UC
  simp only [Value.ops, List.drop_succ_cons, List.drop_zero, List.take_succ_cons, List.take_zero]
  after_reads_simp

theorem rG_at (h : Fin 8) (j : Fin 8192) (e : Fin 128) : rG U (ix3 h j e)
    = ∑ R, hO U h R e * Ideal.div (Cert.Fox.ex (hQ U h) (hK U h) (hF U h) R j) (Cert.Fox.sm (hQ U h) (hK U h) (hF U h) R) := by
  simp only [← rP_at, ← rO_at]
  rw [rG_eq]
  generalize rP U = X
  generalize rO U = Y
  pointwise

end

end Cert.ReferenceIdeal.Fox

end
-- ==== Proof.RefD.lean ====
module

public import proofs.«01_k».proof.Proof.RefC
public import proofs.«01_k».proof.Proof.Gen.ReferenceIdeal.Run
public import Idealize.ShloMosaic.Lib.StableHlo.ReadAt

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen
open Cert.KernelIdeal.Fox (head col lane1 kr head_at sel_sle bot_lit)

/-! What the reference holds, line by line, from contents `U` of its arguments. -/

section
variable (U : Valuation τ sig (Elt Ideal))

theorem rZ_eq : rZ U = mulf (rD U) (broadcastInDim S8x8192x8192 ![] bcast_S_S8x8192x8192 (constant S_ .f32 0x3DB504F3#32)) := by
  unfold rD rZ UD
  simp only [Value.ops, List.drop_succ_cons, List.drop_zero, List.take_succ_cons, List.take_zero]
  after_reads_simp

theorem rZ_at (h : Fin 8) (R j : Fin 8192) : rZ U (ix3 h R j) = Cert.Fox.rD (hQ U h) (hK U h) (hV U h) (hO U h) (hF U h) R j * Cert.Fox.sc := by
  rw [← rD_at, rZ_eq]
  generalize rD U = X
  pointwise
  rfl

abbrev out0 : FVec Ideal S8192x1024 .f32 := UD U main_v93
abbrev out1 : FVec Ideal S8192x1024 .f32 := UD U main_v97
abbrev out2 : FVec Ideal S8192x1024 .bf16 := UD U main_v98
abbrev out3 : FVec Ideal S8x8x1x1024 .f32 := UD U main_v100
abbrev out4 : FVec Ideal S8x8192x1 .f32 := UD U main_v102

theorem out0_eq : out0 U = Host.divf (shapeCast S8192x1024 (transpose S8192x8x128 [1, 0, 2] (Host.dotGeneral dot_S8x8192x8192_S8x8192x128_S8x8192x128_2_1_1_2_0_0 none (rZ U) (rK U)) transposes_S8x8192x128_S8192x8x128_1_0_2) shapeCasts_S8192x8x128_S8192x1024) (broadcastInDim S8192x1024 ![] bcast_S_S8192x1024 (constant S_ .f32 0x3DB504F3#32)) := by
  unfold out0 rK rZ UD
  simp only [Value.ops, List.drop_succ_cons, List.drop_zero, List.take_succ_cons, List.take_zero]
  after_reads_simp
  rw [keep3]
  rfl

theorem out0_at (h : Fin 8) (R : Fin 8192) (e : Fin 128) : out0 U (ix2 R (lane1 h e))
    = Ideal.div (∑ j, Cert.Fox.rD (hQ U h) (hK U h) (hV U h) (hO U h) (hF U h) R j * Cert.Fox.sc * hK U h j e) Cert.Fox.sc := by
  simp only [← rZ_at, ← rK_at]
  rw [out0_eq]
  generalize rZ U = X
  generalize rK U = Y
  unfold lane1
  pointwise
  rfl

theorem out1_eq : out1 U = mulf (shapeCast S8192x1024 (transpose S8192x8x128 [1, 0, 2] (Host.dotGeneral dot_S8x8192x8192_S8x8192x128_S8x8192x128_1_1_2_2_0_0 none (rZ U) (rQ U)) transposes_S8x8192x128_S8192x8x128_1_0_2) shapeCasts_S8192x8x128_S8192x1024) (broadcastInDim S8192x1024 ![] bcast_S_S8192x1024 (Host.divf (constant S_ .f32 0x3F800000#32) (Host.log (constant S_ .f32 0x40000000#32)))) := by
  unfold out1 rQ rZ UD
  simp only [Value.ops, List.drop_succ_cons, List.drop_zero, List.take_succ_cons, List.take_zero]
  after_reads_simp
  rw [keep1]
  rfl

theorem out1_at (h : Fin 8) (j : Fin 8192) (e : Fin 128) : out1 U (ix2 j (lane1 h e))
    = (∑ R, Cert.Fox.rD (hQ U h) (hK U h) (hV U h) (hO U h) (hF U h) R j * Cert.Fox.sc * hQ U h R e) * Cert.Fox.lc := by
  simp only [← rZ_at, ← rQ_at]
  rw [out1_eq]
  generalize rZ U = X
  generalize rQ U = Y
  unfold lane1
  pointwise
  rfl

theorem out2_eq : out2 U = truncf .bf16 (shapeCast S8192x1024 (transpose S8192x8x128 [1, 0, 2] (rG U) transposes_S8x8192x128_S8192x8x128_1_0_2) shapeCasts_S8192x8x128_S8192x1024) bitsLt_bf16_f32 := by
  unfold out2 rG UD
  simp only [Value.ops, List.drop_succ_cons, List.drop_zero, List.take_succ_cons, List.take_zero]
  after_reads_simp
  rfl

theorem out2_at (h : Fin 8) (j : Fin 8192) (e : Fin 128) : out2 U (ix2 j (lane1 h e))
    = ∑ R, hO U h R e * Ideal.div (Cert.Fox.ex (hQ U h) (hK U h) (hF U h) R j) (Cert.Fox.sm (hQ U h) (hK U h) (hF U h) R) := by
  simp only [← rG_at]
  rw [out2_eq]
  generalize rG U = X
  unfold lane1
  pointwise

theorem out3_eq : out3 U = shapeCast S8x8x1x1024 (transpose S8x8192 [1, 0] (transpose S8192x8 [1, 0] (Host.reduceAdd (shapeCast S8x1x8192 (Host.reduceAdd (Host.negf (rD U)) (constant S_ .f32 0x00000000#32) reducesTo_S8x8192x8192_S8x8192_d1 h_S_) shapeCasts_S8x8192_S8x1x8192) (constant S_ .f32 0x00000000#32) reducesTo_S8x1x8192_S8x8192_d1 h_S_) transposes_S8x8192_S8192x8_1_0) transposes_S8192x8_S8x8192_1_0) shapeCasts_S8x8192_S8x8x1x1024 := by
  unfold out3 rD UD
  simp only [Value.ops, List.drop_succ_cons, List.drop_zero, List.take_succ_cons, List.take_zero]
  after_reads_simp
  rfl

theorem out3_at (h b : Fin 8) (w : Fin 1024) : out3 U (ix4 h b 0 w)
    = ∑ R, -Cert.Fox.rD (hQ U h) (hK U h) (hV U h) (hO U h) (hF U h) R (kr b w) := by
  simp only [← rD_at]
  rw [out3_eq]
  generalize rD U = X
  unfold kr
  pointwise
  exact (Fin.sum_univ_one _).trans (Finset.sum_congr rfl fun x _ => congrArg (fun y => -X (ix3 h x y)) (Fin.ext (by show b.val * 1024 + w.val = 1024 * b.val + w.val; omega)))

theorem out4_eq : out4 U = broadcastInDim S8x8192x1 ![0, 1] bcast_S8x8192_S8x8192x1_0_1 (transpose S8x8192 [1, 0] (transpose S8192x8 [1, 0] (Host.reduceAdd (shapeCast S8x8192x1 (Host.reduceAdd (rD U) (constant S_ .f32 0x00000000#32) reducesTo_S8x8192x8192_S8x8192_d2 h_S_) shapeCasts_S8x8192_S8x8192x1) (constant S_ .f32 0x00000000#32) reducesTo_S8x8192x1_S8x8192_d2 h_S_) transposes_S8x8192_S8192x8_1_0) transposes_S8192x8_S8x8192_1_0) := by
  unfold out4 rD UD
  simp only [Value.ops, List.drop_succ_cons, List.drop_zero, List.take_succ_cons, List.take_zero]
  after_reads_simp
  rfl

theorem out4_at (h : Fin 8) (R : Fin 8192) : out4 U (ix3 h R 0)
    = ∑ j, Cert.Fox.rD (hQ U h) (hK U h) (hV U h) (hO U h) (hF U h) R j := by
  simp only [← rD_at]
  rw [out4_eq]
  generalize rD U = X
  pointwise
  exact Fin.sum_univ_one _

end

end Cert.ReferenceIdeal.Fox

end
-- ==== Proof.Acc.lean ====
module

public import proofs.«01_k».proof.Proof.State
public import proofs.«01_k».proof.Proof.Gen.KernelIdeal.Value

@[expose] public section

set_option maxRecDepth 16384

noncomputable section

open Idealize.ShloMosaic Idealize.ShloMosaic.TcCoe Idealize.SL.Sem

namespace Cert.KernelIdeal.Fox

open Cert.KernelIdeal Cert.KernelIdeal.Gen

/-! What the state holds after each point, as sums. -/

section
variable (m : (ℓ : Loc nD τ sig) → Buf (Elt Ideal) ℓ) (c : Dev nD)

theorem dk_first (t : Fin cfg0.N) (h0 : t.val % 8 = 0) (j : Fin 8192) (e : Fin 128) :
    ((outsAt0 m c t.val t.isLt).2.1 (ix2 j e) : EReal) = blockSum (fun h R => aDs m c h R j * aQ m c (ix2 R (lane2 h (lo e)))) j (t.val / 8) (t.val % 8) := by
  have h1 : ¬ t.val % 8 = 7 := by omega
  rw [at_out0_A_7 m c t h0 h1]
  exact dk_A t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) j e

theorem dk_next (t : Fin cfg0.N) (h0 : ¬ t.val % 8 = 0) (j : Fin 8192) (e : Fin 128) :
    ((outsAt0 m c t.val t.isLt).2.1 (ix2 j e) : EReal)
      = (outsAt0 m c (t.val - 1) (Nat.lt_of_le_of_lt (Nat.sub_le _ _) t.isLt)).2.1 (ix2 j e) + blockSum (fun h R => aDs m c h R j * aQ m c (ix2 R (lane2 h (lo e)))) j (t.val / 8) (t.val % 8) := by
  by_cases h1 : t.val % 8 = 7
  · rw [at_out0_C_7 m c t h0 h1]
    exact dk_C t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) _ _ _ j e
  · rw [at_out0_B_7 m c t h0 h1]
    exact dk_B t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) _ _ _ j e

/-- The accumulated value after a point: the sum over the blocks of query rows so far. -/
theorem dk_fold (t : Fin cfg0.N) (j : Fin 8192) (e : Fin 128) :
    ((outsAt0 m c t.val t.isLt).2.1 (ix2 j e) : EReal)
      = ∑ n ∈ Finset.range (t.val % 8 + 1), blockSum (fun h R => aDs m c h R j * aQ m c (ix2 R (lane2 h (lo e)))) j (t.val / 8) n :=
  fold_sum (fun t h => (outsAt0 m c t (lt_of_lt_of_eq h N_0.symm)).2.1 (ix2 j e)) (fun hh n => blockSum (fun h R => aDs m c h R j * aQ m c (ix2 R (lane2 h (lo e)))) j hh n)
    (fun t h h0 => by have e := dk_first m c ⟨t, lt_of_lt_of_eq h N_0.symm⟩ h0 j e; rw [show t % 8 = 0 from h0] at e; exact e)
    (fun t h h0 => dk_next m c ⟨t, lt_of_lt_of_eq h N_0.symm⟩ h0 j e)
    t.val (lt_of_lt_of_eq t.isLt N_0)

theorem dv_first (t : Fin cfg0.N) (h0 : t.val % 8 = 0) (j : Fin 8192) (e : Fin 128) :
    ((outsAt0 m c t.val t.isLt).2.2.2.2.2 (ix2 j e) : EReal) = blockSum (fun h R => aWt m c h R j * aO m c (ix2 R (lane1 h e))) j (t.val / 8) (t.val % 8) := by
  have h1 : ¬ t.val % 8 = 7 := by omega
  rw [at_sout0_A_0 m c t h0 h1]
  exact dv_A t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) j e

theorem dv_next (t : Fin cfg0.N) (h0 : ¬ t.val % 8 = 0) (j : Fin 8192) (e : Fin 128) :
    ((outsAt0 m c t.val t.isLt).2.2.2.2.2 (ix2 j e) : EReal)
      = (outsAt0 m c (t.val - 1) (Nat.lt_of_le_of_lt (Nat.sub_le _ _) t.isLt)).2.2.2.2.2 (ix2 j e) + blockSum (fun h R => aWt m c h R j * aO m c (ix2 R (lane1 h e))) j (t.val / 8) (t.val % 8) := by
  by_cases h1 : t.val % 8 = 7
  · rw [at_sout0_C_0 m c t h0 h1]
    exact dv_C t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) _ _ _ j e
  · rw [at_sout0_B_0 m c t h0 h1]
    exact dv_B t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) _ _ _ j e

/-- The accumulated value after a point: the sum over the blocks of query rows so far. -/
theorem dv_fold (t : Fin cfg0.N) (j : Fin 8192) (e : Fin 128) :
    ((outsAt0 m c t.val t.isLt).2.2.2.2.2 (ix2 j e) : EReal)
      = ∑ n ∈ Finset.range (t.val % 8 + 1), blockSum (fun h R => aWt m c h R j * aO m c (ix2 R (lane1 h e))) j (t.val / 8) n :=
  fold_sum (fun t h => (outsAt0 m c t (lt_of_lt_of_eq h N_0.symm)).2.2.2.2.2 (ix2 j e)) (fun hh n => blockSum (fun h R => aWt m c h R j * aO m c (ix2 R (lane1 h e))) j hh n)
    (fun t h h0 => by have e := dv_first m c ⟨t, lt_of_lt_of_eq h N_0.symm⟩ h0 j e; rw [show t % 8 = 0 from h0] at e; exact e)
    (fun t h h0 => dv_next m c ⟨t, lt_of_lt_of_eq h N_0.symm⟩ h0 j e)
    t.val (lt_of_lt_of_eq t.isLt N_0)

theorem df_first (t : Fin cfg0.N) (h0 : t.val % 8 = 0) (b : Fin 8) (w : Fin 1024) :
    ((outsAt0 m c t.val t.isLt).2.2.2.1 (ix4 0 b 0 w) : EReal) = (0 - blockSum (fun h R => aDs m c h R (kr b w)) (kr b w) (t.val / 8) (t.val % 8)) := by
  have h1 : ¬ t.val % 8 = 7 := by omega
  rw [at_out0_A_9 m c t h0 h1]
  exact df_A t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) b w

theorem df_next (t : Fin cfg0.N) (h0 : ¬ t.val % 8 = 0) (b : Fin 8) (w : Fin 1024) :
    ((outsAt0 m c t.val t.isLt).2.2.2.1 (ix4 0 b 0 w) : EReal)
      = (outsAt0 m c (t.val - 1) (Nat.lt_of_le_of_lt (Nat.sub_le _ _) t.isLt)).2.2.2.1 (ix4 0 b 0 w) + (0 - blockSum (fun h R => aDs m c h R (kr b w)) (kr b w) (t.val / 8) (t.val % 8)) := by
  by_cases h1 : t.val % 8 = 7
  · rw [at_out0_C_9 m c t h0 h1]
    exact df_C t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) _ _ _ b w
  · rw [at_out0_B_9 m c t h0 h1]
    exact df_B t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) _ _ _ b w

/-- The accumulated value after a point: the sum over the blocks of query rows so far. -/
theorem df_fold (t : Fin cfg0.N) (b : Fin 8) (w : Fin 1024) :
    ((outsAt0 m c t.val t.isLt).2.2.2.1 (ix4 0 b 0 w) : EReal)
      = ∑ n ∈ Finset.range (t.val % 8 + 1), (0 - blockSum (fun h R => aDs m c h R (kr b w)) (kr b w) (t.val / 8) n) :=
  fold_sum (fun t h => (outsAt0 m c t (lt_of_lt_of_eq h N_0.symm)).2.2.2.1 (ix4 0 b 0 w)) (fun hh n => (0 - blockSum (fun h R => aDs m c h R (kr b w)) (kr b w) hh n))
    (fun t h h0 => by have e := df_first m c ⟨t, lt_of_lt_of_eq h N_0.symm⟩ h0 b w; rw [show t % 8 = 0 from h0] at e; exact e)
    (fun t h h0 => df_next m c ⟨t, lt_of_lt_of_eq h N_0.symm⟩ h0 b w)
    t.val (lt_of_lt_of_eq t.isLt N_0)

theorem dq_at (t : Fin cfg0.N) (r : Fin 1024) (e : Fin 128) :
    ((outsAt0 m c t.val t.isLt).1 (ix2 r e) : EReal)
      = ∑ j : Fin 8192, (if j.val ≤ (rowOf (t.val % 8) r).val then (fun j => aDs m c (hd t) (rowOf (t.val % 8) r) j * aK m c (ix2 j (lane2 (hd t) (lo e)))) j else 0) := by
  by_cases h0 : t.val % 8 = 0
  · have h1 : ¬ t.val % 8 = 7 := by omega
    rw [at_out0_A_6 m c t h0 h1]
    exact dq_A t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) r e
  · by_cases h1 : t.val % 8 = 7
    · rw [at_out0_C_6 m c t h0 h1]
      exact dq_C t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) _ _ _ r e
    · rw [at_out0_B_6 m c t h0 h1]
      exact dq_B t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) _ _ _ r e

theorem rs_at (t : Fin cfg0.N) (r : Fin 1024) :
    ((outsAt0 m c t.val t.isLt).2.2.2.2.1 (ix3 0 r 0) : EReal)
      = ∑ j : Fin 8192, (if j.val ≤ (rowOf (t.val % 8) r).val then (fun j => aDs m c (hd t) (rowOf (t.val % 8) r) j) j else 0) := by
  by_cases h0 : t.val % 8 = 0
  · have h1 : ¬ t.val % 8 = 7 := by omega
    rw [at_out0_A_10 m c t h0 h1]
    exact rs_A t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) r
  · by_cases h1 : t.val % 8 = 7
    · rw [at_out0_C_10 m c t h0 h1]
      exact rs_C t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) _ _ _ r
    · rw [at_out0_B_10 m c t h0 h1]
      exact rs_B t (iblk m c 0 t) (iblk m c 1 t) (iblk m c 2 t) (iblk m c 3 t) (iblk m c 4 t) (iblk m c 5 t) (aQ m c) (aK m c) (aV m c) (aO m c) (aL m c) (aD m c) (cuts m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) _ _ _ r

theorem dv_cast (t : Fin cfg0.N) (h1 : t.val % 8 = 7) (j : Fin 8192) (e : Fin 128) :
    ((outsAt0 m c t.val t.isLt).2.2.1 (ix2 j e) : EReal) = (outsAt0 m c t.val t.isLt).2.2.2.2.2 (ix2 j e) := by
  have h0 : ¬ t.val % 8 = 0 := by omega
  rw [at_out0_C_8 m c t h0 h1, at_sout0_C_0 m c t h0 h1]
  exact pt_out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ _ j e

end

end Cert.KernelIdeal.Fox

end
-- ==== Proof.Arrays.lean ====
module

public import proofs.«01_k».proof.Proof.Acc
public import proofs.«01_k».proof.Proof.Gen.KernelIdeal.Value

@[expose] public section

set_option maxRecDepth 16384

noncomputable section

open Idealize.ShloMosaic Idealize.ShloMosaic.TcCoe Idealize.SL.Sem

namespace Cert.KernelIdeal.Fox

open Cert.KernelIdeal Cert.KernelIdeal.Gen

/-! The arrays the region leaves, as sums over the arrays it finds. -/

section
variable (m : (ℓ : Loc nD τ sig) → Buf (Elt Ideal) ℓ) (c : Dev nD)

theorem dq_point (h : Fin 8) (R : Fin 8192) (e : Fin 128) (hlt : R.val / 1024 + 8 * h.val < cfg0.N) :
    (Value.G6 m c (ix2 R (lane1 h e)) : EReal) = (outsAt0 m c (R.val / 1024 + 8 * h.val) hlt).1 (ix2 (⟨R.val % 1024, Nat.mod_lt _ (by decide)⟩ : Fin 1024) e) := by
  have hp : Value.pt6Of (ix2 R (lane1 h e)) = R.val / 1024 + 8 * h.val := by
    show 1 * (R.val / 1024 - 0) + 8 * ((128 * h.val + e.val) / 128 - 0) = _
    omega
  have hl : Value.loc6Of (ix2 R (lane1 h e)) = (ix2 (⟨R.val % 1024, Nat.mod_lt _ (by decide)⟩ : Fin 1024) e) := by
    funext a
    apply Fin.ext
    match a with
    | 0 => rfl
    | 1 => show (128 * h.val + e.val) % 128 = e.val; omega
  unfold Value.G6
  rw [dif_pos (by rw [hp]; exact hlt), hl, Value.outsAt0_sweep m c (R.val / 1024 + 8 * h.val) hlt, Value.fold0_congr m c _ _ _ _ hp]

theorem dq_array (h : Fin 8) (R : Fin 8192) (e : Fin 128) :
    (Value.G6 m c (ix2 R (lane1 h e)) : EReal) = ∑ j : Fin 8192, (if j.val ≤ R.val then aDs m c h R j * aK m c (ix2 j (lane2 h (lo e))) else 0) := by
  have hlt : R.val / 1024 + 8 * h.val < cfg0.N := (by rw [show cfg0.N = 64 from N_0]; omega)
  have hh : hd ⟨R.val / 1024 + 8 * h.val, hlt⟩ = h := Fin.ext (by show (R.val / 1024 + 8 * h.val) / 8 = h.val; omega)
  have hr : rowOf ((R.val / 1024 + 8 * h.val) % 8) ⟨R.val % 1024, Nat.mod_lt _ (by decide)⟩ = R :=
    Fin.ext (by show (1024 * ((R.val / 1024 + 8 * h.val) % 8) + R.val % 1024) % 8192 = R.val; omega)
  have e := dq_at m c ⟨R.val / 1024 + 8 * h.val, hlt⟩ ⟨R.val % 1024, Nat.mod_lt _ (by decide)⟩ e
  rw [hh] at e
  simp only [hr, show (1024 * ((R.val / 1024 + 8 * h.val) % 8) + R.val % 1024) % 8192 = R.val by omega] at e
  exact (dq_point m c h R _ hlt).trans e

theorem rs_point (h : Fin 8) (R : Fin 8192) (hlt : R.val / 1024 + 8 * h.val < cfg0.N) :
    (Value.G10 m c (ix3 h R 0) : EReal) = (outsAt0 m c (R.val / 1024 + 8 * h.val) hlt).2.2.2.2.1 (ix3 0 (⟨R.val % 1024, Nat.mod_lt _ (by decide)⟩ : Fin 1024) 0) := by
  have hp : Value.pt10Of (ix3 h R 0) = R.val / 1024 + 8 * h.val := by
    show 8 * (h.val / 1 - 0) + 1 * (R.val / 1024 - 0) + 1 * (0 / 1 - 0) = _
    omega
  have hl : Value.loc10Of (ix3 h R 0) = (ix3 0 (⟨R.val % 1024, Nat.mod_lt _ (by decide)⟩ : Fin 1024) 0) := by
    funext a
    apply Fin.ext
    match a with
    | 0 => show h.val % 1 = 0; omega
    | 1 => rfl
    | 2 => rfl
  unfold Value.G10
  rw [dif_pos (by rw [hp]; exact hlt), hl, Value.outsAt0_sweep m c (R.val / 1024 + 8 * h.val) hlt, Value.fold0_congr m c _ _ _ _ hp]

theorem rs_array (h : Fin 8) (R : Fin 8192) :
    (Value.G10 m c (ix3 h R 0) : EReal) = ∑ j : Fin 8192, (if j.val ≤ R.val then aDs m c h R j else 0) := by
  have hlt : R.val / 1024 + 8 * h.val < cfg0.N := (by rw [show cfg0.N = 64 from N_0]; omega)
  have hh : hd ⟨R.val / 1024 + 8 * h.val, hlt⟩ = h := Fin.ext (by show (R.val / 1024 + 8 * h.val) / 8 = h.val; omega)
  have hr : rowOf ((R.val / 1024 + 8 * h.val) % 8) ⟨R.val % 1024, Nat.mod_lt _ (by decide)⟩ = R :=
    Fin.ext (by show (1024 * ((R.val / 1024 + 8 * h.val) % 8) + R.val % 1024) % 8192 = R.val; omega)
  have e := rs_at m c ⟨R.val / 1024 + 8 * h.val, hlt⟩ ⟨R.val % 1024, Nat.mod_lt _ (by decide)⟩
  rw [hh] at e
  simp only [hr, show (1024 * ((R.val / 1024 + 8 * h.val) % 8) + R.val % 1024) % 8192 = R.val by omega] at e
  exact (rs_point m c h R hlt).trans e

theorem dk_point (h : Fin 8) (j : Fin 8192) (e : Fin 128) (hlt : 8 * h.val + 7 < cfg0.N) :
    (Value.G7 m c (ix2 j (lane1 h e)) : EReal) = (outsAt0 m c (8 * h.val + 7) hlt).2.1 (ix2 j e) := by
  have hp : Value.pt7Of (ix2 j (lane1 h e)) = 8 * h.val + 7 := by
    show 8 * (8 * (j.val / 8192 - 0) + 1 * ((128 * h.val + e.val) / 128 - 0)) + 7 = _
    omega
  have hl : Value.loc7Of (ix2 j (lane1 h e)) = (ix2 j e) := by
    funext a
    apply Fin.ext
    match a with
    | 0 => show j.val % 8192 = j.val; omega
    | 1 => show (128 * h.val + e.val) % 128 = e.val; omega
  unfold Value.G7
  rw [dif_pos (by rw [hp]; exact hlt), hl, Value.outsAt0_sweep m c (8 * h.val + 7) hlt, Value.fold0_congr m c _ _ _ _ hp]

theorem dk_array (h : Fin 8) (j : Fin 8192) (e : Fin 128) :
    (Value.G7 m c (ix2 j (lane1 h e)) : EReal) = ∑ R : Fin 8192, (if j.val ≤ R.val then aDs m c h R j * aQ m c (ix2 R (lane2 h (lo e))) else 0) := by
  have hlt : 8 * h.val + 7 < cfg0.N := (by rw [show cfg0.N = 64 from N_0]; omega)
  have e := dk_fold m c ⟨8 * h.val + 7, hlt⟩ j e
  rw [show (8 * h.val + 7) % 8 + 1 = 8 by omega, show (8 * h.val + 7) / 8 = h.val by omega] at e
  rw [blockSum_all] at e
  exact (dk_point m c h j _ hlt).trans e

theorem dv_point (h : Fin 8) (j : Fin 8192) (e : Fin 128) (hlt : 8 * h.val + 7 < cfg0.N) :
    (Value.G8 m c (ix2 j (lane1 h e)) : EReal) = (outsAt0 m c (8 * h.val + 7) hlt).2.2.1 (ix2 j e) := by
  have hp : Value.pt8Of (ix2 j (lane1 h e)) = 8 * h.val + 7 := by
    show 8 * (8 * (j.val / 8192 - 0) + 1 * ((128 * h.val + e.val) / 128 - 0)) + 7 = _
    omega
  have hl : Value.loc8Of (ix2 j (lane1 h e)) = (ix2 j e) := by
    funext a
    apply Fin.ext
    match a with
    | 0 => show j.val % 8192 = j.val; omega
    | 1 => show (128 * h.val + e.val) % 128 = e.val; omega
  unfold Value.G8
  rw [dif_pos (by rw [hp]; exact hlt), hl, Value.outsAt0_sweep m c (8 * h.val + 7) hlt, Value.fold0_congr m c _ _ _ _ hp]

theorem dv_array (h : Fin 8) (j : Fin 8192) (e : Fin 128) :
    (Value.G8 m c (ix2 j (lane1 h e)) : EReal) = ∑ R : Fin 8192, (if j.val ≤ R.val then aWt m c h R j * aO m c (ix2 R (lane1 h e)) else 0) := by
  have hlt : 8 * h.val + 7 < cfg0.N := (by rw [show cfg0.N = 64 from N_0]; omega)
  have e := dv_fold m c ⟨8 * h.val + 7, hlt⟩ j e
  rw [show (8 * h.val + 7) % 8 + 1 = 8 by omega, show (8 * h.val + 7) / 8 = h.val by omega] at e
  rw [blockSum_all] at e
  exact ((dv_point m c h j _ hlt).trans (dv_cast m c ⟨8 * h.val + 7, hlt⟩ (by show (8 * h.val + 7) % 8 = 7; omega) j _)).trans e

theorem df_point (h b : Fin 8) (w : Fin 1024) (hlt : 8 * h.val + 7 < cfg0.N) :
    (Value.G9 m c (ix4 h b 0 w) : EReal) = (outsAt0 m c (8 * h.val + 7) hlt).2.2.2.1 (ix4 0 b 0 w) := by
  have hp : Value.pt9Of (ix4 h b 0 w) = 8 * h.val + 7 := by
    show 8 * (1 * (h.val / 1 - 0) + 1 * (b.val / 8 - 0) + 1 * (0 / 1 - 0) + 1 * (w.val / 1024 - 0)) + 7 = _
    omega
  have hl : Value.loc9Of (ix4 h b 0 w) = (ix4 0 b 0 w) := by
    funext a
    apply Fin.ext
    match a with
    | 0 => show h.val % 1 = 0; omega
    | 1 => show b.val % 8 = b.val; omega
    | 2 => rfl
    | 3 => show w.val % 1024 = w.val; omega
  unfold Value.G9
  rw [dif_pos (by rw [hp]; exact hlt), hl, Value.outsAt0_sweep m c (8 * h.val + 7) hlt, Value.fold0_congr m c _ _ _ _ hp]

theorem df_array (h b : Fin 8) (w : Fin 1024) :
    (Value.G9 m c (ix4 h b 0 w) : EReal) = ∑ n ∈ Finset.range 8, (0 - blockSum (fun h R => aDs m c h R (kr b w)) (kr b w) h.val n) := by
  have hlt : 8 * h.val + 7 < cfg0.N := (by rw [show cfg0.N = 64 from N_0]; omega)
  have e := df_fold m c ⟨8 * h.val + 7, hlt⟩ b w
  rw [show (8 * h.val + 7) % 8 + 1 = 8 by omega, show (8 * h.val + 7) / 8 = h.val by omega] at e
  exact (df_point m c h b w hlt).trans e

end

end Cert.KernelIdeal.Fox

end
-- ==== Proof.Finite.lean ====
module

public import proofs.«01_k».proof.Defs
public import Idealize.ShloMosaic.Lib.ReduceAll
public import proofs.«01_k».proof.Proof.Host

@[expose] public section

set_option maxRecDepth 16384

noncomputable section

open Idealize.ShloMosaic Idealize.ShloMosaic.TcCoe Idealize.SL.Sem

namespace Cert.Pre_finite

instance facts : Facts where
  bcast_S_S8192x1024 := by decide
  reducesTo_S8192x1024_S_d0_1 := by decide
  h_S_ := by decide
  bcast_S_S8192x8 := by decide
  reducesTo_S8192x8_S_d0_1 := by decide

theorem abs_real (x : EReal) (hx : max x (-x) < Ideal.ofBits .f32 0x7F800000#32) : ∃ r : ℝ, x = (r : EReal) := by
  have ht : Ideal.ofBits .f32 0x7F800000#32 = ⊤ := by simp [Ideal.ofBits, Ideal.ieee]
  rw [ht] at hx
  induction x with
  | bot => exact absurd hx (by simp)
  | top => exact absurd hx (by simp)
  | coe r => exact ⟨r, rfl⟩

theorem and_one (a b : BitVec 1) : IntOp.andi a b = 1#1 ↔ a = 1#1 ∧ b = 1#1 := by
  revert a b; decide

theorem all_real {s : Shape} {axes : List (Fin s.rank)} (A : FVec Ideal s .f32) (hr : s.ReducesTo axes S_) (hb : S_.BroadcastsInDim s (![] : Fin 0 → Fin s.rank)) (h0 : 0 < S_.numel) (j : S_.Idx)
    (H : Host.reduce IntOp.andi (cmpf .olt (Host.absf A) (broadcastInDim s ![] hb (constant S_ .f32 0x7F800000#32))) (constantI S_ 1 1#1) hr h0 j = 1#1) :
    ∀ i, ∃ r : ℝ, A i = (r : EReal) := by
  haveI : Subsingleton S_.Idx := ⟨fun a b => funext fun d => d.elim0⟩
  intro i
  have e := Host.reduce_andi_all _ _ hr h0 j H i
  refine abs_real (A i) ?_
  by_contra hn
  have : (BitVec.ofBool (decide (max (A i) (-(A i)) < Ideal.ofBits .f32 0x7F800000#32))) = 1#1 := e
  rw [decide_eq_false hn] at this
  exact absurd this (by decide)

theorem fin_all (a b c e : FVec Ideal S8192x1024 .f32) (d : FVec Ideal S8192x8 .f32) (H : fn a b c d e = fun _ => 1#1) :
    (∀ i, ∃ r : ℝ, a i = (r : EReal)) ∧ (∀ i, ∃ r : ℝ, b i = (r : EReal)) ∧ (∀ i, ∃ r : ℝ, c i = (r : EReal)) ∧ (∀ i, ∃ r : ℝ, d i = (r : EReal)) ∧ (∀ i, ∃ r : ℝ, e i = (r : EReal)) := by
  have H0 := congrFun H ix0
  obtain ⟨H1, he⟩ := (and_one _ _).1 H0
  obtain ⟨H2, hd⟩ := (and_one _ _).1 H1
  obtain ⟨H3, hc⟩ := (and_one _ _).1 H2
  obtain ⟨ha, hb⟩ := (and_one _ _).1 H3
  exact ⟨all_real a _ _ _ _ ha, all_real b _ _ _ _ hb, all_real c _ _ _ _ hc, all_real d _ _ _ _ hd, all_real e _ _ _ _ he⟩

end Cert.Pre_finite
end
-- ==== Proof.Results.lean ====
module

public import proofs.«01_k».proof.Proof.RefD
public import proofs.«01_k».proof.Proof.Arrays
public import proofs.«01_k».proof.Proof.Finite

@[expose] public section

set_option maxRecDepth 16384

noncomputable section

open Idealize.ShloMosaic Idealize.ShloMosaic.TcCoe Idealize.SL.Sem

namespace Cert.KernelIdeal.Fox

open Cert.KernelIdeal Cert.KernelIdeal.Gen

/-! The kernel's five results are the reference's, on real arguments. -/

theorem wide_ext {φ ψ : FTy} (X : FVec Ideal S8192x1024 φ) (Y : FVec Ideal S8192x1024 ψ)
    (H : ∀ (h : Fin 8) (R : Fin 8192) (e : Fin 128), (X (ix2 R (lane1 h e)) : EReal) = Y (ix2 R (lane1 h e))) (i : S8192x1024.Idx) : (X i : EReal) = Y i := by
  obtain ⟨R, l, rfl⟩ : ∃ (R : Fin 8192) (l : Fin 1024), i = ix2 R l := ⟨i 0, i 1, eq_ix2 i⟩
  have hl : l = lane1 ⟨l.val / 128, by omega⟩ ⟨l.val % 128, Nat.mod_lt _ (by decide)⟩ := Fin.ext (by show l.val = 128 * (l.val / 128) + l.val % 128; omega)
  rw [hl]
  exact H _ _ _

section
variable (m : (ℓ : Loc nD τ sig) → Buf (Elt Ideal) ℓ) (c : Dev nD) (U : Valuation Cert.ReferenceIdeal.τ Cert.ReferenceIdeal.sig (Elt Ideal))

/-- The reference's arguments are the kernel's. -/
def Same : Prop :=
  (U Cert.ReferenceIdeal.main_arg0 : FVec Ideal S8192x1024 .f32) = m ((c.tc : Thread nD τ).loc main_arg0)
    ∧ (U Cert.ReferenceIdeal.main_arg1 : FVec Ideal S8192x1024 .f32) = m ((c.tc : Thread nD τ).loc main_arg1)
    ∧ (U Cert.ReferenceIdeal.main_arg2 : FVec Ideal S8192x1024 .f32) = m ((c.tc : Thread nD τ).loc main_arg2)
    ∧ (U Cert.ReferenceIdeal.main_arg3 : FVec Ideal S8192x8 .f32) = m ((c.tc : Thread nD τ).loc main_arg3)
    ∧ (U Cert.ReferenceIdeal.main_arg4 : FVec Ideal S8192x1024 .f32) = m ((c.tc : Thread nD τ).loc main_arg4)

/-- Every argument entry is real, head by head. -/
structure Reals (q k v o : Fin 8 → Fin 8192 → Fin 128 → ℝ) (f : Fin 8 → Fin 8192 → ℝ) : Prop where
  q : ∀ h, hQ m c h = Cert.Fox.up (q h)
  k : ∀ h, hK m c h = Cert.Fox.up (k h)
  v : ∀ h, hV m c h = Cert.Fox.up (v h)
  o : ∀ h, hO m c h = Cert.Fox.up (o h)
  f : ∀ h, hF m c h = Cert.Fox.upc (f h)

theorem reals (H : Cert.Pre_KernelIdeal_finite m) : ∃ q k v o f, Reals m c q k v o f := by
  obtain ⟨h0, h1, h2, h3, h4⟩ := Cert.Pre_finite.fin_all _ _ _ _ _ (H c)
  choose q hq using h0
  choose k hk using h1
  choose v hv using h2
  choose f hf using h3
  choose o ho using h4
  exact ⟨fun h R e => q (ix2 R (lane1 h e)), fun h R e => k (ix2 R (lane1 h e)), fun h R e => v (ix2 R (lane1 h e)), fun h R e => o (ix2 R (lane1 h e)), fun h R => f (ix2 R h),
    fun h => funext fun R => funext fun e => hq _, fun h => funext fun R => funext fun e => hk _, fun h => funext fun R => funext fun e => hv _,
    fun h => funext fun R => funext fun e => ho _, fun h => funext fun R => hf _⟩

variable {m c U} {q k v o : Fin 8 → Fin 8192 → Fin 128 → ℝ} {f : Fin 8 → Fin 8192 → ℝ} (S : Same m c U) (Z : Reals m c q k v o f)

include S Z

theorem refs (h : Fin 8) : Cert.ReferenceIdeal.Fox.hQ U h = Cert.Fox.up (q h) ∧ Cert.ReferenceIdeal.Fox.hK U h = Cert.Fox.up (k h)
    ∧ Cert.ReferenceIdeal.Fox.hV U h = Cert.Fox.up (v h) ∧ Cert.ReferenceIdeal.Fox.hO U h = Cert.Fox.up (o h) ∧ Cert.ReferenceIdeal.Fox.hF U h = Cert.Fox.upc (f h) :=
  ⟨(congrArg (fun A => head A h) S.1).trans (Z.q h), (congrArg (fun A => head A h) S.2.1).trans (Z.k h), (congrArg (fun A => head A h) S.2.2.1).trans (Z.v h),
    (congrArg (fun A => head A h) S.2.2.2.2).trans (Z.o h), (congrArg (fun A => col A h) S.2.2.2.1).trans (Z.f h)⟩

theorem dq_same (h : Fin 8) (R : Fin 8192) (e : Fin 128) : (Value.G6 m c (ix2 R (lane1 h e)) : EReal) = Cert.ReferenceIdeal.Fox.out0 U (ix2 R (lane1 h e)) := by
  rw [dq_array, Cert.ReferenceIdeal.Fox.out0_at]
  obtain ⟨rq, rk, rv, ro, rf⟩ := refs S Z h
  rw [rq, rk, rv, ro, rf]
  simp only [aDs_at, aK_lo, Z.q, Z.k, Z.v, Z.o, Z.f]
  exact Cert.Fox.dq_eq (q h) (k h) (v h) (o h) (f h) R e

theorem dk_same (h : Fin 8) (j : Fin 8192) (e : Fin 128) : (Value.G7 m c (ix2 j (lane1 h e)) : EReal) = Cert.ReferenceIdeal.Fox.out1 U (ix2 j (lane1 h e)) := by
  rw [dk_array, Cert.ReferenceIdeal.Fox.out1_at]
  obtain ⟨rq, rk, rv, ro, rf⟩ := refs S Z h
  rw [rq, rk, rv, ro, rf]
  simp only [aDs_at, aQ_lo, Z.q, Z.k, Z.v, Z.o, Z.f]
  exact Cert.Fox.dk_eq (q h) (k h) (v h) (o h) (f h) j e

theorem dv_same (h : Fin 8) (j : Fin 8192) (e : Fin 128) : (Value.G8 m c (ix2 j (lane1 h e)) : EReal) = Cert.ReferenceIdeal.Fox.out2 U (ix2 j (lane1 h e)) := by
  rw [dv_array, Cert.ReferenceIdeal.Fox.out2_at]
  obtain ⟨rq, rk, rv, ro, rf⟩ := refs S Z h
  rw [rq, rk, ro, rf]
  simp only [aWt_at, aO_at, Z.q, Z.k, Z.o, Z.f]
  exact Cert.Fox.dv_eq (q h) (k h) (v h) (o h) (f h) j e

theorem rs_same (h : Fin 8) (R : Fin 8192) : (Value.G10 m c (ix3 h R 0) : EReal) = Cert.ReferenceIdeal.Fox.out4 U (ix3 h R 0) := by
  rw [rs_array, Cert.ReferenceIdeal.Fox.out4_at]
  obtain ⟨rq, rk, rv, ro, rf⟩ := refs S Z h
  rw [rq, rk, rv, ro, rf]
  simp only [aDs_at, Z.q, Z.k, Z.v, Z.o, Z.f]
  exact Cert.Fox.rs_eq (q h) (k h) (v h) (o h) (f h) R

theorem df_same (h b : Fin 8) (w : Fin 1024) : (Value.G9 m c (ix4 h b 0 w) : EReal) = Cert.ReferenceIdeal.Fox.out3 U (ix4 h b 0 w) := by
  rw [df_array, Cert.ReferenceIdeal.Fox.out3_at]
  obtain ⟨rq, rk, rv, ro, rf⟩ := refs S Z h
  rw [rq, rk, rv, ro, rf]
  obtain ⟨p, d, hd⟩ := Cert.Fox.real_grads (q h) (k h) (v h) (o h) (f h)
  have ha : ∀ R, (if (kr b w).val ≤ R.val then aDs m c h R (kr b w) else 0) = Cert.Fox.rD (Cert.Fox.up (q h)) (Cert.Fox.up (k h)) (Cert.Fox.up (v h)) (Cert.Fox.up (o h)) (Cert.Fox.upc (f h)) R (kr b w) := by
    intro R
    rw [aDs_at, Z.q, Z.k, Z.v, Z.o, Z.f, (hd R (kr b w)).2.2]
    by_cases hj : (kr b w).val ≤ R.val
    · rw [if_pos hj, if_pos hj, ((hd R (kr b w)).1 hj).2]
    · rw [if_neg hj, if_neg hj, EReal.coe_zero]
  have hr : ∀ R, ∃ r : ℝ, Cert.Fox.rD (Cert.Fox.up (q h)) (Cert.Fox.up (k h)) (Cert.Fox.up (v h)) (Cert.Fox.up (o h)) (Cert.Fox.upc (f h)) R (kr b w) = r := fun R => ⟨_, (hd R (kr b w)).2.2⟩
  refine Cert.Fox.neg_sum_blocks _ _ _ _ (fun n _ => ?_) (fun R _ => hr R) ?_
  · choose r hr' using hr
    refine ⟨∑ x : Fin 1024, r (rowOf n x), ?_⟩
    unfold blockSum
    rw [dif_pos h.isLt, Cert.Fox.coe_sum]
    exact Finset.sum_congr rfl fun x _ => (ha (rowOf n x)).trans (hr' _)
  · exact (blockSum_all _ _ h).trans (Finset.sum_congr rfl fun R _ => ha R)

theorem dq_all : Value.G6 m c = Cert.ReferenceIdeal.Fox.out0 U :=
  funext (wide_ext (φ := .f32) (ψ := .f32) _ _ (dq_same S Z))

theorem dk_all : Value.G7 m c = Cert.ReferenceIdeal.Fox.out1 U :=
  funext (wide_ext (φ := .f32) (ψ := .f32) _ _ (dk_same S Z))

theorem dv_all : Value.G8 m c = Cert.ReferenceIdeal.Fox.out2 U :=
  funext (wide_ext (φ := .bf16) (ψ := .bf16) _ _ (dv_same S Z))

theorem df_all : Value.G9 m c = Cert.ReferenceIdeal.Fox.out3 U := by
  funext i
  obtain ⟨h, b, z, w, rfl⟩ : ∃ (h b : Fin 8) (z : Fin 1) (w : Fin 1024), i = ix4 h b z w := ⟨i 0, i 1, i 2, i 3, eq_ix4 i⟩
  obtain rfl : z = 0 := Subsingleton.elim _ _
  exact df_same S Z h b w

theorem rs_all : Value.G10 m c = Cert.ReferenceIdeal.Fox.out4 U := by
  funext i
  obtain ⟨h, R, z, rfl⟩ : ∃ (h : Fin 8) (R : Fin 8192) (z : Fin 1), i = ix3 h R z := ⟨i 0, i 1, i 2, eq_ix3 i⟩
  obtain rfl : z = 0 := Subsingleton.elim _ _
  exact rs_same S Z h R

end

end Cert.KernelIdeal.Fox

end
-- ==== Proof.Bw.lean ====
/- The gradient of the projections' input: what the kernel's result holds after each point, and the array that it
   leaves, as sums of products over the projections' columns. -/
module

public import proofs.«01_k».proof.Proof.Gen.Kernel2Ideal.Value
public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.Kernel2Ideal.Bw

open Cert.Kernel2Ideal Cert.Kernel2Ideal.Gen

/-! ### The cases -/

theorem hz : (![0, 0] : Fin 2 → Nat) = fun _ => 0 := funext fun a => by fin_cases a <;> rfl

theorem add_at (a : Vec Ideal S1024x2048 .f32) (p : Vec Ideal S1024x1024 .bf16) (w : Vec Ideal S1024x2048 .bf16)
    (i : Fin 1024) (j : Fin 2048) :
    (k0_pay1 a p w (ix2 i j) : EReal) = a (ix2 i j) + ∑ l : Fin 1024, (p (ix2 i l) : EReal) * w (ix2 l j) := by
  unfold k0_pay1
  pointwise

theorem small_at (p : Vec Ideal S1024x128 .bf16) (w : Vec Ideal S128x2048 .bf16) (i : Fin 1024) (j : Fin 2048) :
    (k0_pay2 p w (ix2 i j) : EReal) = ∑ l : Fin 128, (p (ix2 i l) : EReal) * w (ix2 l j) := by
  unfold k0_pay2
  pointwise

section
variable (c : Dev nD) (i : grid0.Coords)
  (a2 : Memref sig .tc .vmem S1024x1024 .bf16) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1024x128 .bf16) (h8 : a8.IsWhole) (a9 : Memref sig .tc .vmem S1024x2048 .bf16) (h9 : a9.IsWhole) (a10 : Memref sig .tc .vmem S128x2048 .bf16) (h10 : a10.IsWhole) (a11 : Memref sig .tc .vmem S1024x2048 .f32) (h11 : a11.IsWhole)
  (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x128 .bf16) (x7 : Vec Ideal S1024x2048 .bf16) (x8 : Vec Ideal S128x2048 .bf16) (s : Vec Ideal S1024x2048 .f32)

theorem out_A (hc0 : cond0_0 i) (hc1 : cond0_1 i) (hc2 : ¬cond0_2 i) (hc3 : ¬cond0_3 i) (hc4 : ¬cond0_4 i) (hc5 : ¬cond0_5 i) (hc6 : ¬cond0_6 i) :
    out0_A_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 = k0_pay1 (k0_pay2 x6 x8) x0 x7 := by
  unfold out0_A_9
  rw [View.read_writes_eq_canon _ _ _ (cover0_A_9 c i a2 h2 a3 h3 a4 h4 a5 h5 a6 h6 a7 h7 a8 h8 a9 h9 a10 h10 a11 h11 hc0 hc1 hc2 hc3 hc4 hc5 hc6 x0 x1 x2 x3 x4 x5 x6 x7 x8)]
  unfold kernelRun0_A
  dsimp only
  sl_unfold_words
  rw [View.canon_cons_unit_zero (S := S1024x2048) hz, View.readCov_unit_zero (S := S1024x2048) _ hz]
  simp only [View.readAt_eq_ld, h2.read_unread, h8.read_unread, h9.read_unread, h10.read_unread, View.ld_unit_zero (S := S1024x1024) hz, View.ld_unit_zero (S := S1024x2048) hz, View.ld_unit_zero (S := S1024x128) hz, View.ld_unit_zero (S := S128x2048) hz]
  rfl

theorem out_B (hc0 : ¬cond0_0 i) (hc1 : ¬cond0_1 i) (hc2 : cond0_2 i) (hc3 : ¬cond0_3 i) (hc4 : ¬cond0_4 i) (hc5 : ¬cond0_5 i) (hc6 : ¬cond0_6 i) :
    out0_B_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 s = k0_pay1 s x1 x7 := by
  unfold out0_B_9
  rw [View.read_writes_eq_canon _ _ _ (cover0_B_9 c i a2 h2 a3 h3 a4 h4 a5 h5 a6 h6 a7 h7 a8 h8 a9 h9 a10 h10 a11 h11 hc0 hc1 hc2 hc3 hc4 hc5 hc6 x0 x1 x2 x3 x4 x5 x6 x7 x8 s)]
  unfold kernelRun0_B
  dsimp only
  sl_unfold_words
  rw [View.canon_unit_zero hz]
  simp only [View.readAt_eq_ld, h3.read_unread, h9.read_unread, h11.read_unread, View.ld_unit_zero (S := S1024x1024) hz, View.ld_unit_zero (S := S1024x2048) hz]
  rfl

theorem out_C (hc0 : ¬cond0_0 i) (hc1 : ¬cond0_1 i) (hc2 : ¬cond0_2 i) (hc3 : cond0_3 i) (hc4 : ¬cond0_4 i) (hc5 : ¬cond0_5 i) (hc6 : ¬cond0_6 i) :
    out0_C_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 s = k0_pay1 s x2 x7 := by
  unfold out0_C_9
  rw [View.read_writes_eq_canon _ _ _ (cover0_C_9 c i a2 h2 a3 h3 a4 h4 a5 h5 a6 h6 a7 h7 a8 h8 a9 h9 a10 h10 a11 h11 hc0 hc1 hc2 hc3 hc4 hc5 hc6 x0 x1 x2 x3 x4 x5 x6 x7 x8 s)]
  unfold kernelRun0_C
  dsimp only
  sl_unfold_words
  rw [View.canon_unit_zero hz]
  simp only [View.readAt_eq_ld, h4.read_unread, h9.read_unread, h11.read_unread, View.ld_unit_zero (S := S1024x1024) hz, View.ld_unit_zero (S := S1024x2048) hz]
  rfl

theorem out_D (hc0 : ¬cond0_0 i) (hc1 : ¬cond0_1 i) (hc2 : ¬cond0_2 i) (hc3 : ¬cond0_3 i) (hc4 : cond0_4 i) (hc5 : ¬cond0_5 i) (hc6 : ¬cond0_6 i) :
    out0_D_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 s = k0_pay1 s x3 x7 := by
  unfold out0_D_9
  rw [View.read_writes_eq_canon _ _ _ (cover0_D_9 c i a2 h2 a3 h3 a4 h4 a5 h5 a6 h6 a7 h7 a8 h8 a9 h9 a10 h10 a11 h11 hc0 hc1 hc2 hc3 hc4 hc5 hc6 x0 x1 x2 x3 x4 x5 x6 x7 x8 s)]
  unfold kernelRun0_D
  dsimp only
  sl_unfold_words
  rw [View.canon_unit_zero hz]
  simp only [View.readAt_eq_ld, h5.read_unread, h9.read_unread, h11.read_unread, View.ld_unit_zero (S := S1024x1024) hz, View.ld_unit_zero (S := S1024x2048) hz]
  rfl

theorem out_E (hc0 : ¬cond0_0 i) (hc1 : ¬cond0_1 i) (hc2 : ¬cond0_2 i) (hc3 : ¬cond0_3 i) (hc4 : ¬cond0_4 i) (hc5 : cond0_5 i) (hc6 : ¬cond0_6 i) :
    out0_E_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 s = k0_pay1 s x4 x7 := by
  unfold out0_E_9
  rw [View.read_writes_eq_canon _ _ _ (cover0_E_9 c i a2 h2 a3 h3 a4 h4 a5 h5 a6 h6 a7 h7 a8 h8 a9 h9 a10 h10 a11 h11 hc0 hc1 hc2 hc3 hc4 hc5 hc6 x0 x1 x2 x3 x4 x5 x6 x7 x8 s)]
  unfold kernelRun0_E
  dsimp only
  sl_unfold_words
  rw [View.canon_unit_zero hz]
  simp only [View.readAt_eq_ld, h6.read_unread, h9.read_unread, h11.read_unread, View.ld_unit_zero (S := S1024x1024) hz, View.ld_unit_zero (S := S1024x2048) hz]
  rfl

theorem out_F (hc0 : ¬cond0_0 i) (hc1 : ¬cond0_1 i) (hc2 : ¬cond0_2 i) (hc3 : ¬cond0_3 i) (hc4 : ¬cond0_4 i) (hc5 : ¬cond0_5 i) (hc6 : cond0_6 i) :
    out0_F_9 (F := Ideal) c i a2 h2 a3 h3 a4 h4 a5 h5 a6 h6 a7 h7 a8 h8 a9 h9 a10 h10 a11 h11 hc0 hc1 hc2 hc3 hc4 hc5 hc6 x0 x1 x2 x3 x4 x5 x6 x7 x8 s = k0_pay1 s x5 x7 := by
  unfold out0_F_9
  rw [View.read_writes_eq_canon _ _ _ (cover0_F_9 c i a2 h2 a3 h3 a4 h4 a5 h5 a6 h6 a7 h7 a8 h8 a9 h9 a10 h10 a11 h11 hc0 hc1 hc2 hc3 hc4 hc5 hc6 x0 x1 x2 x3 x4 x5 x6 x7 x8 s)]
  unfold kernelRun0_F
  dsimp only
  sl_unfold_words
  rw [View.canon_unit_zero hz]
  simp only [View.readAt_eq_ld, h7.read_unread, h9.read_unread, h11.read_unread, View.ld_unit_zero (S := S1024x1024) hz, View.ld_unit_zero (S := S1024x2048) hz]

end

/-! ### The blocks -/

/-- Row `r` of the `n`-th block of 1024 rows. -/
abbrev rowOf (n : ℕ) (r : Fin 1024) : Fin 8192 := ⟨(1024 * n + r.val) % 8192, Nat.mod_lt _ (by decide)⟩
/-- Column `l` of the `n`-th block of 1024 columns among 3072. -/
abbrev colOf (n : ℕ) (l : Fin 1024) : Fin 3072 := ⟨(1024 * n + l.val) % 3072, Nat.mod_lt _ (by decide)⟩

section
variable (m : (ℓ : Loc nD τ sig) → Buf (Elt Ideal) ℓ) (c : Dev nD)

@[irreducible] def b0 : Vec Ideal S8192x1024 .bf16 := V m c (Pipeline.arrRef spec0 0)
@[irreducible] def b1 : Vec Ideal S8192x1024 .bf16 := V m c (Pipeline.arrRef spec0 1)
@[irreducible] def b2 : Vec Ideal S8192x1024 .bf16 := V m c (Pipeline.arrRef spec0 2)
@[irreducible] def b3 : Vec Ideal S8192x1024 .bf16 := V m c (Pipeline.arrRef spec0 3)
@[irreducible] def b4 : Vec Ideal S8192x3072 .bf16 := V m c (Pipeline.arrRef spec0 4)
@[irreducible] def b5 : Vec Ideal S8192x1024 .bf16 := V m c (Pipeline.arrRef spec0 5)
@[irreducible] def b6 : Vec Ideal S8192x128 .bf16 := V m c (Pipeline.arrRef spec0 6)
@[irreducible] def b7 : Vec Ideal S8192x2048 .bf16 := V m c (Pipeline.arrRef spec0 7)
@[irreducible] def b8 : Vec Ideal S128x2048 .bf16 := V m c (Pipeline.arrRef spec0 8)

theorem idx0 : ∀ t : Fin cfg0.N, win0_0.index t (0 : Fin 2) = t.val / 8 ∧ win0_0.index t (1 : Fin 2) = 0 :=
  (by decide +kernel : ∀ t : Fin grid0.N, _)
theorem cut0 (A : Vec Ideal S8192x1024 .bf16) (t : Fin cfg0.N) (r : Fin 1024) (l : Fin 1024) :
    (((cfg0.win 0).blk t).view.read (Elt Ideal) A : Vec Ideal S1024x1024 .bf16) (ix2 r l) = A (ix2 (rowOf (t.val / 8) r) l) := by
  obtain ⟨e0, e1⟩ := idx0 t
  have hN := lt_of_lt_of_eq t.isLt N_0
  refine congrArg A (funext fun a => Fin.ext ?_)
  match a with
  | 0 => show win0_0.index t (0 : Fin 2) * 1024 + 1 * r.val = (1024 * (t.val / 8) + r.val) % 8192; rw [e0]; omega
  | 1 => show win0_0.index t (1 : Fin 2) * 1024 + 1 * l.val = l.val; rw [e1]; omega

theorem blk0 (t : Fin cfg0.N) (r : Fin 1024) (l : Fin 1024) :
    (iblk m c 0 t : Vec Ideal S1024x1024 .bf16) (ix2 r l) = b0 m c (ix2 (rowOf (t.val / 8) r) l) := by
  unfold b0 iblk
  exact cut0 _ t r l

theorem idx1 : ∀ t : Fin cfg0.N, win0_1.index t (0 : Fin 2) = t.val / 8 ∧ win0_1.index t (1 : Fin 2) = 0 :=
  (by decide +kernel : ∀ t : Fin grid0.N, _)
theorem cut1 (A : Vec Ideal S8192x1024 .bf16) (t : Fin cfg0.N) (r : Fin 1024) (l : Fin 1024) :
    (((cfg0.win 1).blk t).view.read (Elt Ideal) A : Vec Ideal S1024x1024 .bf16) (ix2 r l) = A (ix2 (rowOf (t.val / 8) r) l) := by
  obtain ⟨e0, e1⟩ := idx1 t
  have hN := lt_of_lt_of_eq t.isLt N_0
  refine congrArg A (funext fun a => Fin.ext ?_)
  match a with
  | 0 => show win0_1.index t (0 : Fin 2) * 1024 + 1 * r.val = (1024 * (t.val / 8) + r.val) % 8192; rw [e0]; omega
  | 1 => show win0_1.index t (1 : Fin 2) * 1024 + 1 * l.val = l.val; rw [e1]; omega

theorem blk1 (t : Fin cfg0.N) (r : Fin 1024) (l : Fin 1024) :
    (iblk m c 1 t : Vec Ideal S1024x1024 .bf16) (ix2 r l) = b1 m c (ix2 (rowOf (t.val / 8) r) l) := by
  unfold b1 iblk
  exact cut1 _ t r l

theorem idx2 : ∀ t : Fin cfg0.N, win0_2.index t (0 : Fin 2) = t.val / 8 ∧ win0_2.index t (1 : Fin 2) = 0 :=
  (by decide +kernel : ∀ t : Fin grid0.N, _)
theorem cut2 (A : Vec Ideal S8192x1024 .bf16) (t : Fin cfg0.N) (r : Fin 1024) (l : Fin 1024) :
    (((cfg0.win 2).blk t).view.read (Elt Ideal) A : Vec Ideal S1024x1024 .bf16) (ix2 r l) = A (ix2 (rowOf (t.val / 8) r) l) := by
  obtain ⟨e0, e1⟩ := idx2 t
  have hN := lt_of_lt_of_eq t.isLt N_0
  refine congrArg A (funext fun a => Fin.ext ?_)
  match a with
  | 0 => show win0_2.index t (0 : Fin 2) * 1024 + 1 * r.val = (1024 * (t.val / 8) + r.val) % 8192; rw [e0]; omega
  | 1 => show win0_2.index t (1 : Fin 2) * 1024 + 1 * l.val = l.val; rw [e1]; omega

theorem blk2 (t : Fin cfg0.N) (r : Fin 1024) (l : Fin 1024) :
    (iblk m c 2 t : Vec Ideal S1024x1024 .bf16) (ix2 r l) = b2 m c (ix2 (rowOf (t.val / 8) r) l) := by
  unfold b2 iblk
  exact cut2 _ t r l

theorem idx3 : ∀ t : Fin cfg0.N, win0_3.index t (0 : Fin 2) = t.val / 8 ∧ win0_3.index t (1 : Fin 2) = 0 :=
  (by decide +kernel : ∀ t : Fin grid0.N, _)
theorem cut3 (A : Vec Ideal S8192x1024 .bf16) (t : Fin cfg0.N) (r : Fin 1024) (l : Fin 1024) :
    (((cfg0.win 3).blk t).view.read (Elt Ideal) A : Vec Ideal S1024x1024 .bf16) (ix2 r l) = A (ix2 (rowOf (t.val / 8) r) l) := by
  obtain ⟨e0, e1⟩ := idx3 t
  have hN := lt_of_lt_of_eq t.isLt N_0
  refine congrArg A (funext fun a => Fin.ext ?_)
  match a with
  | 0 => show win0_3.index t (0 : Fin 2) * 1024 + 1 * r.val = (1024 * (t.val / 8) + r.val) % 8192; rw [e0]; omega
  | 1 => show win0_3.index t (1 : Fin 2) * 1024 + 1 * l.val = l.val; rw [e1]; omega

theorem blk3 (t : Fin cfg0.N) (r : Fin 1024) (l : Fin 1024) :
    (iblk m c 3 t : Vec Ideal S1024x1024 .bf16) (ix2 r l) = b3 m c (ix2 (rowOf (t.val / 8) r) l) := by
  unfold b3 iblk
  exact cut3 _ t r l

theorem idx4 : ∀ t : Fin cfg0.N, win0_4.index t (0 : Fin 2) = t.val / 8 ∧ win0_4.index t (1 : Fin 2) = min 2 (t.val % 8 - 4) :=
  (by decide +kernel : ∀ t : Fin grid0.N, _)
theorem cut4 (A : Vec Ideal S8192x3072 .bf16) (t : Fin cfg0.N) (h : t.val % 8 ≤ 6) (r : Fin 1024) (l : Fin 1024) :
    (((cfg0.win 4).blk t).view.read (Elt Ideal) A : Vec Ideal S1024x1024 .bf16) (ix2 r l) = A (ix2 (rowOf (t.val / 8) r) (colOf (t.val % 8 - 4) l)) := by
  obtain ⟨e0, e1⟩ := idx4 t
  have hN := lt_of_lt_of_eq t.isLt N_0
  refine congrArg A (funext fun a => Fin.ext ?_)
  match a with
  | 0 => show win0_4.index t (0 : Fin 2) * 1024 + 1 * r.val = (1024 * (t.val / 8) + r.val) % 8192; rw [e0]; omega
  | 1 => show win0_4.index t (1 : Fin 2) * 1024 + 1 * l.val = (1024 * (t.val % 8 - 4) + l.val) % 3072; rw [e1]; omega

theorem blk4 (t : Fin cfg0.N) (h : t.val % 8 ≤ 6) (r : Fin 1024) (l : Fin 1024) :
    (iblk m c 4 t : Vec Ideal S1024x1024 .bf16) (ix2 r l) = b4 m c (ix2 (rowOf (t.val / 8) r) (colOf (t.val % 8 - 4) l)) := by
  unfold b4 iblk
  exact cut4 _ t h r l

theorem idx5 : ∀ t : Fin cfg0.N, win0_5.index t (0 : Fin 2) = t.val / 8 ∧ win0_5.index t (1 : Fin 2) = 0 :=
  (by decide +kernel : ∀ t : Fin grid0.N, _)
theorem cut5 (A : Vec Ideal S8192x1024 .bf16) (t : Fin cfg0.N) (r : Fin 1024) (l : Fin 1024) :
    (((cfg0.win 5).blk t).view.read (Elt Ideal) A : Vec Ideal S1024x1024 .bf16) (ix2 r l) = A (ix2 (rowOf (t.val / 8) r) l) := by
  obtain ⟨e0, e1⟩ := idx5 t
  have hN := lt_of_lt_of_eq t.isLt N_0
  refine congrArg A (funext fun a => Fin.ext ?_)
  match a with
  | 0 => show win0_5.index t (0 : Fin 2) * 1024 + 1 * r.val = (1024 * (t.val / 8) + r.val) % 8192; rw [e0]; omega
  | 1 => show win0_5.index t (1 : Fin 2) * 1024 + 1 * l.val = l.val; rw [e1]; omega

theorem blk5 (t : Fin cfg0.N) (r : Fin 1024) (l : Fin 1024) :
    (iblk m c 5 t : Vec Ideal S1024x1024 .bf16) (ix2 r l) = b5 m c (ix2 (rowOf (t.val / 8) r) l) := by
  unfold b5 iblk
  exact cut5 _ t r l

theorem idx6 : ∀ t : Fin cfg0.N, win0_6.index t (0 : Fin 2) = t.val / 8 ∧ win0_6.index t (1 : Fin 2) = 0 :=
  (by decide +kernel : ∀ t : Fin grid0.N, _)
theorem cut6 (A : Vec Ideal S8192x128 .bf16) (t : Fin cfg0.N) (r : Fin 1024) (l : Fin 128) :
    (((cfg0.win 6).blk t).view.read (Elt Ideal) A : Vec Ideal S1024x128 .bf16) (ix2 r l) = A (ix2 (rowOf (t.val / 8) r) l) := by
  obtain ⟨e0, e1⟩ := idx6 t
  have hN := lt_of_lt_of_eq t.isLt N_0
  refine congrArg A (funext fun a => Fin.ext ?_)
  match a with
  | 0 => show win0_6.index t (0 : Fin 2) * 1024 + 1 * r.val = (1024 * (t.val / 8) + r.val) % 8192; rw [e0]; omega
  | 1 => show win0_6.index t (1 : Fin 2) * 128 + 1 * l.val = l.val; rw [e1]; omega

theorem blk6 (t : Fin cfg0.N) (r : Fin 1024) (l : Fin 128) :
    (iblk m c 6 t : Vec Ideal S1024x128 .bf16) (ix2 r l) = b6 m c (ix2 (rowOf (t.val / 8) r) l) := by
  unfold b6 iblk
  exact cut6 _ t r l

theorem idx7 : ∀ t : Fin cfg0.N, win0_7.index t (0 : Fin 2) = t.val % 8 ∧ win0_7.index t (1 : Fin 2) = 0 :=
  (by decide +kernel : ∀ t : Fin grid0.N, _)
theorem cut7 (A : Vec Ideal S8192x2048 .bf16) (t : Fin cfg0.N) (r : Fin 1024) (l : Fin 2048) :
    (((cfg0.win 7).blk t).view.read (Elt Ideal) A : Vec Ideal S1024x2048 .bf16) (ix2 r l) = A (ix2 (rowOf (t.val % 8) r) l) := by
  obtain ⟨e0, e1⟩ := idx7 t
  have hN := lt_of_lt_of_eq t.isLt N_0
  refine congrArg A (funext fun a => Fin.ext ?_)
  match a with
  | 0 => show win0_7.index t (0 : Fin 2) * 1024 + 1 * r.val = (1024 * (t.val % 8) + r.val) % 8192; rw [e0]; omega
  | 1 => show win0_7.index t (1 : Fin 2) * 2048 + 1 * l.val = l.val; rw [e1]; omega

theorem blk7 (t : Fin cfg0.N) (r : Fin 1024) (l : Fin 2048) :
    (iblk m c 7 t : Vec Ideal S1024x2048 .bf16) (ix2 r l) = b7 m c (ix2 (rowOf (t.val % 8) r) l) := by
  unfold b7 iblk
  exact cut7 _ t r l

theorem idx8 : ∀ t : Fin cfg0.N, win0_8.index t (0 : Fin 2) = 0 ∧ win0_8.index t (1 : Fin 2) = 0 :=
  (by decide +kernel : ∀ t : Fin grid0.N, _)
theorem cut8 (A : Vec Ideal S128x2048 .bf16) (t : Fin cfg0.N) (r : Fin 128) (l : Fin 2048) :
    (((cfg0.win 8).blk t).view.read (Elt Ideal) A : Vec Ideal S128x2048 .bf16) (ix2 r l) = A (ix2 r l) := by
  obtain ⟨e0, e1⟩ := idx8 t
  have hN := lt_of_lt_of_eq t.isLt N_0
  refine congrArg A (funext fun a => Fin.ext ?_)
  match a with
  | 0 => show win0_8.index t (0 : Fin 2) * 128 + 1 * r.val = r.val; rw [e0]; omega
  | 1 => show win0_8.index t (1 : Fin 2) * 2048 + 1 * l.val = l.val; rw [e1]; omega

theorem blk8 (t : Fin cfg0.N) (r : Fin 128) (l : Fin 2048) :
    (iblk m c 8 t : Vec Ideal S128x2048 .bf16) (ix2 r l) = b8 m c (ix2 r l) := by
  unfold b8 iblk
  exact cut8 _ t r l

/-! ### The result -/

/-- Column `l` of the `k`-th of the eight pieces, in row `R`. -/
def sec (k : ℕ) (R : Fin 8192) (l : Fin 1024) : EReal :=
  if k = 0 then b0 m c (ix2 R l) else if k = 1 then b1 m c (ix2 R l) else if k = 2 then b2 m c (ix2 R l)
  else if k = 3 then b3 m c (ix2 R l) else if k ≤ 6 then b4 m c (ix2 R (colOf (k - 4) l)) else b5 m c (ix2 R l)

/-- The products of one piece. -/
def part (R : Fin 8192) (j : Fin 2048) (k : ℕ) : EReal :=
  ∑ l : Fin 1024, sec m c k R l * (b7 m c (ix2 (rowOf k l) j) : EReal)

/-- The products of the narrow columns. -/
def narrow (R : Fin 8192) (j : Fin 2048) : EReal :=
  ∑ l : Fin 128, (b6 m c (ix2 R l) : EReal) * b8 m c (ix2 l j)

theorem adds (s : Vec Ideal S1024x2048 .f32) (t : Fin cfg0.N) (p : Vec Ideal S1024x1024 .bf16) (i : Fin 1024) (j : Fin 2048)
    (hp : ∀ l, (p (ix2 i l) : EReal) = sec m c (t.val % 8) (rowOf (t.val / 8) i) l) :
    (k0_pay1 s p (iblk m c 7 t) (ix2 i j) : EReal) = s (ix2 i j) + part m c (rowOf (t.val / 8) i) j (t.val % 8) := by
  rw [add_at s p (iblk m c 7 t)]
  unfold part
  refine congrArg (_ + ·) (Finset.sum_congr rfl fun l _ => ?_)
  rw [blk7, hp]

theorem at_first (t : Fin cfg0.N) (h0 : t.val % 8 = 0) (i : Fin 1024) (j : Fin 2048) :
    (outsAt0 m c t.val t.isLt (ix2 i j) : EReal) = narrow m c (rowOf (t.val / 8) i) j + part m c (rowOf (t.val / 8) i) j (t.val % 8) := by
  rw [outsAt0_A m c t h0 h0 (by omega) (by omega) (by omega) (by omega) (by omega), out_A, adds]
  · refine congrArg (· + _) ((small_at (iblk m c 6 t) (iblk m c 8 t) i j).trans ?_)
    unfold narrow
    refine Finset.sum_congr rfl fun l _ => ?_
    rw [blk6, blk8]
  · intro l
    unfold sec
    rw [h0, if_pos rfl, blk0]

theorem at_next (t : Fin cfg0.N) (h0 : ¬ t.val % 8 = 0) (i : Fin 1024) (j : Fin 2048) :
    (outsAt0 m c t.val t.isLt (ix2 i j) : EReal)
      = outsAt0 m c (t.val - 1) (Nat.lt_of_le_of_lt (Nat.sub_le _ _) t.isLt) (ix2 i j) + part m c (rowOf (t.val / 8) i) j (t.val % 8) := by
  by_cases h1 : t.val % 8 = 1
  · rw [outsAt0_B m c t h0 h0 h1 (by omega) (by omega) (by omega) (by omega), out_B, adds]
    intro l
    unfold sec
    rw [h1, if_neg (by decide), if_pos rfl, blk1]
  by_cases h2 : t.val % 8 = 2
  · rw [outsAt0_C m c t h0 h0 h1 h2 (by omega) (by omega) (by omega), out_C, adds]
    intro l
    unfold sec
    rw [h2, if_neg (by decide), if_neg (by decide), if_pos rfl, blk2]
  by_cases h3 : t.val % 8 = 3
  · rw [outsAt0_D m c t h0 h0 h1 h2 h3 (by omega) (by omega), out_D, adds]
    intro l
    unfold sec
    rw [h3, if_neg (by decide), if_neg (by decide), if_neg (by decide), if_pos rfl, blk3]
  by_cases h4 : t.val % 8 ≤ 6
  · rw [outsAt0_E m c t h0 h0 h1 h2 h3 ⟨by omega, h4⟩ (by omega), out_E, adds]
    intro l
    unfold sec
    rw [if_neg h0, if_neg h1, if_neg h2, if_neg h3, if_pos h4, blk4 m c t h4]
  · have h5 : t.val % 8 = 7 := by omega
    rw [outsAt0_F m c t h0 h0 h1 h2 h3 (by omega) h5, out_F, adds]
    intro l
    unfold sec
    rw [if_neg h0, if_neg h1, if_neg h2, if_neg h3, if_neg h4, blk5]

/-- After a point the result holds the products of the narrow columns and of the pieces so far. -/
theorem held (i : Fin 1024) (j : Fin 2048) : ∀ (n : ℕ) (h : n < cfg0.N),
    (outsAt0 m c n h (ix2 i j) : EReal) = narrow m c (rowOf (n / 8) i) j + ∑ k ∈ Finset.range (n % 8 + 1), part m c (rowOf (n / 8) i) j k := by
  intro n
  induction n with
  | zero => intro h; rw [at_first m c ⟨0, h⟩ rfl]; simp
  | succ n ih =>
    intro h
    by_cases h0 : (n + 1) % 8 = 0
    · rw [at_first m c ⟨n + 1, h⟩ h0]
      simp [h0]
    · rw [at_next m c ⟨n + 1, h⟩ h0]
      have e1 : (n + 1) % 8 = n % 8 + 1 := by omega
      have e2 : (n + 1) / 8 = n / 8 := by omega
      have ih' := ih (Nat.lt_of_succ_lt h)
      rw [Finset.sum_range_succ, ← add_assoc, e1, e2, ← ih']
      rfl

/-- The array that the kernel leaves. -/
def G (R : Fin 8192) (j : Fin 2048) : EReal := narrow m c R j + ∑ k ∈ Finset.range 8, part m c R j k

def Garr : Vec Ideal S8192x2048 .f32 := fun k => G m c (k 0) (k 1)

theorem idx9 : ∀ t : Fin cfg0.N, win0_9.index t (0 : Fin 2) = t.val / 8 ∧ win0_9.index t (1 : Fin 2) = 0 :=
  (by decide +kernel : ∀ t : Fin grid0.N, _)

theorem flushed (t : Fin cfg0.N) (hf : (cfg0.win 9).flush t = true) :
    (dats m 0 c).flushed 9 t = ((cfg0.win 9).blk t).view.read (Elt Ideal) (Garr m c) := by
  have h7 : t.val % 8 = 7 := (flush0_9 t).mp hf
  have hN := lt_of_lt_of_eq t.isLt N_0
  obtain ⟨e0, e1⟩ := idx9 t
  rw [Value.flushed9]
  funext y
  have hb0 : (((cfg0.win 9).blk t).view.emb y 0).val = win0_9.index t (0 : Fin 2) * 1024 + 1 * (y 0).val := rfl
  have hb1 : (((cfg0.win 9).blk t).view.emb y 1).val = win0_9.index t (1 : Fin 2) * 2048 + 1 * (y 1).val := rfl
  have hy0 : (y 0).val < 1024 := (y 0).isLt
  have hy1 : (y 1).val < 2048 := (y 1).isLt
  have e := held m c ⟨(y 0).val, hy0⟩ ⟨(y 1).val, hy1⟩ t.val t.isLt
  rw [h7] at e
  have hR : ((cfg0.win 9).blk t).view.emb y 0 = rowOf (t.val / 8) ⟨(y 0).val, hy0⟩ :=
    Fin.ext (hb0.trans (by show _ = (1024 * (t.val / 8) + (y 0).val) % 8192; rw [e0]; omega))
  have hJ : ((cfg0.win 9).blk t).view.emb y 1 = (⟨(y 1).val, hy1⟩ : Fin 2048) :=
    Fin.ext (hb1.trans (by show _ = (y 1).val; rw [e1]; omega))
  have hl : (cfg0.win 9).xinj (grid0.coords t) y = ix2 (⟨(y 0).val, hy0⟩ : Fin 1024) (⟨(y 1).val, hy1⟩ : Fin 2048) := by
    funext a; apply Fin.ext
    match a with
    | 0 => rfl
    | 1 => rfl
  show outsAt0 m c t.val t.isLt ((cfg0.win 9).xinj (grid0.coords t) y) = G m c (((cfg0.win 9).blk t).view.emb y 0) (((cfg0.win 9).blk t).view.emb y 1)
  rw [hl, hR, hJ]
  exact e

theorem array : (dats m 0 c).arrAt 9 cfg0.N = Garr m c :=
  (dats m 0 c).arrAt_eq_of_cover 9 (Garr m c) (flushed m c) fun k => by
    have h0 : (k 0 : Nat) < 8192 := (k 0).isLt
    have h1 : (k 1 : Nat) < 2048 := (k 1).isLt
    have ht : 8 * ((k 0 : Nat) / 1024) + 7 < cfg0.N := by rw [show cfg0.N = 64 from N_0]; omega
    obtain ⟨e0, e1⟩ := idx9 ⟨_, ht⟩
    refine ⟨⟨_, ht⟩, (flush0_9 _).mpr (by show (8 * ((k 0 : Nat) / 1024) + 7) % 8 = 7; omega), ?_⟩
    show k ∈ ((View.whole main_v18).slice (win0_9.rect ⟨8 * ((k 0 : Nat) / 1024) + 7, ht⟩)).set
    rw [View.set_slice_whole, Rect.mem_set_unit]
    intro a
    match a with
    | ⟨0, _⟩ =>
      show win0_9.index ⟨_, ht⟩ (0 : Fin 2) * 1024 ≤ (k 0 : Nat) ∧ (k 0 : Nat) < win0_9.index ⟨_, ht⟩ (0 : Fin 2) * 1024 + 1024
      rw [e0]; dsimp only; omega
    | ⟨1, _⟩ =>
      show win0_9.index ⟨_, ht⟩ (1 : Fin 2) * 2048 ≤ (k 1 : Nat) ∧ (k 1 : Nat) < win0_9.index ⟨_, ht⟩ (1 : Fin 2) * 2048 + 2048
      rw [e1]; omega

end

end Cert.Kernel2Ideal.Bw

end
-- ==== Proof.Bw2.lean ====
/- The gradient of the projections' input: the arrays that the kernel reads, in terms of the arguments, the reference's
   sum over all of the projections' columns, and that the kernel's array is the reference's. -/
module

public import proofs.«01_k».proof.Defs
public import proofs.«01_k».proof.Proof.Bw
public import proofs.«01_k».proof.Proof.Gen.Reference2Ideal.Run
public import Idealize.ShloMosaic.Lib.StableHlo.ReadAt
public import Idealize.ShloMosaic.Adequacy
public import Idealize.ShloMosaic.Init

@[expose] public section

set_option maxRecDepth 16384

noncomputable section

open Idealize.ShloMosaic Idealize.ShloMosaic.TcCoe Idealize.SL.Sem

namespace Cert.Kernel2Ideal.Bw

open Cert.Kernel2Ideal Cert.Kernel2Ideal.Gen

/-! ### Sums in pieces -/

/-- A function of the first numbers, zero elsewhere. -/
def ext {N : ℕ} (F : Fin N → EReal) (x : ℕ) : EReal := if h : x < N then F ⟨x, h⟩ else 0

theorem sum_ext {N : ℕ} (F : Fin N → EReal) : ∑ x : Fin N, F x = ∑ x ∈ Finset.range N, ext F x := by
  rw [Finset.sum_range]
  refine Finset.sum_congr rfl fun x _ => ?_
  unfold ext
  rw [dif_pos x.isLt]

theorem piece {N : ℕ} (F : Fin N → EReal) (o n : ℕ) (h : o + n ≤ N) :
    ∑ x ∈ Finset.range n, ext F (o + x) = ∑ x : Fin n, F ⟨o + x.val, by omega⟩ := by
  rw [Finset.sum_range]
  refine Finset.sum_congr rfl fun x _ => ?_
  unfold ext
  rw [dif_pos (by omega)]

theorem split3 (F : Fin 3072 → EReal) :
    ∑ x : Fin 3072, F x = (∑ x : Fin 1024, F ⟨0 + x.val, by omega⟩) + (∑ x : Fin 1024, F ⟨1024 + x.val, by omega⟩) + ∑ x : Fin 1024, F ⟨2048 + x.val, by omega⟩ := by
  rw [sum_ext, show Finset.range 3072 = Finset.range (1024 + 1024 + 1024) from rfl, Finset.sum_range_add, Finset.sum_range_add, ← piece F 0 1024 (by omega), ← piece F 1024 1024 (by omega), ← piece F 2048 1024 (by omega)]
  simp only [Nat.zero_add, Nat.reduceAdd]

theorem split128 (F : Fin 128 → EReal) :
    ∑ x : Fin 128, F x = (∑ x : Fin 8, F ⟨0 + x.val, by omega⟩) + (∑ x : Fin 16, F ⟨8 + x.val, by omega⟩) + ∑ x : Fin 104, F ⟨24 + x.val, by omega⟩ := by
  rw [sum_ext, show Finset.range 128 = Finset.range (8 + 16 + 104) from rfl, Finset.sum_range_add, Finset.sum_range_add, ← piece F 0 8 (by omega), ← piece F 8 16 (by omega), ← piece F 24 104 (by omega)]
  simp only [Nat.zero_add, Nat.reduceAdd]

theorem split8216 (F : Fin 8216 → EReal) :
    ∑ x : Fin 8216, F x = (∑ x : Fin 1024, F ⟨0 + x.val, by omega⟩) + (∑ x : Fin 1024, F ⟨1024 + x.val, by omega⟩) + (∑ x : Fin 1024, F ⟨2048 + x.val, by omega⟩)
      + (∑ x : Fin 1024, F ⟨3072 + x.val, by omega⟩) + (∑ x : Fin 8, F ⟨4096 + x.val, by omega⟩) + (∑ x : Fin 3072, F ⟨4104 + x.val, by omega⟩)
      + (∑ x : Fin 1024, F ⟨7176 + x.val, by omega⟩) + ∑ x : Fin 16, F ⟨8200 + x.val, by omega⟩ := by
  rw [sum_ext, show Finset.range 8216 = Finset.range (1024 + 1024 + 1024 + 1024 + 8 + 3072 + 1024 + 16) from rfl]
  simp only [Finset.sum_range_add]
  rw [← piece F 0 1024 (by omega), ← piece F 1024 1024 (by omega), ← piece F 2048 1024 (by omega), ← piece F 3072 1024 (by omega),
    ← piece F 4096 8 (by omega), ← piece F 4104 3072 (by omega), ← piece F 7176 1024 (by omega), ← piece F 8200 16 (by omega)]
  simp only [Nat.zero_add, Nat.reduceAdd]

/-! ### The arguments -/

section
variable (m : (ℓ : Loc nD τ sig) → Buf (Elt Ideal) ℓ) (c : Dev nD)

abbrev pW : FVec Ideal S2048x8216 .f32 := m ((c.tc : Thread nD τ).loc main_arg1)
abbrev p0 : FVec Ideal S8192x1024 .f32 := m ((c.tc : Thread nD τ).loc main_arg2)
abbrev p1 : FVec Ideal S8192x1024 .f32 := m ((c.tc : Thread nD τ).loc main_arg3)
abbrev p2 : FVec Ideal S8192x1024 .f32 := m ((c.tc : Thread nD τ).loc main_arg4)
abbrev p3 : FVec Ideal S8192x1024 .f32 := m ((c.tc : Thread nD τ).loc main_arg5)
abbrev p4 : FVec Ideal S8192x8 .f32 := m ((c.tc : Thread nD τ).loc main_arg6)
abbrev p5 : FVec Ideal S8192x3072 .f32 := m ((c.tc : Thread nD τ).loc main_arg7)
abbrev p6 : FVec Ideal S8192x1024 .f32 := m ((c.tc : Thread nD τ).loc main_arg8)
abbrev p7 : FVec Ideal S8192x16 .f32 := m ((c.tc : Thread nD τ).loc main_arg9)

theorem b0_at (R : Fin 8192) (l : Fin 1024) : (b0 m c (ix2 R l) : EReal) = p0 m c (ix2 R l) := by
  unfold b0
  show V m c main_v2 _ = _
  unfold V
  after_reads_at

theorem b1_at (R : Fin 8192) (l : Fin 1024) : (b1 m c (ix2 R l) : EReal) = p1 m c (ix2 R l) := by
  unfold b1
  show V m c main_v3 _ = _
  unfold V
  after_reads_at

theorem b2_at (R : Fin 8192) (l : Fin 1024) : (b2 m c (ix2 R l) : EReal) = p2 m c (ix2 R l) := by
  unfold b2
  show V m c main_v4 _ = _
  unfold V
  after_reads_at

theorem b3_at (R : Fin 8192) (l : Fin 1024) : (b3 m c (ix2 R l) : EReal) = p3 m c (ix2 R l) := by
  unfold b3
  show V m c main_v5 _ = _
  unfold V
  after_reads_at

theorem b4_at (R : Fin 8192) (l : Fin 3072) : (b4 m c (ix2 R l) : EReal) = p5 m c (ix2 R l) := by
  unfold b4
  show V m c main_v6 _ = _
  unfold V
  after_reads_at

theorem b5_at (R : Fin 8192) (l : Fin 1024) : (b5 m c (ix2 R l) : EReal) = p6 m c (ix2 R l) := by
  unfold b5
  show V m c main_v7 _ = _
  unfold V
  after_reads_at

theorem b6_lo (R : Fin 8192) (l : Fin 8) : (b6 m c (ix2 R ⟨0 + l.val, by omega⟩) : EReal) = p4 m c (ix2 R l) := by
  unfold b6
  show V m c main_v8 _ = _
  unfold V
  after_reads_simp
  pointwise
  after_reads_at

theorem b6_mid (R : Fin 8192) (l : Fin 16) : (b6 m c (ix2 R ⟨8 + l.val, by omega⟩) : EReal) = p7 m c (ix2 R l) := by
  unfold b6
  show V m c main_v8 _ = _
  unfold V
  after_reads_simp
  pointwise
  after_reads_at

theorem b6_hi (R : Fin 8192) (l : Fin 104) : (b6 m c (ix2 R ⟨24 + l.val, by omega⟩) : EReal) = 0 := by
  unfold b6
  show V m c main_v8 _ = _
  unfold V
  after_reads_simp
  pointwise
  all_goals rw [dif_neg (by omega : ¬ 24 + l.val < 8), dif_neg (by omega : ¬ 24 + l.val - 8 < 16)]
  after_reads_at

theorem b7_lo (k : Fin 8192) (j : Fin 2048) (h : k.val < 4096) : (b7 m c (ix2 k j) : EReal) = pW m c (ix2 j ⟨k.val, by omega⟩) := by
  unfold b7
  show V m c main_v13 _ = _
  unfold V
  after_reads_simp
  pointwise
  rw [dif_pos h]

theorem b7_hi (k : Fin 8192) (j : Fin 2048) (h : ¬ k.val < 4096) : (b7 m c (ix2 k j) : EReal) = pW m c (ix2 j ⟨8 + k.val, by omega⟩) := by
  unfold b7
  show V m c main_v13 _ = _
  unfold V
  after_reads_simp
  pointwise
  rw [dif_neg h]
  exact congrArg (fun x => pW m c (ix2 j x)) (Fin.ext (by show 4104 + (k.val - 4096) = 8 + k.val; omega))

theorem b8_lo (l : Fin 8) (j : Fin 2048) : (b8 m c (ix2 ⟨0 + l.val, by omega⟩ j) : EReal) = pW m c (ix2 j ⟨4096 + l.val, by omega⟩) := by
  unfold b8
  show V m c main_v17 _ = _
  unfold V
  after_reads_simp
  pointwise
  after_reads_at

theorem b8_mid (l : Fin 16) (j : Fin 2048) : (b8 m c (ix2 ⟨8 + l.val, by omega⟩ j) : EReal) = pW m c (ix2 j ⟨8200 + l.val, by omega⟩) := by
  unfold b8
  show V m c main_v17 _ = _
  unfold V
  after_reads_simp
  pointwise
  after_reads_at

end

theorem ref_at (P : FVec Ideal Cert.Reference2Ideal.S8192x8216 .f32) (W : FVec Ideal S2048x8216 .f32) (R : Fin 8192) (j : Fin 2048) :
    (Host.dotGeneral Cert.Reference2Ideal.dot_S8192x8216_S2048x8216_S8192x2048_1_1_0_0_n_n none P W (ix2 R j) : EReal)
      = ∑ x : Fin 8216, (P (ix2 R x) : EReal) * W (ix2 j x) := by
  pointwise

section
variable (q0 q1 q2 q3 q6 : FVec Ideal S8192x1024 .f32) (q4 : FVec Ideal S8192x8 .f32) (q5 : FVec Ideal S8192x3072 .f32) (q7 : FVec Ideal S8192x16 .f32)

/-- The gradients of all the projections side by side. -/
abbrev side (h : Shape.Concatenates [S8192x1024, S8192x1024, S8192x1024, S8192x1024, S8192x8, S8192x3072, S8192x1024, S8192x16] Cert.Reference2Ideal.S8192x8216 1) : FVec Ideal Cert.Reference2Ideal.S8192x8216 .f32 :=
  concatenate Cert.Reference2Ideal.S8192x8216 1 [⟨S8192x1024, q0⟩, ⟨S8192x1024, q1⟩, ⟨S8192x1024, q2⟩, ⟨S8192x1024, q3⟩, ⟨S8192x8, q4⟩, ⟨S8192x3072, q5⟩, ⟨S8192x1024, q6⟩, ⟨S8192x16, q7⟩] h

variable (h : Shape.Concatenates [S8192x1024, S8192x1024, S8192x1024, S8192x1024, S8192x8, S8192x3072, S8192x1024, S8192x16] Cert.Reference2Ideal.S8192x8216 1)

theorem side0 (R : Fin 8192) (x : Fin 1024) : (side q0 q1 q2 q3 q6 q4 q5 q7 h (ix2 R (⟨0 + x.val, by omega⟩ : Fin 8216)) : EReal) = q0 (ix2 R x) := by
  unfold side
  pointwise

theorem side1 (R : Fin 8192) (x : Fin 1024) : (side q0 q1 q2 q3 q6 q4 q5 q7 h (ix2 R (⟨1024 + x.val, by omega⟩ : Fin 8216)) : EReal) = q1 (ix2 R x) := by
  unfold side
  pointwise

theorem side2 (R : Fin 8192) (x : Fin 1024) : (side q0 q1 q2 q3 q6 q4 q5 q7 h (ix2 R (⟨2048 + x.val, by omega⟩ : Fin 8216)) : EReal) = q2 (ix2 R x) := by
  unfold side
  pointwise
  rw [dif_neg (by omega : ¬ 2048 + x.val < 1024),
    dif_neg (by omega : ¬ 2048 + x.val - 1024 < 1024),
    dif_pos (by omega : 2048 + x.val - 1024 - 1024 < 1024)]
  exact congrArg (fun y => q2 (ix2 R y)) (Fin.ext (by show 2048 + x.val - 1024 - 1024 = x.val; omega))

theorem side3 (R : Fin 8192) (x : Fin 1024) : (side q0 q1 q2 q3 q6 q4 q5 q7 h (ix2 R (⟨3072 + x.val, by omega⟩ : Fin 8216)) : EReal) = q3 (ix2 R x) := by
  unfold side
  pointwise
  rw [dif_neg (by omega : ¬ 3072 + x.val < 1024),
    dif_neg (by omega : ¬ 3072 + x.val - 1024 < 1024),
    dif_neg (by omega : ¬ 3072 + x.val - 1024 - 1024 < 1024),
    dif_pos (by omega : 3072 + x.val - 1024 - 1024 - 1024 < 1024)]
  exact congrArg (fun y => q3 (ix2 R y)) (Fin.ext (by show 3072 + x.val - 1024 - 1024 - 1024 = x.val; omega))

theorem side4 (R : Fin 8192) (x : Fin 8) : (side q0 q1 q2 q3 q6 q4 q5 q7 h (ix2 R (⟨4096 + x.val, by omega⟩ : Fin 8216)) : EReal) = q4 (ix2 R x) := by
  unfold side
  pointwise
  rw [dif_neg (by omega : ¬ 4096 + x.val < 1024),
    dif_neg (by omega : ¬ 4096 + x.val - 1024 < 1024),
    dif_neg (by omega : ¬ 4096 + x.val - 1024 - 1024 < 1024),
    dif_neg (by omega : ¬ 4096 + x.val - 1024 - 1024 - 1024 < 1024),
    dif_pos (by omega : 4096 + x.val - 1024 - 1024 - 1024 - 1024 < 8)]
  exact congrArg (fun y => q4 (ix2 R y)) (Fin.ext (by show 4096 + x.val - 1024 - 1024 - 1024 - 1024 = x.val; omega))

theorem side5 (R : Fin 8192) (x : Fin 3072) : (side q0 q1 q2 q3 q6 q4 q5 q7 h (ix2 R (⟨4104 + x.val, by omega⟩ : Fin 8216)) : EReal) = q5 (ix2 R x) := by
  unfold side
  pointwise
  rw [dif_neg (by omega : ¬ 4104 + x.val < 1024),
    dif_neg (by omega : ¬ 4104 + x.val - 1024 < 1024),
    dif_neg (by omega : ¬ 4104 + x.val - 1024 - 1024 < 1024),
    dif_neg (by omega : ¬ 4104 + x.val - 1024 - 1024 - 1024 < 1024),
    dif_neg (by omega : ¬ 4104 + x.val - 1024 - 1024 - 1024 - 1024 < 8),
    dif_pos (by omega : 4104 + x.val - 1024 - 1024 - 1024 - 1024 - 8 < 3072)]
  exact congrArg (fun y => q5 (ix2 R y)) (Fin.ext (by show 4104 + x.val - 1024 - 1024 - 1024 - 1024 - 8 = x.val; omega))

theorem side6 (R : Fin 8192) (x : Fin 1024) : (side q0 q1 q2 q3 q6 q4 q5 q7 h (ix2 R (⟨7176 + x.val, by omega⟩ : Fin 8216)) : EReal) = q6 (ix2 R x) := by
  unfold side
  pointwise
  rw [dif_neg (by omega : ¬ 7176 + x.val < 1024),
    dif_neg (by omega : ¬ 7176 + x.val - 1024 < 1024),
    dif_neg (by omega : ¬ 7176 + x.val - 1024 - 1024 < 1024),
    dif_neg (by omega : ¬ 7176 + x.val - 1024 - 1024 - 1024 < 1024),
    dif_neg (by omega : ¬ 7176 + x.val - 1024 - 1024 - 1024 - 1024 < 8),
    dif_neg (by omega : ¬ 7176 + x.val - 1024 - 1024 - 1024 - 1024 - 8 < 3072),
    dif_pos (by omega : 7176 + x.val - 1024 - 1024 - 1024 - 1024 - 8 - 3072 < 1024)]
  exact congrArg (fun y => q6 (ix2 R y)) (Fin.ext (by show 7176 + x.val - 1024 - 1024 - 1024 - 1024 - 8 - 3072 = x.val; omega))

theorem side7 (R : Fin 8192) (x : Fin 16) : (side q0 q1 q2 q3 q6 q4 q5 q7 h (ix2 R (⟨8200 + x.val, by omega⟩ : Fin 8216)) : EReal) = q7 (ix2 R x) := by
  unfold side
  pointwise
  rw [dif_neg (by omega : ¬ 8200 + x.val < 1024),
    dif_neg (by omega : ¬ 8200 + x.val - 1024 < 1024),
    dif_neg (by omega : ¬ 8200 + x.val - 1024 - 1024 < 1024),
    dif_neg (by omega : ¬ 8200 + x.val - 1024 - 1024 - 1024 < 1024),
    dif_neg (by omega : ¬ 8200 + x.val - 1024 - 1024 - 1024 - 1024 < 8),
    dif_neg (by omega : ¬ 8200 + x.val - 1024 - 1024 - 1024 - 1024 - 8 < 3072),
    dif_neg (by omega : ¬ 8200 + x.val - 1024 - 1024 - 1024 - 1024 - 8 - 3072 < 1024)]
  exact congrArg (fun y => q7 (ix2 R y)) (Fin.ext (by show 8200 + x.val - 1024 - 1024 - 1024 - 1024 - 8 - 3072 - 1024 = x.val; omega))

end

/-! ### The two arrays -/

section
variable (m : (ℓ : Loc nD τ sig) → Buf (Elt Ideal) ℓ) (c : Dev nD)

theorem part0 (R : Fin 8192) (j : Fin 2048) :
    part m c R j 0 = ∑ x : Fin 1024, (p0 m c (ix2 R x) : EReal) * pW m c (ix2 j ⟨0 + x.val, by omega⟩) := by
  unfold part
  refine Finset.sum_congr rfl fun x _ => ?_
  have e : (sec m c 0 R x) = p0 m c (ix2 R x) := by
    unfold sec
    simp only [Nat.reduceEqDiff, Nat.reduceLeDiff, if_true, if_false, OfNat.ofNat_ne_zero, one_ne_zero]
    exact b0_at m c R x
  have r : (rowOf 0 x).val = 0 + x.val := by show (1024 * 0 + x.val) % 8192 = _; omega
  rw [e, b7_lo m c _ j (by rw [r]; omega)]
  exact congrArg (fun y => _ * pW m c (ix2 j y)) (Fin.ext r)

theorem part1 (R : Fin 8192) (j : Fin 2048) :
    part m c R j 1 = ∑ x : Fin 1024, (p1 m c (ix2 R x) : EReal) * pW m c (ix2 j ⟨1024 + x.val, by omega⟩) := by
  unfold part
  refine Finset.sum_congr rfl fun x _ => ?_
  have e : (sec m c 1 R x) = p1 m c (ix2 R x) := by
    unfold sec
    simp only [Nat.reduceEqDiff, Nat.reduceLeDiff, if_true, if_false, OfNat.ofNat_ne_zero, one_ne_zero]
    exact b1_at m c R x
  have r : (rowOf 1 x).val = 1024 + x.val := by show (1024 * 1 + x.val) % 8192 = _; omega
  rw [e, b7_lo m c _ j (by rw [r]; omega)]
  exact congrArg (fun y => _ * pW m c (ix2 j y)) (Fin.ext r)

theorem part2 (R : Fin 8192) (j : Fin 2048) :
    part m c R j 2 = ∑ x : Fin 1024, (p2 m c (ix2 R x) : EReal) * pW m c (ix2 j ⟨2048 + x.val, by omega⟩) := by
  unfold part
  refine Finset.sum_congr rfl fun x _ => ?_
  have e : (sec m c 2 R x) = p2 m c (ix2 R x) := by
    unfold sec
    simp only [Nat.reduceEqDiff, Nat.reduceLeDiff, if_true, if_false, OfNat.ofNat_ne_zero, one_ne_zero]
    exact b2_at m c R x
  have r : (rowOf 2 x).val = 2048 + x.val := by show (1024 * 2 + x.val) % 8192 = _; omega
  rw [e, b7_lo m c _ j (by rw [r]; omega)]
  exact congrArg (fun y => _ * pW m c (ix2 j y)) (Fin.ext r)

theorem part3 (R : Fin 8192) (j : Fin 2048) :
    part m c R j 3 = ∑ x : Fin 1024, (p3 m c (ix2 R x) : EReal) * pW m c (ix2 j ⟨3072 + x.val, by omega⟩) := by
  unfold part
  refine Finset.sum_congr rfl fun x _ => ?_
  have e : (sec m c 3 R x) = p3 m c (ix2 R x) := by
    unfold sec
    simp only [Nat.reduceEqDiff, Nat.reduceLeDiff, if_true, if_false, OfNat.ofNat_ne_zero, one_ne_zero]
    exact b3_at m c R x
  have r : (rowOf 3 x).val = 3072 + x.val := by show (1024 * 3 + x.val) % 8192 = _; omega
  rw [e, b7_lo m c _ j (by rw [r]; omega)]
  exact congrArg (fun y => _ * pW m c (ix2 j y)) (Fin.ext r)

theorem part4 (R : Fin 8192) (j : Fin 2048) :
    part m c R j 4 = ∑ x : Fin 1024, (p5 m c (ix2 R ⟨0 + x.val, by omega⟩) : EReal) * pW m c (ix2 j ⟨4104 + (0 + x.val), by omega⟩) := by
  unfold part
  refine Finset.sum_congr rfl fun x _ => ?_
  have e : (sec m c 4 R x) = p5 m c (ix2 R ⟨0 + x.val, by omega⟩) := by
    unfold sec
    simp only [Nat.reduceEqDiff, Nat.reduceLeDiff, if_true, if_false, OfNat.ofNat_ne_zero]
    refine (b4_at m c R _).trans (congrArg (fun y => p5 m c (ix2 R y)) (Fin.ext ?_))
    show (1024 * (4 - 4) + x.val) % 3072 = 0 + x.val
    omega
  have r : (rowOf 4 x).val = 4096 + x.val := by show (1024 * 4 + x.val) % 8192 = _; omega
  rw [e, b7_hi m c _ j (by rw [r]; omega)]
  exact congrArg (fun y => _ * pW m c (ix2 j y)) (Fin.ext (by show 8 + (rowOf 4 x).val = 4104 + (0 + x.val); rw [r]; omega))

theorem part5 (R : Fin 8192) (j : Fin 2048) :
    part m c R j 5 = ∑ x : Fin 1024, (p5 m c (ix2 R ⟨1024 + x.val, by omega⟩) : EReal) * pW m c (ix2 j ⟨4104 + (1024 + x.val), by omega⟩) := by
  unfold part
  refine Finset.sum_congr rfl fun x _ => ?_
  have e : (sec m c 5 R x) = p5 m c (ix2 R ⟨1024 + x.val, by omega⟩) := by
    unfold sec
    simp only [Nat.reduceEqDiff, Nat.reduceLeDiff, if_true, if_false, OfNat.ofNat_ne_zero]
    refine (b4_at m c R _).trans (congrArg (fun y => p5 m c (ix2 R y)) (Fin.ext ?_))
    show (1024 * (5 - 4) + x.val) % 3072 = 1024 + x.val
    omega
  have r : (rowOf 5 x).val = 5120 + x.val := by show (1024 * 5 + x.val) % 8192 = _; omega
  rw [e, b7_hi m c _ j (by rw [r]; omega)]
  exact congrArg (fun y => _ * pW m c (ix2 j y)) (Fin.ext (by show 8 + (rowOf 5 x).val = 4104 + (1024 + x.val); rw [r]; omega))

theorem part6 (R : Fin 8192) (j : Fin 2048) :
    part m c R j 6 = ∑ x : Fin 1024, (p5 m c (ix2 R ⟨2048 + x.val, by omega⟩) : EReal) * pW m c (ix2 j ⟨4104 + (2048 + x.val), by omega⟩) := by
  unfold part
  refine Finset.sum_congr rfl fun x _ => ?_
  have e : (sec m c 6 R x) = p5 m c (ix2 R ⟨2048 + x.val, by omega⟩) := by
    unfold sec
    simp only [Nat.reduceEqDiff, Nat.reduceLeDiff, if_true, if_false, OfNat.ofNat_ne_zero]
    refine (b4_at m c R _).trans (congrArg (fun y => p5 m c (ix2 R y)) (Fin.ext ?_))
    show (1024 * (6 - 4) + x.val) % 3072 = 2048 + x.val
    omega
  have r : (rowOf 6 x).val = 6144 + x.val := by show (1024 * 6 + x.val) % 8192 = _; omega
  rw [e, b7_hi m c _ j (by rw [r]; omega)]
  exact congrArg (fun y => _ * pW m c (ix2 j y)) (Fin.ext (by show 8 + (rowOf 6 x).val = 4104 + (2048 + x.val); rw [r]; omega))

theorem part7 (R : Fin 8192) (j : Fin 2048) :
    part m c R j 7 = ∑ x : Fin 1024, (p6 m c (ix2 R x) : EReal) * pW m c (ix2 j ⟨7176 + x.val, by omega⟩) := by
  unfold part
  refine Finset.sum_congr rfl fun x _ => ?_
  have e : (sec m c 7 R x) = p6 m c (ix2 R x) := by
    unfold sec
    simp only [Nat.reduceEqDiff, Nat.reduceLeDiff, if_true, if_false, OfNat.ofNat_ne_zero]
    exact b5_at m c R x
  have r : (rowOf 7 x).val = 7168 + x.val := by show (1024 * 7 + x.val) % 8192 = _; omega
  rw [e, b7_hi m c _ j (by rw [r]; omega)]
  exact congrArg (fun y => _ * pW m c (ix2 j y)) (Fin.ext (by show 8 + (rowOf 7 x).val = 7176 + x.val; rw [r]; omega))

theorem narrow_eq (R : Fin 8192) (j : Fin 2048) :
    narrow m c R j = (∑ x : Fin 8, (p4 m c (ix2 R x) : EReal) * pW m c (ix2 j ⟨4096 + x.val, by omega⟩))
      + ∑ x : Fin 16, (p7 m c (ix2 R x) : EReal) * pW m c (ix2 j ⟨8200 + x.val, by omega⟩) := by
  unfold narrow
  refine (split128 (fun l => (b6 m c (ix2 R l) : EReal) * b8 m c (ix2 l j))).trans ?_
  have z : ∑ x : Fin 104, (b6 m c (ix2 R ⟨24 + x.val, by omega⟩) : EReal) * b8 m c (ix2 ⟨24 + x.val, by omega⟩ j) = 0 :=
    Finset.sum_eq_zero fun x _ => by rw [b6_hi, zero_mul]
  refine (congrArg (_ + ·) z).trans ((add_zero _).trans ?_)
  refine congrArg₂ (· + ·) (Finset.sum_congr rfl fun x _ => ?_) (Finset.sum_congr rfl fun x _ => ?_)
  · rw [b6_lo, b8_lo]
  · rw [b6_mid, b8_mid]

/-- The kernel's sum, by the reference's columns. -/
theorem G_eq (R : Fin 8192) (j : Fin 2048)
    (h : Shape.Concatenates [S8192x1024, S8192x1024, S8192x1024, S8192x1024, S8192x8, S8192x3072, S8192x1024, S8192x16] Cert.Reference2Ideal.S8192x8216 1) :
    G m c R j = ∑ x : Fin 8216, (side (p0 m c) (p1 m c) (p2 m c) (p3 m c) (p6 m c) (p4 m c) (p5 m c) (p7 m c) h (ix2 R x) : EReal) * pW m c (ix2 j x) := by
  rw [split8216]
  simp only [side0, side1, side2, side3, side4, side5, side6, side7]
  rw [split3 (fun x : Fin 3072 => (p5 m c (ix2 R x) : EReal) * pW m c (ix2 j ⟨4104 + x.val, by omega⟩))]
  dsimp only
  unfold G
  simp only [Finset.sum_range_succ, Finset.sum_range_zero, zero_add]
  rw [part0, part1, part2, part3, part4, part5, part6, part7, narrow_eq]
  ac_rfl

end

end Cert.Kernel2Ideal.Bw

namespace Cert.Proof

open Cert.Kernel2Ideal.Bw in
theorem values2 : Cert.algebraic_Kernel2Ideal_Reference2Ideal := by
  intro m g m' g' _ hagree
  refine ⟨fun c => Garr m c, (θ_run _ _ _).mono (fun r h c => ⟨(h c).1.trans (array m c), (h c).2⟩) (Cert.Kernel2Ideal.Value.run_blocks m g), ?_⟩
  refine (θ_run _ _ _).mono (fun r h c => ⟨(h c).1.trans ?_, (h c).2⟩) (Cert.Reference2Ideal.Value.run (F := Ideal) m' g')
  obtain ⟨_, a1, a2, a3, a4, a5, a6, a7, a8, a9⟩ := hagree c
  rw [a1, a2, a3, a4, a5, a6, a7, a8, a9]
  funext k
  obtain ⟨i, j, rfl⟩ : ∃ (i : Fin 8192) (j : Fin 2048), k = ix2 i j := ⟨k 0, k 1, eq_ix2 k⟩
  exact (ref_at _ _ i j).trans (G_eq m c i j _).symm

end Cert.Proof

end
-- ==== Proof.Dw3.lean ====
/- The weight gradient of one projection: what the kernel's accumulator holds after each point, and the array that it
   leaves, as sums of products over the rows. -/
module

public import proofs.«01_k».proof.Defs
public import proofs.«01_k».proof.Proof.Gen.Kernel3Ideal.Value
public import proofs.«01_k».proof.Proof.Gen.Reference3Ideal.Run
public import Idealize.ShloMosaic.PureOps.Ideal
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

open Idealize.ShloMosaic Idealize.ShloMosaic.TcCoe Idealize.SL.Sem

namespace Cert.Kernel3Ideal.Dw

open Cert.Kernel3Ideal Cert.Kernel3Ideal.Gen

/-! ### The cases -/

theorem hz : (![0, 0] : Fin 2 → Nat) = fun _ => 0 := funext fun a => by fin_cases a <;> rfl

theorem pay1_at (i : S1024x2048.Idx) : (k0_pay1 (F := Ideal) i : EReal) = 0 := by
  unfold k0_pay1
  pointwise

theorem pay2_at (a : Vec Ideal S1024x2048 .f32) (p : Vec Ideal S2048x1024 .bf16) (x : Vec Ideal S2048x2048 .bf16)
    (i : Fin 1024) (j : Fin 2048) :
    (k0_pay2 a p x (ix2 i j) : EReal) = a (ix2 i j) + ∑ r : Fin 2048, (p (ix2 r i) : EReal) * x (ix2 r j) := by
  unfold k0_pay2
  pointwise

theorem pay3_at (a : Vec Ideal S1024x2048 .f32) (i : S1024x2048.Idx) : (k0_pay3 a i : EReal) = a i := rfl

section
variable (c : Dev nD) (i : grid0.Coords) (a3 : Memref sig .tc .vmem S2048x1024 .bf16) (h3 : a3.IsWhole)
  (a4 : Memref sig .tc .vmem S2048x2048 .bf16) (h4 : a4.IsWhole) (a5 : Memref sig .tc .vmem S1024x2048 .bf16) (h5 : a5.IsWhole)
  (a6 : Memref sig .tc .vmem S1024x2048 .f32) (h6 : a6.IsWhole)

/-- The first point of a block: the accumulator is cleared, then added to. -/
theorem first (hc0 : cond0_0 i) (hc1 : ¬cond0_1 i) (p : Vec Ideal S2048x1024 .bf16) (x : Vec Ideal S2048x2048 .bf16) :
    sout0_A_0 (F := Ideal) c i a3 h3 a4 h4 a5 h5 a6 h6 hc0 hc1 p x = k0_pay2 k0_pay1 p x := by
  unfold sout0_A_0
  rw [View.read_writes_eq_canon _ _ _ (scover0_A_0 c i a3 h3 a4 h4 a5 h5 a6 h6 hc0 hc1 p x)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S2048x1024) hz, View.ld_unit_zero (S := S2048x2048) hz]

/-- A later point: the accumulator is added to. -/
theorem next (hc0 : ¬cond0_0 i) (hc1 : ¬cond0_1 i) (p : Vec Ideal S2048x1024 .bf16) (x : Vec Ideal S2048x2048 .bf16) (s : Vec Ideal S1024x2048 .f32) :
    sout0_B_0 (F := Ideal) c i a3 h3 a4 h4 a5 h5 a6 h6 hc0 hc1 p x s = k0_pay2 s p x := by
  unfold sout0_B_0
  rw [View.read_writes_eq_canon _ _ _ (scover0_B_0 c i a3 h3 a4 h4 a5 h5 a6 h6 hc0 hc1 p x s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x2048) hz, View.ld_unit_zero (S := S1024x2048) hz]

/-- The last point of a block: the accumulator is added to. -/
theorem last (hc0 : ¬cond0_0 i) (hc1 : cond0_1 i) (p : Vec Ideal S2048x1024 .bf16) (x : Vec Ideal S2048x2048 .bf16) (s : Vec Ideal S1024x2048 .f32) :
    sout0_C_0 (F := Ideal) c i a3 h3 a4 h4 a5 h5 a6 h6 hc0 hc1 p x s = k0_pay2 s p x := by
  unfold sout0_C_0
  rw [View.read_writes_eq_canon _ _ _ (scover0_C_0 c i a3 h3 a4 h4 a5 h5 a6 h6 hc0 hc1 p x s)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x2048) hz, View.ld_unit_zero (S := S1024x2048) hz]

/-- The last point of a block: the result is the accumulator. -/
theorem wrote (hc0 : ¬cond0_0 i) (hc1 : cond0_1 i) (p : Vec Ideal S2048x1024 .bf16) (x : Vec Ideal S2048x2048 .bf16) (s : Vec Ideal S1024x2048 .f32) :
    out0_C_2 (F := Ideal) c i a3 h3 a4 h4 a5 h5 a6 h6 hc0 hc1 p x s = k0_pay3 (k0_pay2 s p x) := by
  unfold out0_C_2
  rw [View.read_writes_eq_canon _ _ _ (cover0_C_2 c i a3 h3 a4 h4 a5 h5 a6 h6 hc0 hc1 p x s)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S2048x1024) hz, View.ld_unit_zero (S := S2048x2048) hz, View.ld_unit_zero (S := S1024x2048) hz]

end

/-! ### The blocks -/

/-- Row `r` of the `n`-th block of 2048 rows. -/
abbrev rowOf (n : ℕ) (r : Fin 2048) : Fin 8192 := ⟨(2048 * n + r.val) % 8192, Nat.mod_lt _ (by decide)⟩
/-- Column `i` of the `n`-th block of 1024 columns. -/
abbrev colOf (n : ℕ) (i : Fin 1024) : Fin 1024 := ⟨(1024 * n + i.val) % 1024, Nat.mod_lt _ (by decide)⟩

/-- Four blocks of 2048 rows are all the rows. -/
theorem sum_rows (f : Fin 8192 → EReal) :
    ∑ n ∈ Finset.range 4, ∑ r : Fin 2048, f (rowOf n r) = ∑ R : Fin 8192, f R := by
  rw [Finset.sum_range (f := fun n => ∑ r : Fin 2048, f (rowOf n r)), ← Fintype.sum_prod_type']
  refine Fintype.sum_equiv (finProdFinEquiv (m := 4) (n := 2048)) _ _ (fun x => ?_)
  refine congrArg f (Fin.ext ?_)
  have := x.1.isLt
  have := x.2.isLt
  show (2048 * x.1.val + x.2.val) % 8192 = x.2.val + 2048 * x.1.val
  omega

section
variable (m : (ℓ : Loc nD τ sig) → Buf (Elt Ideal) ℓ) (c : Dev nD)

@[irreducible] def aP : Vec Ideal S8192x1024 .bf16 := V m c (Pipeline.arrRef spec0 0)
@[irreducible] def aX : Vec Ideal S8192x2048 .bf16 := V m c (Pipeline.arrRef spec0 1)

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem cut0 (A : Vec Ideal S8192x1024 .bf16) (t : Fin cfg0.N) (r : Fin 2048) (i : Fin 1024) :
    (((cfg0.win 0).blk t).view.read (Elt Ideal) A : Vec Ideal S2048x1024 .bf16) (ix2 r i) = A (ix2 (rowOf (t.val % 4) r) (colOf (t.val / 4) i)) := by
  obtain ⟨e0, e1⟩ := idx0 t
  have hN := lt_of_lt_of_eq t.isLt N_0
  refine congrArg A (funext fun a => Fin.ext ?_)
  match a with
  | 0 => show win0_0.index t (0 : Fin 2) * 2048 + 1 * r.val = (2048 * (t.val % 4) + r.val) % 8192; rw [e0]; omega
  | 1 => show win0_0.index t (1 : Fin 2) * 1024 + 1 * i.val = (1024 * (t.val / 4) + i.val) % 1024; rw [e1]; omega

theorem blk0 (t : Fin cfg0.N) (r : Fin 2048) (i : Fin 1024) :
    (iblk m c 0 t : Vec Ideal S2048x1024 .bf16) (ix2 r i) = aP m c (ix2 (rowOf (t.val % 4) r) (colOf (t.val / 4) i)) := by
  unfold aP iblk
  exact cut0 _ t r i

theorem cut1 (A : Vec Ideal S8192x2048 .bf16) (t : Fin cfg0.N) (r : Fin 2048) (j : Fin 2048) :
    (((cfg0.win 1).blk t).view.read (Elt Ideal) A : Vec Ideal S2048x2048 .bf16) (ix2 r j) = A (ix2 (rowOf (t.val % 4) r) j) := by
  obtain ⟨e0, e1⟩ := idx1 t
  refine congrArg A (funext fun a => Fin.ext ?_)
  match a with
  | 0 => show win0_1.index t (0 : Fin 2) * 2048 + 1 * r.val = (2048 * (t.val % 4) + r.val) % 8192; rw [e0]; omega
  | 1 => show win0_1.index t (1 : Fin 2) * 2048 + 1 * j.val = j.val; rw [e1]; omega

theorem blk1 (t : Fin cfg0.N) (r : Fin 2048) (j : Fin 2048) :
    (iblk m c 1 t : Vec Ideal S2048x2048 .bf16) (ix2 r j) = aX m c (ix2 (rowOf (t.val % 4) r) j) := by
  unfold aX iblk
  exact cut1 _ t r j

/-! ### The accumulator -/

/-- The products of one block of rows. -/
def part (i : Fin 1024) (j : Fin 2048) (q n : ℕ) : EReal :=
  ∑ r : Fin 2048, (aP m c (ix2 (rowOf n r) (colOf q i)) : EReal) * aX m c (ix2 (rowOf n r) j)

theorem adds (s : Vec Ideal S1024x2048 .f32) (t : Fin cfg0.N) (i : Fin 1024) (j : Fin 2048) :
    (k0_pay2 s (iblk m c 0 t) (iblk m c 1 t) (ix2 i j) : EReal) = s (ix2 i j) + part m c i j (t.val / 4) (t.val % 4) := by
  rw [pay2_at s (iblk m c 0 t) (iblk m c 1 t)]
  unfold part
  refine congrArg (_ + ·) (Finset.sum_congr rfl fun r _ => ?_)
  rw [blk0, blk1]

theorem at_first (t : Fin cfg0.N) (h0 : t.val % 4 = 0) (i : Fin 1024) (j : Fin 2048) :
    ((outsAt0 m c t.val t.isLt).2 (ix2 i j) : EReal) = part m c i j (t.val / 4) (t.val % 4) := by
  have h1 : ¬ t.val % 4 = 3 := by omega
  rw [outsAt0_A m c t h0 h1]
  dsimp only
  rw [first, adds, pay1_at, zero_add]

theorem at_next (t : Fin cfg0.N) (h0 : ¬ t.val % 4 = 0) (i : Fin 1024) (j : Fin 2048) :
    ((outsAt0 m c t.val t.isLt).2 (ix2 i j) : EReal)
      = (outsAt0 m c (t.val - 1) (Nat.lt_of_le_of_lt (Nat.sub_le _ _) t.isLt)).2 (ix2 i j) + part m c i j (t.val / 4) (t.val % 4) := by
  by_cases h1 : t.val % 4 = 3
  · rw [outsAt0_C m c t h0 h1]
    dsimp only
    rw [last, adds]
  · rw [outsAt0_B m c t h0 h1]
    dsimp only
    rw [next, adds]

/-- After a point the accumulator holds the products of the block's rows so far. -/
theorem held (i : Fin 1024) (j : Fin 2048) : ∀ (n : ℕ) (h : n < cfg0.N),
    ((outsAt0 m c n h).2 (ix2 i j) : EReal) = ∑ k ∈ Finset.range (n % 4 + 1), part m c i j (n / 4) k := by
  intro n
  induction n with
  | zero => intro h; rw [at_first m c ⟨0, h⟩ rfl]; simp
  | succ n ih =>
    intro h
    by_cases h0 : (n + 1) % 4 = 0
    · rw [at_first m c ⟨n + 1, h⟩ h0]
      simp [h0]
    · rw [at_next m c ⟨n + 1, h⟩ h0]
      have e1 : (n + 1) % 4 = n % 4 + 1 := by omega
      have e2 : (n + 1) / 4 = n / 4 := by omega
      have ih' := ih (Nat.lt_of_succ_lt h)
      rw [Finset.sum_range_succ, e1, e2, ← ih']
      rfl

/-- The last point of a block writes all its products. -/
theorem at_wrote (t : Fin cfg0.N) (h1 : t.val % 4 = 3) (i : Fin 1024) (j : Fin 2048) :
    ((outsAt0 m c t.val t.isLt).1 (ix2 i j) : EReal) = ∑ R : Fin 8192, (aP m c (ix2 R (colOf (t.val / 4) i)) : EReal) * aX m c (ix2 R j) := by
  have h0 : ¬ t.val % 4 = 0 := by omega
  have e := held m c i j t.val t.isLt
  rw [h1] at e
  refine Eq.trans ?_ (e.trans (sum_rows fun R => (aP m c (ix2 R (colOf (t.val / 4) i)) : EReal) * aX m c (ix2 R j)))
  rw [outsAt0_C m c t h0 h1]
  dsimp only
  rw [wrote, last]
  exact pay3_at _ _

theorem array (i : Fin 1024) (j : Fin 2048) :
    (Value.G2 m c (ix2 i j) : EReal) = ∑ R : Fin 8192, (aP m c (ix2 R i) : EReal) * aX m c (ix2 R j) := by
  have hq : 4 * (i.val / 1024) + 3 < cfg0.N := by rw [show cfg0.N = 4 from N_0]; omega
  have e := at_wrote m c ⟨4 * (i.val / 1024) + 3, hq⟩ (by show (4 * (i.val / 1024) + 3) % 4 = 3; omega) ⟨i.val % 1024, Nat.mod_lt _ (by decide)⟩ j
  have hc : colOf ((4 * (i.val / 1024) + 3) / 4) ⟨i.val % 1024, Nat.mod_lt _ (by decide)⟩ = i :=
    Fin.ext (by show (1024 * ((4 * (i.val / 1024) + 3) / 4) + i.val % 1024) % 1024 = i.val; omega)
  dsimp only at e
  rw [hc] at e
  refine Eq.trans ?_ e
  have hp : Value.pt2Of (ix2 i j) = 4 * (i.val / 1024) + 3 := by
    show 4 * (1 * (i.val / 1024 - 0) + 1 * (j.val / 2048 - 0)) + 3 = _
    omega
  have hl : Value.loc2Of (ix2 i j) = ix2 ⟨i.val % 1024, Nat.mod_lt _ (by decide)⟩ j := by
    funext a
    apply Fin.ext
    match a with
    | 0 => rfl
    | 1 => show j.val % 2048 = j.val; omega
  unfold Value.G2
  rw [dif_pos (by rw [hp]; exact hq), hl, Value.outsAt0_sweep m c (4 * (i.val / 1024) + 3) hq, Value.fold0_congr m c _ _ _ _ hp]

/-! ### The arguments -/

theorem aP_eq (R : Fin 8192) (i : Fin 1024) : (aP m c (ix2 R i) : EReal) = (m ((c.tc : Thread nD τ).loc main_arg2) : FVec Ideal S8192x1024 .f32) (ix2 R i) := by
  unfold aP
  show V m c main_v0 _ = _
  unfold V
  after_reads_at

theorem aX_eq (R : Fin 8192) (j : Fin 2048) : (aX m c (ix2 R j) : EReal) = (m ((c.tc : Thread nD τ).loc main_arg0) : FVec Ideal S8192x2048 .f32) (ix2 R j) := by
  unfold aX
  show V m c main_v1 _ = _
  unfold V
  after_reads_at

end

/-! ### The reference -/

theorem ref_at (P : FVec Ideal S8192x1024 .f32) (X : FVec Ideal S8192x2048 .f32) (i : Fin 1024) (j : Fin 2048) :
    (Host.dotGeneral Cert.Reference3Ideal.dot_S8192x1024_S8192x2048_S1024x2048_0_0_1_1_n_n none P X (ix2 i j) : EReal)
      = ∑ R : Fin 8192, (P (ix2 R i) : EReal) * X (ix2 R j) := by
  pointwise

/-- The reference's result, without its two transpositions. -/
theorem ref_eq (Y : FVec Ideal S1024x2048 .f32) (h1 : S1024x2048.Transposes [1, 0] S2048x1024) (h2 : S2048x1024.Transposes [1, 0] S1024x2048)
    (h3 : FTy.bits .bf16 < FTy.bits .f32) (i : Fin 1024) (j : Fin 2048) :
    (truncf (F := Ideal) .bf16 (transpose S1024x2048 [1, 0] (transpose S2048x1024 [1, 0] Y h1) h2) h3 (ix2 i j) : EReal) = Y (ix2 i j) := by
  pointwise

end Cert.Kernel3Ideal.Dw

namespace Cert.Proof

open Cert.Kernel3Ideal.Dw in
theorem values3 : Cert.algebraic_Kernel3Ideal_Reference3Ideal := by
  intro m g m' g' _ hagree
  refine ⟨Cert.Kernel3Ideal.Value.G2 m, Cert.Kernel3Ideal.Value.run m g, ?_⟩
  refine (θ_run _ _ _).mono (fun r h c => ⟨(h c).1.trans ?_, (h c).2⟩) (Cert.Reference3Ideal.Value.run (F := Ideal) m' g')
  funext k
  obtain ⟨i, j, rfl⟩ : ∃ (i : Fin 1024) (j : Fin 2048), k = ix2 i j := ⟨k 0, k 1, eq_ix2 k⟩
  refine (ref_eq _ _ _ _ i j).trans ((ref_at _ _ i j).trans (Eq.trans ?_ (array m c i j).symm))
  refine Finset.sum_congr rfl fun R _ => ?_
  rw [aP_eq, aX_eq, (hagree c).2.2, (hagree c).1]

end Cert.Proof

end
-- ==== Proof.Dw4.lean ====
/- The weight gradient of one projection: what the kernel's accumulator holds after each point, and the array that it
   leaves, as sums of products over the rows. -/
module

public import proofs.«01_k».proof.Defs
public import proofs.«01_k».proof.Proof.Gen.Kernel4Ideal.Value
public import proofs.«01_k».proof.Proof.Gen.Reference4Ideal.Run
public import Idealize.ShloMosaic.PureOps.Ideal
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

open Idealize.ShloMosaic Idealize.ShloMosaic.TcCoe Idealize.SL.Sem

namespace Cert.Kernel4Ideal.Dw

open Cert.Kernel4Ideal Cert.Kernel4Ideal.Gen

/-! ### The cases -/

theorem hz : (![0, 0] : Fin 2 → Nat) = fun _ => 0 := funext fun a => by fin_cases a <;> rfl

theorem pay1_at (i : S1024x2048.Idx) : (k0_pay1 (F := Ideal) i : EReal) = 0 := by
  unfold k0_pay1
  pointwise

theorem pay2_at (a : Vec Ideal S1024x2048 .f32) (p : Vec Ideal S2048x1024 .bf16) (x : Vec Ideal S2048x2048 .bf16)
    (i : Fin 1024) (j : Fin 2048) :
    (k0_pay2 a p x (ix2 i j) : EReal) = a (ix2 i j) + ∑ r : Fin 2048, (p (ix2 r i) : EReal) * x (ix2 r j) := by
  unfold k0_pay2
  pointwise

theorem pay3_at (a : Vec Ideal S1024x2048 .f32) (i : S1024x2048.Idx) : (k0_pay3 a i : EReal) = a i := rfl

section
variable (c : Dev nD) (i : grid0.Coords) (a3 : Memref sig .tc .vmem S2048x1024 .bf16) (h3 : a3.IsWhole)
  (a4 : Memref sig .tc .vmem S2048x2048 .bf16) (h4 : a4.IsWhole) (a5 : Memref sig .tc .vmem S1024x2048 .bf16) (h5 : a5.IsWhole)
  (a6 : Memref sig .tc .vmem S1024x2048 .f32) (h6 : a6.IsWhole)

/-- The first point of a block: the accumulator is cleared, then added to. -/
theorem first (hc0 : cond0_0 i) (hc1 : ¬cond0_1 i) (p : Vec Ideal S2048x1024 .bf16) (x : Vec Ideal S2048x2048 .bf16) :
    sout0_A_0 (F := Ideal) c i a3 h3 a4 h4 a5 h5 a6 h6 hc0 hc1 p x = k0_pay2 k0_pay1 p x := by
  unfold sout0_A_0
  rw [View.read_writes_eq_canon _ _ _ (scover0_A_0 c i a3 h3 a4 h4 a5 h5 a6 h6 hc0 hc1 p x)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S2048x1024) hz, View.ld_unit_zero (S := S2048x2048) hz]

/-- A later point: the accumulator is added to. -/
theorem next (hc0 : ¬cond0_0 i) (hc1 : ¬cond0_1 i) (p : Vec Ideal S2048x1024 .bf16) (x : Vec Ideal S2048x2048 .bf16) (s : Vec Ideal S1024x2048 .f32) :
    sout0_B_0 (F := Ideal) c i a3 h3 a4 h4 a5 h5 a6 h6 hc0 hc1 p x s = k0_pay2 s p x := by
  unfold sout0_B_0
  rw [View.read_writes_eq_canon _ _ _ (scover0_B_0 c i a3 h3 a4 h4 a5 h5 a6 h6 hc0 hc1 p x s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x2048) hz, View.ld_unit_zero (S := S1024x2048) hz]

/-- The last point of a block: the accumulator is added to. -/
theorem last (hc0 : ¬cond0_0 i) (hc1 : cond0_1 i) (p : Vec Ideal S2048x1024 .bf16) (x : Vec Ideal S2048x2048 .bf16) (s : Vec Ideal S1024x2048 .f32) :
    sout0_C_0 (F := Ideal) c i a3 h3 a4 h4 a5 h5 a6 h6 hc0 hc1 p x s = k0_pay2 s p x := by
  unfold sout0_C_0
  rw [View.read_writes_eq_canon _ _ _ (scover0_C_0 c i a3 h3 a4 h4 a5 h5 a6 h6 hc0 hc1 p x s)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x2048) hz, View.ld_unit_zero (S := S1024x2048) hz]

/-- The last point of a block: the result is the accumulator. -/
theorem wrote (hc0 : ¬cond0_0 i) (hc1 : cond0_1 i) (p : Vec Ideal S2048x1024 .bf16) (x : Vec Ideal S2048x2048 .bf16) (s : Vec Ideal S1024x2048 .f32) :
    out0_C_2 (F := Ideal) c i a3 h3 a4 h4 a5 h5 a6 h6 hc0 hc1 p x s = k0_pay3 (k0_pay2 s p x) := by
  unfold out0_C_2
  rw [View.read_writes_eq_canon _ _ _ (cover0_C_2 c i a3 h3 a4 h4 a5 h5 a6 h6 hc0 hc1 p x s)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S2048x1024) hz, View.ld_unit_zero (S := S2048x2048) hz, View.ld_unit_zero (S := S1024x2048) hz]

end

/-! ### The blocks -/

/-- Row `r` of the `n`-th block of 2048 rows. -/
abbrev rowOf (n : ℕ) (r : Fin 2048) : Fin 8192 := ⟨(2048 * n + r.val) % 8192, Nat.mod_lt _ (by decide)⟩
/-- Column `i` of the `n`-th block of 1024 columns. -/
abbrev colOf (n : ℕ) (i : Fin 1024) : Fin 3072 := ⟨(1024 * n + i.val) % 3072, Nat.mod_lt _ (by decide)⟩

/-- Four blocks of 2048 rows are all the rows. -/
theorem sum_rows (f : Fin 8192 → EReal) :
    ∑ n ∈ Finset.range 4, ∑ r : Fin 2048, f (rowOf n r) = ∑ R : Fin 8192, f R := by
  rw [Finset.sum_range (f := fun n => ∑ r : Fin 2048, f (rowOf n r)), ← Fintype.sum_prod_type']
  refine Fintype.sum_equiv (finProdFinEquiv (m := 4) (n := 2048)) _ _ (fun x => ?_)
  refine congrArg f (Fin.ext ?_)
  have := x.1.isLt
  have := x.2.isLt
  show (2048 * x.1.val + x.2.val) % 8192 = x.2.val + 2048 * x.1.val
  omega

section
variable (m : (ℓ : Loc nD τ sig) → Buf (Elt Ideal) ℓ) (c : Dev nD)

@[irreducible] def aP : Vec Ideal S8192x3072 .bf16 := V m c (Pipeline.arrRef spec0 0)
@[irreducible] def aX : Vec Ideal S8192x2048 .bf16 := V m c (Pipeline.arrRef spec0 1)

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem cut0 (A : Vec Ideal S8192x3072 .bf16) (t : Fin cfg0.N) (r : Fin 2048) (i : Fin 1024) :
    (((cfg0.win 0).blk t).view.read (Elt Ideal) A : Vec Ideal S2048x1024 .bf16) (ix2 r i) = A (ix2 (rowOf (t.val % 4) r) (colOf (t.val / 4) i)) := by
  obtain ⟨e0, e1⟩ := idx0 t
  have hN := lt_of_lt_of_eq t.isLt N_0
  refine congrArg A (funext fun a => Fin.ext ?_)
  match a with
  | 0 => show win0_0.index t (0 : Fin 2) * 2048 + 1 * r.val = (2048 * (t.val % 4) + r.val) % 8192; rw [e0]; omega
  | 1 => show win0_0.index t (1 : Fin 2) * 1024 + 1 * i.val = (1024 * (t.val / 4) + i.val) % 3072; rw [e1]; omega

theorem blk0 (t : Fin cfg0.N) (r : Fin 2048) (i : Fin 1024) :
    (iblk m c 0 t : Vec Ideal S2048x1024 .bf16) (ix2 r i) = aP m c (ix2 (rowOf (t.val % 4) r) (colOf (t.val / 4) i)) := by
  unfold aP iblk
  exact cut0 _ t r i

theorem cut1 (A : Vec Ideal S8192x2048 .bf16) (t : Fin cfg0.N) (r : Fin 2048) (j : Fin 2048) :
    (((cfg0.win 1).blk t).view.read (Elt Ideal) A : Vec Ideal S2048x2048 .bf16) (ix2 r j) = A (ix2 (rowOf (t.val % 4) r) j) := by
  obtain ⟨e0, e1⟩ := idx1 t
  refine congrArg A (funext fun a => Fin.ext ?_)
  match a with
  | 0 => show win0_1.index t (0 : Fin 2) * 2048 + 1 * r.val = (2048 * (t.val % 4) + r.val) % 8192; rw [e0]; omega
  | 1 => show win0_1.index t (1 : Fin 2) * 2048 + 1 * j.val = j.val; rw [e1]; omega

theorem blk1 (t : Fin cfg0.N) (r : Fin 2048) (j : Fin 2048) :
    (iblk m c 1 t : Vec Ideal S2048x2048 .bf16) (ix2 r j) = aX m c (ix2 (rowOf (t.val % 4) r) j) := by
  unfold aX iblk
  exact cut1 _ t r j

/-! ### The accumulator -/

/-- The products of one block of rows. -/
def part (i : Fin 1024) (j : Fin 2048) (q n : ℕ) : EReal :=
  ∑ r : Fin 2048, (aP m c (ix2 (rowOf n r) (colOf q i)) : EReal) * aX m c (ix2 (rowOf n r) j)

theorem adds (s : Vec Ideal S1024x2048 .f32) (t : Fin cfg0.N) (i : Fin 1024) (j : Fin 2048) :
    (k0_pay2 s (iblk m c 0 t) (iblk m c 1 t) (ix2 i j) : EReal) = s (ix2 i j) + part m c i j (t.val / 4) (t.val % 4) := by
  rw [pay2_at s (iblk m c 0 t) (iblk m c 1 t)]
  unfold part
  refine congrArg (_ + ·) (Finset.sum_congr rfl fun r _ => ?_)
  rw [blk0, blk1]

theorem at_first (t : Fin cfg0.N) (h0 : t.val % 4 = 0) (i : Fin 1024) (j : Fin 2048) :
    ((outsAt0 m c t.val t.isLt).2 (ix2 i j) : EReal) = part m c i j (t.val / 4) (t.val % 4) := by
  have h1 : ¬ t.val % 4 = 3 := by omega
  rw [outsAt0_A m c t h0 h1]
  dsimp only
  rw [first, adds, pay1_at, zero_add]

theorem at_next (t : Fin cfg0.N) (h0 : ¬ t.val % 4 = 0) (i : Fin 1024) (j : Fin 2048) :
    ((outsAt0 m c t.val t.isLt).2 (ix2 i j) : EReal)
      = (outsAt0 m c (t.val - 1) (Nat.lt_of_le_of_lt (Nat.sub_le _ _) t.isLt)).2 (ix2 i j) + part m c i j (t.val / 4) (t.val % 4) := by
  by_cases h1 : t.val % 4 = 3
  · rw [outsAt0_C m c t h0 h1]
    dsimp only
    rw [last, adds]
  · rw [outsAt0_B m c t h0 h1]
    dsimp only
    rw [next, adds]

/-- After a point the accumulator holds the products of the block's rows so far. -/
theorem held (i : Fin 1024) (j : Fin 2048) : ∀ (n : ℕ) (h : n < cfg0.N),
    ((outsAt0 m c n h).2 (ix2 i j) : EReal) = ∑ k ∈ Finset.range (n % 4 + 1), part m c i j (n / 4) k := by
  intro n
  induction n with
  | zero => intro h; rw [at_first m c ⟨0, h⟩ rfl]; simp
  | succ n ih =>
    intro h
    by_cases h0 : (n + 1) % 4 = 0
    · rw [at_first m c ⟨n + 1, h⟩ h0]
      simp [h0]
    · rw [at_next m c ⟨n + 1, h⟩ h0]
      have e1 : (n + 1) % 4 = n % 4 + 1 := by omega
      have e2 : (n + 1) / 4 = n / 4 := by omega
      have ih' := ih (Nat.lt_of_succ_lt h)
      rw [Finset.sum_range_succ, e1, e2, ← ih']
      rfl

/-- The last point of a block writes all its products. -/
theorem at_wrote (t : Fin cfg0.N) (h1 : t.val % 4 = 3) (i : Fin 1024) (j : Fin 2048) :
    ((outsAt0 m c t.val t.isLt).1 (ix2 i j) : EReal) = ∑ R : Fin 8192, (aP m c (ix2 R (colOf (t.val / 4) i)) : EReal) * aX m c (ix2 R j) := by
  have h0 : ¬ t.val % 4 = 0 := by omega
  have e := held m c i j t.val t.isLt
  rw [h1] at e
  refine Eq.trans ?_ (e.trans (sum_rows fun R => (aP m c (ix2 R (colOf (t.val / 4) i)) : EReal) * aX m c (ix2 R j)))
  rw [outsAt0_C m c t h0 h1]
  dsimp only
  rw [wrote, last]
  exact pay3_at _ _

theorem array (i : Fin 3072) (j : Fin 2048) :
    (Value.G2 m c (ix2 i j) : EReal) = ∑ R : Fin 8192, (aP m c (ix2 R i) : EReal) * aX m c (ix2 R j) := by
  have hq : 4 * (i.val / 1024) + 3 < cfg0.N := by rw [show cfg0.N = 12 from N_0]; omega
  have e := at_wrote m c ⟨4 * (i.val / 1024) + 3, hq⟩ (by show (4 * (i.val / 1024) + 3) % 4 = 3; omega) ⟨i.val % 1024, Nat.mod_lt _ (by decide)⟩ j
  have hc : colOf ((4 * (i.val / 1024) + 3) / 4) ⟨i.val % 1024, Nat.mod_lt _ (by decide)⟩ = i :=
    Fin.ext (by show (1024 * ((4 * (i.val / 1024) + 3) / 4) + i.val % 1024) % 3072 = i.val; omega)
  dsimp only at e
  rw [hc] at e
  refine Eq.trans ?_ e
  have hp : Value.pt2Of (ix2 i j) = 4 * (i.val / 1024) + 3 := by
    show 4 * (1 * (i.val / 1024 - 0) + 1 * (j.val / 2048 - 0)) + 3 = _
    omega
  have hl : Value.loc2Of (ix2 i j) = ix2 ⟨i.val % 1024, Nat.mod_lt _ (by decide)⟩ j := by
    funext a
    apply Fin.ext
    match a with
    | 0 => rfl
    | 1 => show j.val % 2048 = j.val; omega
  unfold Value.G2
  rw [dif_pos (by rw [hp]; exact hq), hl, Value.outsAt0_sweep m c (4 * (i.val / 1024) + 3) hq, Value.fold0_congr m c _ _ _ _ hp]

/-! ### The arguments -/

theorem aP_eq (R : Fin 8192) (i : Fin 3072) : (aP m c (ix2 R i) : EReal) = (m ((c.tc : Thread nD τ).loc main_arg2) : FVec Ideal S8192x3072 .f32) (ix2 R i) := by
  unfold aP
  show V m c main_v0 _ = _
  unfold V
  after_reads_at

theorem aX_eq (R : Fin 8192) (j : Fin 2048) : (aX m c (ix2 R j) : EReal) = (m ((c.tc : Thread nD τ).loc main_arg0) : FVec Ideal S8192x2048 .f32) (ix2 R j) := by
  unfold aX
  show V m c main_v1 _ = _
  unfold V
  after_reads_at

end

/-! ### The reference -/

theorem ref_at (P : FVec Ideal S8192x3072 .f32) (X : FVec Ideal S8192x2048 .f32) (i : Fin 3072) (j : Fin 2048) :
    (Host.dotGeneral Cert.Reference4Ideal.dot_S8192x3072_S8192x2048_S3072x2048_0_0_1_1_n_n none P X (ix2 i j) : EReal)
      = ∑ R : Fin 8192, (P (ix2 R i) : EReal) * X (ix2 R j) := by
  pointwise

/-- The reference's result, without its two transpositions. -/
theorem ref_eq (Y : FVec Ideal S3072x2048 .f32) (h1 : S3072x2048.Transposes [1, 0] S2048x3072) (h2 : S2048x3072.Transposes [1, 0] S3072x2048)
    (h3 : FTy.bits .bf16 < FTy.bits .f32) (i : Fin 3072) (j : Fin 2048) :
    (truncf (F := Ideal) .bf16 (transpose S3072x2048 [1, 0] (transpose S2048x3072 [1, 0] Y h1) h2) h3 (ix2 i j) : EReal) = Y (ix2 i j) := by
  pointwise

end Cert.Kernel4Ideal.Dw

namespace Cert.Proof

open Cert.Kernel4Ideal.Dw in
theorem values4 : Cert.algebraic_Kernel4Ideal_Reference4Ideal := by
  intro m g m' g' _ hagree
  refine ⟨Cert.Kernel4Ideal.Value.G2 m, Cert.Kernel4Ideal.Value.run m g, ?_⟩
  refine (θ_run _ _ _).mono (fun r h c => ⟨(h c).1.trans ?_, (h c).2⟩) (Cert.Reference4Ideal.Value.run (F := Ideal) m' g')
  funext k
  obtain ⟨i, j, rfl⟩ : ∃ (i : Fin 3072) (j : Fin 2048), k = ix2 i j := ⟨k 0, k 1, eq_ix2 k⟩
  refine (ref_eq _ _ _ _ i j).trans ((ref_at _ _ i j).trans (Eq.trans ?_ (array m c i j).symm))
  refine Finset.sum_congr rfl fun R _ => ?_
  rw [aP_eq, aX_eq, (hagree c).2.2, (hagree c).1]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Results
public import proofs.«01_k».proof.Proof.Bw2
public import proofs.«01_k».proof.Proof.Dw3
public import proofs.«01_k».proof.Proof.Dw4
public import Idealize.ShloMosaic.Adequacy
public import Idealize.ShloMosaic.Init

@[expose] public section

noncomputable section

namespace Cert.Proof

open Idealize.ShloMosaic Idealize.SL.Sem

open Cert.ReferenceIdeal.Value in
/-- The reference's run, each buffer at what the operations leave in it. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ (d : Dev Cert.ReferenceIdeal.nD) (b : Ref Cert.ReferenceIdeal.sig .tc), r.2.mem ((d.tc : Thread Cert.ReferenceIdeal.nD Cert.ReferenceIdeal.τ).loc b)
        = Cert.ReferenceIdeal.Fox.UD (fun b => m (d, b)) (Proc.devRef .tc b) :=
  (θ_run _ _ _).mono (fun r h d b => (h d b).trans (congrFun (Cert.ReferenceIdeal.Fox.whole _) _))
    (StableHlo.run_seq scopedRefs_eq scopedSems_eq Cert.ReferenceIdeal.defs Cert.ReferenceIdeal.main (fun _ => ops) main_eq (fun _ => ops_sub) m g)

theorem reference_frame : Cert.quiescent_ReferenceIdeal := fun m g _ =>
  (θ_run _ _ _).mono (fun r h => ⟨fun c => (h c).2.2.2.2.2, Idealize.ShloMosaic.sem_eq_zero_of_no_sems (by decide) r.2⟩)
    (Cert.ReferenceIdeal.Value.run (F := Ideal) m g)

theorem reference2_frame : Cert.quiescent_Reference2Ideal := fun m g _ =>
  (θ_run _ _ _).mono (fun r h => ⟨fun c => (h c).2, Idealize.ShloMosaic.sem_eq_zero_of_no_sems (by decide) r.2⟩)
    (Cert.Reference2Ideal.Value.run (F := Ideal) m g)

theorem reference3_frame : Cert.quiescent_Reference3Ideal := fun m g _ =>
  (θ_run _ _ _).mono (fun r h => ⟨fun c => (h c).2, Idealize.ShloMosaic.sem_eq_zero_of_no_sems (by decide) r.2⟩)
    (Cert.Reference3Ideal.Value.run (F := Ideal) m g)

theorem reference4_frame : Cert.quiescent_Reference4Ideal := fun m g _ =>
  (θ_run _ _ _).mono (fun r h => ⟨fun c => (h c).2, Idealize.ShloMosaic.sem_eq_zero_of_no_sems (by decide) r.2⟩)
    (Cert.Reference4Ideal.Value.run (F := Ideal) m g)

theorem values : Cert.algebraic_KernelIdeal_ReferenceIdeal_pre_finite := by
  intro m g m' g' H hagree
  have S : ∀ c, Cert.KernelIdeal.Fox.Same m c (fun b => m' (c, b)) := hagree
  refine ⟨Cert.KernelIdeal.Value.G6 m, Cert.KernelIdeal.Value.G7 m, Cert.KernelIdeal.Value.G8 m, Cert.KernelIdeal.Value.G9 m, Cert.KernelIdeal.Value.G10 m,
    Cert.KernelIdeal.Value.run m g, ?_⟩
  refine (θ_run _ _ _).mono (fun r h c => ?_) (θ_run_and (reference_run m' g') (Cert.ReferenceIdeal.Value.run (F := Ideal) m' g'))
  obtain ⟨q, k, v, o, f, Z⟩ := Cert.KernelIdeal.Fox.reals m c H
  exact ⟨(h.1 c _).trans (Cert.KernelIdeal.Fox.dq_all (S c) Z).symm, (h.1 c _).trans (Cert.KernelIdeal.Fox.dk_all (S c) Z).symm,
    (h.1 c _).trans (Cert.KernelIdeal.Fox.dv_all (S c) Z).symm, (h.1 c _).trans (Cert.KernelIdeal.Fox.df_all (S c) Z).symm,
    (h.1 c _).trans (Cert.KernelIdeal.Fox.rs_all (S c) Z).symm, (h.2 c).2.2.2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    trivial, values, trivial, values2, trivial, values3, trivial, values4⟩

end Cert.Proof

end
